-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v43_0)) (v1 : (c : Dev Cert.Kernel3Ideal.nD) → Buf (Elt Ideal) ((c.tc : Thread Cert.Kernel3Ideal.nD Cert.Kernel3Ideal.τ).loc Cert.Kernel3Ideal.main_v43_1)) (v2 : (c : Dev Cert.Kernel3Ideal.nD) → Buf (Elt Ideal) ((c.tc : Thread Cert.Kernel3Ideal.nD Cert.Kernel3Ideal.τ).loc Cert.Kernel3Ideal.main_v43_2)) (v3 : (c : Dev Cert.Kernel3Ideal.nD) → Buf (Elt Ideal) ((c.tc : Thread Cert.Kernel3Ideal.nD Cert.Kernel3Ideal.τ).loc Cert.Kernel3Ideal.main_v43_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43_0) = v0 c
          ∧ r.2.mem ((c.tc : Thread Cert.Kernel3Ideal.nD Cert.Kernel3Ideal.τ).loc Cert.Kernel3Ideal.main_v43_1) = v1 c
          ∧ r.2.mem ((c.tc : Thread Cert.Kernel3Ideal.nD Cert.Kernel3Ideal.τ).loc Cert.Kernel3Ideal.main_v43_2) = v2 c
          ∧ r.2.mem ((c.tc : Thread Cert.Kernel3Ideal.nD Cert.Kernel3Ideal.τ).loc Cert.Kernel3Ideal.main_v43_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v88) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S1x128 : Shape := ⟨2, ![1, 128]⟩
abbrev S_ : Shape := ⟨0, ![]⟩

class Facts : Prop where
  bcast_S_S8x2048x4x2x64 : S_.BroadcastsInDim S8x2048x4x2x64 (![] : Fin 0 → Fin S8x2048x4x2x64.rank)
  reducesTo_S8x2048x4x2x64_S_d0_1_2_3_4 : S8x2048x4x2x64.ReducesTo [0, 1, 2, 3, 4] S_
  h_S_ : 0 < S_.numel
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8x2048x4x2x64 .f32) (main_arg1 : FVec F S8x2048x4x2x64 .f32) (main_arg2 : FVec F S8x2048x4x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x2048x4x2x64 .f32 := Host.absf main_arg0
  let main_cst : FVec F S_ .f32 := constant S_ .f32 0x7F800000#32
  let main_v1 : FVec F S8x2048x4x2x64 .f32 := broadcastInDim S8x2048x4x2x64 ![] bcast_S_S8x2048x4x2x64 main_cst
  let main_v2 : IVec S8x2048x4x2x64 1 := cmpf .olt main_v0 main_v1
  let main_c : IVec S_ 1 := constantI S_ 1 1#1
  let main_v3 : IVec S_ 1 := (fun x v => Host.reduce IntOp.andi x v reducesTo_S8x2048x4x2x64_S_d0_1_2_3_4 h_S_) main_v2 main_c
  let main_v4 : FVec F S8x2048x4x2x64 .f32 := Host.absf main_arg1
  let main_cst_0 : FVec F S_ .f32 := constant S_ .f32 0x7F800000#32
  let main_v5 : FVec F S8x2048x4x2x64 .f32 := broadcastInDim S8x2048x4x2x64 ![] bcast_S_S8x2048x4x2x64 main_cst_0
  let main_v6 : IVec S8x2048x4x2x64 1 := cmpf .olt main_v4 main_v5
  let main_c_1 : IVec S_ 1 := constantI S_ 1 1#1
  let main_v7 : IVec S_ 1 := (fun x v => Host.reduce IntOp.andi x v reducesTo_S8x2048x4x2x64_S_d0_1_2_3_4 h_S_) main_v6 main_c_1
  let main_v8 : IVec S_ 1 := andi main_v3 main_v7
  let main_v9 : FVec F S8x2048x4x128 .f32 := Host.absf main_arg2
  let main_cst_2 : FVec F S_ .f32 := constant S_ .f32 0x7F800000#32
  let main_v10 : FVec F S8x2048x4x128 .f32 := broadcastInDim S8x2048x4x128 ![] bcast_S_S8x2048x4x128 main_cst_2
  let main_v11 : IVec S8x2048x4x128 1 := cmpf .olt main_v9 main_v10
  let main_c_3 : IVec S_ 1 := constantI S_ 1 1#1
  let main_v12 : IVec S_ 1 := (fun x v => Host.reduce IntOp.andi x v reducesTo_S8x2048x4x128_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Pre_tables.lean ====
abbrev S160 : Shape := ⟨1, ![160]⟩
abbrev S1 : Shape := ⟨1, ![1]⟩
abbrev S81920x1024 : Shape := ⟨2, ![81920, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)

variable [Facts]

def fn {F : FTy → Type} [FloatOps F] (main_arg0 : IVec S160 32) (main_arg1 : IVec S1 32) (main_arg2 : FVec F S81920x1024 .f32) (main_arg3 : FVec F S1x32x1024x2048 .f32) (main_arg4 : FVec F S1x32x2048 .f32) (main_arg5 : FVec F S1x32x1024x1024 .f32) (main_arg6 : FVec F S1x32x1024 .f32) : IVec S160 1 × IVec S1 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Kernel.lean ====
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S1x128 : Shape := ⟨2, ![1, 128]⟩
abbrev S_ : Shape := ⟨0, ![]⟩
abbrev S8x2048x512 : Shape := ⟨3, ![8, 2048, 512]⟩
abbrev S64 : Shape := ⟨1, ![64]⟩
abbrev S128 : Shape := ⟨1, ![128]⟩
abbrev S1x2048x128 : Shape := ⟨3, ![1, 2048, 128]⟩
abbrev S1 : Shape := ⟨1, ![1]⟩
abbrev S1x1 : Shape := ⟨2, ![1, 1]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S512x1024 : Shape := ⟨2, ![512, 1024]⟩
abbrev S1x1536x128 : Shape := ⟨3, ![1, 1536, 128]⟩
abbrev S1536x128 : Shape := ⟨2, ![1536, 128]⟩
abbrev S512x1536 : Shape := ⟨2, ![512, 1536]⟩
abbrev S2048x128 : Shape := ⟨2, ![2048, 128]⟩
abbrev S512x2048 : Shape := ⟨2, ![512, 2048]⟩

abbrev nBuf : Space → Nat
  | .hbm => 28
  | .vmem => 13
  | .smem => 0
  | _ => 0

abbrev bufTy : (tb : Table) → Fin (tcTables nBuf tb) → BufTy
  | .hbm, ⟨0, _⟩ => ⟨S8x2048x4x2x64, .f32⟩
  | .hbm, ⟨1, _⟩ => ⟨S8x2048x4x2x64, .f32⟩
  | .hbm, ⟨2, _⟩ => ⟨S8x2048x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S8x2048x4x2x64, .f32⟩
  | .hbm, ⟨10, _⟩ => ⟨S8x2048x4x2x64, .f32⟩
  | .hbm, ⟨11, _⟩ => ⟨S8x2048x4x2x64, .bf16⟩
  | .hbm, ⟨12, _⟩ => ⟨S8x2048x4x2x64, .bf16⟩
  | .hbm, ⟨13, _⟩ => ⟨S8x2048x4x128, .bf16⟩
  | .hbm, ⟨14, _⟩ => ⟨S8x2048x512, .bf16⟩
  | .hbm, ⟨15, _⟩ => ⟨S8x2048x512, .bf16⟩
  | .hbm, ⟨16, _⟩ => ⟨S8x2048x512, .bf16⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S128, .f32⟩
  | .hbm, ⟨26, _⟩ => ⟨S1x128, .f32⟩
  | .hbm, ⟨27, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x2048x128, .bf16⟩
  | .local _ .vmem, ⟨12, _⟩ => ⟨S1x2048x128, .bf16⟩
  | _, _ => ⟨S8x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S2048 : Shape := ⟨1, ![2048]⟩
abbrev S8x4x2x2048x2048 : Shape := ⟨5, ![8, 4, 2, 2048, 2048]⟩
abbrev S1x2048 : Shape := ⟨2, ![1, 2048]⟩
abbrev S2048x1 : Shape := ⟨2, ![2048, 1]⟩
abbrev S2048x2048 : Shape := ⟨2, ![2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x2048x512 : Shape := ⟨3, ![8, 2048, 512]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x4x2x64, .f32⟩
  | .hbm, ⟨1, _⟩ => ⟨S8x2048x4x2x64, .f32⟩
  | .hbm, ⟨2, _⟩ => ⟨S8x2048x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .i32⟩
  | .hbm, ⟨24, _⟩ => ⟨S8x4x2x2048x2048, .f32⟩
  | .hbm, ⟨25, _⟩ => ⟨S_, .f32⟩
  | .hbm, ⟨26, _⟩ => ⟨S8x4x2x2048x2048, .f32⟩
  | .hbm, ⟨27, _⟩ => ⟨S8x4x2x2048x2048, .f32⟩
  | .hbm, ⟨28, _⟩ => ⟨S1x2048, .i32⟩
  | .hbm, ⟨29, _⟩ => ⟨S2048x1, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S_, .f32⟩
  | .hbm, ⟨35, _⟩ => ⟨S8x4x2x2048x2048, .i1⟩
  | .hbm, ⟨36, _⟩ => ⟨S8x4x2x2048x2048, .f32⟩
  | .hbm, ⟨37, _⟩ => ⟨S8x4x2x2048x2048, .f32⟩
  | .hbm, ⟨38, _⟩ => ⟨S_, .f32⟩
  | .hbm, ⟨39, _⟩ => ⟨S8x4x2x2048, .f32⟩
  | .hbm, ⟨40, _⟩ => ⟨S_, .f32⟩
  | .hbm, ⟨41, _⟩ => ⟨S8x4x2x2048, .f32⟩
  | .hbm, ⟨42, _⟩ => ⟨S8x4x2x2048, .f32⟩
  | .hbm, ⟨43, _⟩ => ⟨S8x4x2x2048x1, .f32⟩
  | .hbm, ⟨44, _⟩ => ⟨S8x4x2x2048x2048, .f32⟩
  | .hbm, ⟨45, _⟩ => ⟨S8x4x2x2048x2048, .f32⟩
  | .hbm, ⟨46, _⟩ => ⟨S8x4x2x2048x2048, .f32⟩
  | .hbm, ⟨47, _⟩ => ⟨S_, .f32⟩
  | .hbm, ⟨48, _⟩ => ⟨S8x4x2x2048, .f32⟩
  | .hbm, ⟨49, _⟩ => ⟨S8x4x2x2048x1, .f32⟩
  | .hbm, ⟨50, _⟩ => ⟨S8x4x2x2048x2048, .f32⟩
  | .hbm, ⟨51, _⟩ => ⟨S8x4x2x2048x2048, .f32⟩
  | .hbm, ⟨52, _⟩ => ⟨S8x4x1x2048x2048, .f32⟩
  | .hbm, ⟨53, _⟩ => ⟨S8x4x2048x2048, .f32⟩
  | .hbm, ⟨54, _⟩ => ⟨S8x4x1x2048x2048, .f32⟩
  | .hbm, ⟨55, _⟩ => ⟨S8x4x2048x2048, .f32⟩
  | .hbm, ⟨56, _⟩ => ⟨S8x4x2048x2048, .f32⟩
  | .hbm, ⟨57, _⟩ => ⟨S8x4x2048x2048, .f32⟩
  | .hbm, ⟨58, _⟩ => ⟨S8x4x2048x2048, .f32⟩
  | .hbm, ⟨59, _⟩ => ⟨S8x4x128x2048, .f32⟩
  | .hbm, ⟨60, _⟩ => ⟨S8x2048x4x128, .f32⟩
  | .hbm, ⟨61, _⟩ => ⟨S128, .f32⟩
  | .hbm, ⟨62, _⟩ => ⟨S8x2048x4x128, .f32⟩
  | .hbm, ⟨63, _⟩ => ⟨S_, .f32⟩
  | .hbm, ⟨64, _⟩ => ⟨S8x2048x4, .f32⟩
  | .hbm, ⟨65, _⟩ => ⟨S8x2048x4x1, .f32⟩
  | .hbm, ⟨66, _⟩ => ⟨S_, .f32⟩
  | .hbm, ⟨67, _⟩ => ⟨S8x2048x4x1, .f32⟩
  | .hbm, ⟨68, _⟩ => ⟨S8x2048x4x1, .f32⟩
  | .hbm, ⟨69, _⟩ => ⟨S_, .f32⟩
  | .hbm, ⟨70, _⟩ => ⟨S8x2048x4x1, .f32⟩
  | .hbm, ⟨71, _⟩ => ⟨S8x2048x4x1, .f32⟩
  | .hbm, ⟨72, _⟩ => ⟨S8x2048x4x1, .f32⟩
  | .hbm, ⟨73, _⟩ => ⟨S8x2048x4x128, .f32⟩
  | .hbm, ⟨74, _⟩ => ⟨S8x2048x4x128, .f32⟩
  | .hbm, ⟨75, _⟩ => ⟨S1x1x1x128, .f32⟩
  | .hbm, ⟨76, _⟩ => ⟨S8x2048x4x128, .f32⟩
  | .hbm, ⟨77, _⟩ => ⟨S8x2048x4x128, .f32⟩
  | .hbm, ⟨78, _⟩ => ⟨S_, .f32⟩
  | .hbm, ⟨79, _⟩ => ⟨S8x2048x4x128, .f32⟩
  | .hbm, ⟨80, _⟩ => ⟨S8x2048x4x128, .f32⟩
  | .hbm, ⟨81, _⟩ => ⟨S8x2048x512, .f32⟩
  | .hbm, ⟨82, _⟩ => ⟨S8x2048x512, .bf16⟩
  | _, _ => ⟨S8x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S81920x1024 : Shape := ⟨2, ![81920, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x2x512x1024 : Shape := ⟨4, ![32, 2, 512, 1024]⟩
abbrev S32x512x2x1024 : Shape := ⟨4, ![32, 512, 2, 1024]⟩
abbrev S32x1024 : Shape := ⟨2, ![32, 1024]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1x128 : Shape := ⟨2, ![1, 128]⟩
abbrev S512x128 : Shape := ⟨2, ![512, 128]⟩
abbrev S1024x1024 : Shape := ⟨2, ![1024, 1024]⟩
abbrev S1x1024 : Shape := ⟨2, ![1, 1024]⟩

abbrev nBuf : Space → Nat
  | .hbm => 17
  | .vmem => 12
  | .smem => 2
  | _ => 0

abbrev bufTy : (tb : Table) → Fin (tcTables nBuf tb) → BufTy
  | .hbm, ⟨0, _⟩ => ⟨S81920x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x1024x2048, .bf16⟩
  | .hbm, ⟨7, _⟩ => ⟨S32x2048, .f32⟩
  | .hbm, ⟨8, _⟩ => ⟨S32x1x2048, .f32⟩
  | .hbm, ⟨9, _⟩ => ⟨S32x1024x1024, .f32⟩
  | .hbm, ⟨10, _⟩ => ⟨S32x2x512x1024, .f32⟩
  | .hbm, ⟨11, _⟩ => ⟨S32x512x2x1024, .f32⟩
  | .hbm, ⟨12, _⟩ => ⟨S32x1024x1024, .f32⟩
  | .hbm, ⟨13, _⟩ => ⟨S32x1024x1024, .bf16⟩
  | .hbm, ⟨14, _⟩ => ⟨S32x1024, .f32⟩
  | .hbm, ⟨15, _⟩ => ⟨S32x1x1024, .f32⟩
  | .hbm, ⟨16, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .smem, ⟨0, _⟩ => ⟨S160, .i32⟩
  | .local _ .smem, ⟨1, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S160 : Shape := ⟨1, ![160]⟩
abbrev S1 : Shape := ⟨1, ![1]⟩
abbrev S81920x1024 : Shape := ⟨2, ![81920, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S160x512x1024 : Shape := ⟨3, ![160, 512, 1024]⟩
abbrev S32x1024x2048 : Shape := ⟨3, ![32, 1024, 2048]⟩
abbrev S160x1 : Shape := ⟨2, ![160, 1]⟩
abbrev S160x1024x2048 : Shape := ⟨3, ![160, 1024, 2048]⟩
abbrev S160x512x2048 : Shape := ⟨3, ![160, 512, 2048]⟩
abbrev S32x2048 : Shape := ⟨2, ![32, 2048]⟩
abbrev S160x2048 : Shape := ⟨2, ![160, 2048]⟩
abbrev S160x1x2048 : Shape := ⟨3, ![160, 1, 2048]⟩
abbrev S_ : Shape := ⟨0, ![]⟩
abbrev S32x1024x1024 : Shape := ⟨3, ![32, 1024, 1024]⟩
abbrev S160x1024x1024 : Shape := ⟨3, ![160, 1024, 1024]⟩
abbrev S32x1024 : Shape := ⟨2, ![32, 1024]⟩
abbrev S160x1024 : Shape := ⟨2, ![160, 1024]⟩
abbrev S160x1x1024 : Shape := ⟨3, ![160, 1, 1024]⟩
abbrev S160x1x1 : Shape := ⟨3, ![160, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x1024, .f32⟩
  | .hbm, ⟨3, _⟩ => ⟨S1x32x1024x2048, .f32⟩
  | .hbm, ⟨4, _⟩ => ⟨S1x32x2048, .f32⟩
  | .hbm, ⟨5, _⟩ => ⟨S1x32x1024x1024, .f32⟩
  | .hbm, ⟨6, _⟩ => ⟨S1x32x1024, .f32⟩
  | .hbm, ⟨7, _⟩ => ⟨S160x512x1024, .f32⟩
  | .hbm, ⟨8, _⟩ => ⟨S32x1024x2048, .f32⟩
  | .hbm, ⟨9, _⟩ => ⟨S160x1, .i32⟩
  | .hbm, ⟨10, _⟩ => ⟨S160x1024x2048, .f32⟩
  | .hbm, ⟨11, _⟩ => ⟨S160x512x2048, .f32⟩
  | .hbm, ⟨12, _⟩ => ⟨S32x2048, .f32⟩
  | .hbm, ⟨13, _⟩ => ⟨S160x1, .i32⟩
  | .hbm, ⟨14, _⟩ => ⟨S160x2048, .f32⟩
  | .hbm, ⟨15, _⟩ => ⟨S160x1x2048, .f32⟩
  | .hbm, ⟨16, _⟩ => ⟨S160x512x2048, .f32⟩
  | .hbm, ⟨17, _⟩ => ⟨S160x512x2048, .f32⟩
  | .hbm, ⟨18, _⟩ => ⟨S160x512x1024, .f32⟩
  | .hbm, ⟨19, _⟩ => ⟨S_, .f32⟩
  | .hbm, ⟨20, _⟩ => ⟨S160x512x1024, .f32⟩
  | .hbm, ⟨21, _⟩ => ⟨S160x512x1024, .f32⟩
  | .hbm, ⟨22, _⟩ => ⟨S160x512x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S160x512x1024, .f32⟩
  | .hbm, ⟨27, _⟩ => ⟨S160x512x1024, .f32⟩
  | .hbm, ⟨28, _⟩ => ⟨S_, .f32⟩
  | .hbm, ⟨29, _⟩ => ⟨S160x512x1024, .f32⟩
  | .hbm, ⟨30, _⟩ => ⟨S160x512x1024, .f32⟩
  | .hbm, ⟨31, _⟩ => ⟨S_, .f32⟩
  | .hbm, ⟨32, _⟩ => ⟨S160x512x1024, .f32⟩
  | .hbm, ⟨33, _⟩ => ⟨S160x512x1024, .f32⟩
  | .hbm, ⟨34, _⟩ => ⟨S160x512x1024, .f32⟩
  | .hbm, ⟨35, _⟩ => ⟨S160x512x1024, .f32⟩
  | .hbm, ⟨36, _⟩ => ⟨S_, .f32⟩
  | .hbm, ⟨37, _⟩ => ⟨S160x512x1024, .f32⟩
  | .hbm, ⟨38, _⟩ => ⟨S160x512x1024, .f32⟩
  | .hbm, ⟨39, _⟩ => ⟨S_, .f32⟩
  | .hbm, ⟨40, _⟩ => ⟨S160x512x1024, .f32⟩
  | .hbm, ⟨41, _⟩ => ⟨S160x512x1024, .f32⟩
  | .hbm, ⟨42, _⟩ => ⟨S160x512x1024, .f32⟩
  | .hbm, ⟨43, _⟩ => ⟨S_, .f32⟩
  | .hbm, ⟨44, _⟩ => ⟨S160x512x1024, .f32⟩
  | .hbm, ⟨45, _⟩ => ⟨S160x512x1024, .f32⟩
  | .hbm, ⟨46, _⟩ => ⟨S160x512x1024, .f32⟩
  | .hbm, ⟨47, _⟩ => ⟨S32x1024x1024, .f32⟩
  | .hbm, ⟨48, _⟩ => ⟨S160x1, .i32⟩
  | .hbm, ⟨49, _⟩ => ⟨S160x1024x1024, .f32⟩
  | .hbm, ⟨50, _⟩ => ⟨S160x512x1024, .f32⟩
  | .hbm, ⟨51, _⟩ => ⟨S32x1024, .f32⟩
  | .hbm, ⟨52, _⟩ => ⟨S160x1, .i32⟩
  | .hbm, ⟨53, _⟩ => ⟨S160x1024, .f32⟩
  | .hbm, ⟨54, _⟩ => ⟨S160x1x1024, .f32⟩
  | .hbm, ⟨55, _⟩ => ⟨S160x512x1024, .f32⟩
  | .hbm, ⟨56, _⟩ => ⟨S160x512x1024, .f32⟩
  | .hbm, ⟨57, _⟩ => ⟨S160, .i32⟩
  | .hbm, ⟨58, _⟩ => ⟨S_, .i32⟩
  | .hbm, ⟨59, _⟩ => ⟨S160, .i32⟩
  | .hbm, ⟨60, _⟩ => ⟨S160, .i1⟩
  | .hbm, ⟨61, _⟩ => ⟨S160x1x1, .i1⟩
  | .hbm, ⟨62, _⟩ => ⟨S_, .f32⟩
  | .hbm, ⟨63, _⟩ => ⟨S_, .f32⟩
  | .hbm, ⟨64, _⟩ => ⟨S160x512x1024, .i1⟩
  | .hbm, ⟨65, _⟩ => ⟨S160x512x1024, .f32⟩
  | .hbm, ⟨66, _⟩ => ⟨S160x512x1024, .f32⟩
  | .hbm, ⟨67, _⟩ => ⟨S81920x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call3_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call4_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048 : Shape := ⟨2, ![8, 2048]⟩
abbrev S1x1024 : Shape := ⟨2, ![1, 1024]⟩
abbrev S1x1024x3232 : Shape := ⟨3, ![1, 1024, 3232]⟩
abbrev S1x128 : Shape := ⟨2, ![1, 128]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S1x16384x16x8 : Shape := ⟨4, ![1, 16384, 16, 8]⟩
abbrev S16384x128 : Shape := ⟨2, ![16384, 128]⟩
abbrev S16384x1024 : Shape := ⟨2, ![16384, 1024]⟩
abbrev S1024x3232 : Shape := ⟨2, ![1024, 3232]⟩
abbrev S1024x1536 : Shape := ⟨2, ![1024, 1536]⟩
abbrev S1024x32 : Shape := ⟨2, ![1024, 32]⟩
abbrev S1024x96 : Shape := ⟨2, ![1024, 96]⟩
abbrev S1024x1920 : Shape := ⟨2, ![1024, 1920]⟩
abbrev S1024 : Shape := ⟨1, ![1024]⟩
abbrev S16384x512 : Shape := ⟨2, ![16384, 512]⟩
abbrev S16384x1920 : Shape := ⟨2, ![16384, 1920]⟩
abbrev S512x1024 : Shape := ⟨2, ![512, 1024]⟩
abbrev S512x128 : Shape := ⟨2, ![512, 128]⟩
abbrev S512x512 : Shape := ⟨2, ![512, 512]⟩
abbrev S512x1920 : Shape := ⟨2, ![512, 1920]⟩
abbrev S512 : Shape := ⟨1, ![512]⟩
abbrev S512x1 : Shape := ⟨2, ![512, 1]⟩
abbrev S512x1536 : Shape := ⟨2, ![512, 1536]⟩

abbrev nBuf : Space → Nat
  | .hbm => 73
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1x1024x3232, .f32⟩
  | .hbm, ⟨4, _⟩ => ⟨S1x128, .i1⟩
  | .hbm, ⟨5, _⟩ => ⟨S1x128, .i1⟩
  | .hbm, ⟨6, _⟩ => ⟨S1x128, .i1⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8x2048, .f32⟩
  | .hbm, ⟨22, _⟩ => ⟨S16384x1, .f32⟩
  | .hbm, ⟨23, _⟩ => ⟨S1x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S1x16384x1x8, .f32⟩
  | .hbm, ⟨29, _⟩ => ⟨S1x16384x16x8, .f32⟩
  | .hbm, ⟨30, _⟩ => ⟨S16384x128, .f32⟩
  | .hbm, ⟨31, _⟩ => ⟨S16384x8, .f32⟩
  | .hbm, ⟨32, _⟩ => ⟨S1x16384x1x8, .f32⟩
  | .hbm, ⟨33, _⟩ => ⟨S1x16384x16x8, .f32⟩
  | .hbm, ⟨34, _⟩ => ⟨S16384x128, .f32⟩
  | .hbm, ⟨35, _⟩ => ⟨S_, .f32⟩
  | .hbm, ⟨36, _⟩ => ⟨S_, .f32⟩
  | .hbm, ⟨37, _⟩ => ⟨S16384x128, .i1⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S_, .f32⟩
  | .hbm, ⟨42, _⟩ => ⟨S_, .f32⟩
  | .hbm, ⟨43, _⟩ => ⟨S16384x128, .i1⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S_, .f32⟩
  | .hbm, ⟨48, _⟩ => ⟨S16384x128, .i1⟩
  | .hbm, ⟨49, _⟩ => ⟨S16384x128, .f32⟩
  | .hbm, ⟨50, _⟩ => ⟨S16384x128, .f32⟩
  | .hbm, ⟨51, _⟩ => ⟨S16384x1024, .f32⟩
  | .hbm, ⟨52, _⟩ => ⟨S1024x3232, .f32⟩
  | .hbm, ⟨53, _⟩ => ⟨S1024x1536, .f32⟩
  | .hbm, ⟨54, _⟩ => ⟨S1024x1536, .bf16⟩
  | .hbm, ⟨55, _⟩ => ⟨S1024x1536, .f32⟩
  | .hbm, ⟨56, _⟩ => ⟨S1024x32, .f32⟩
  | .hbm, ⟨57, _⟩ => ⟨S_, .f32⟩
  | .hbm, ⟨58, _⟩ => ⟨S1024x96, .f32⟩
  | .hbm, ⟨59, _⟩ => ⟨S1024x32, .f32⟩
  | .hbm, ⟨60, _⟩ => ⟨S_, .f32⟩
  | .hbm, ⟨61, _⟩ => ⟨S1024x96, .f32⟩
  | .hbm, ⟨62, _⟩ => ⟨S1024x96, .f32⟩
  | .hbm, ⟨63, _⟩ => ⟨S_, .f32⟩
  | .hbm, ⟨64, _⟩ => ⟨S1024x32, .f32⟩
  | .hbm, ⟨65, _⟩ => ⟨S1024x1920, .f32⟩
  | .hbm, ⟨66, _⟩ => ⟨S1024x1920, .bf16⟩
  | .hbm, ⟨67, _⟩ => ⟨S1024, .f32⟩
  | .hbm, ⟨68, _⟩ => ⟨S1x1024, .f32⟩
  | .hbm, ⟨69, _⟩ => ⟨S16384x512, .bf16⟩
  | .hbm, ⟨70, _⟩ => ⟨S16384x512, .bf16⟩
  | .hbm, ⟨71, _⟩ => ⟨S16384x512, .bf16⟩
  | .hbm, ⟨72, _⟩ => ⟨S16384x1920, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1920, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x1920, .f32⟩
  | .local _ .vmem, ⟨18, _⟩ => ⟨S512x1920, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_cst_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v26 : Ref sig .tc := ⟨.hbm, 45, rfl⟩
abbrev main_cst_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_v43_2 : Ref sig .tc := ⟨.hbm, 71, rfl⟩
abbrev main_v43_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1920 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x2048x1024 : Shape := ⟨3, ![8, 2048, 1024]⟩
abbrev S8x2048 : Shape := ⟨2, ![8, 2048]⟩
abbrev S1x1024 : Shape := ⟨2, ![1, 1024]⟩
abbrev S1x1024x3232 : Shape := ⟨3, ![1, 1024, 3232]⟩
abbrev S8 : Shape := ⟨1, ![8]⟩
abbrev S_ : Shape := ⟨0, ![]⟩
abbrev S8x2048x1 : Shape := ⟨3, ![8, 2048, 1]⟩
abbrev S1x1x8 : Shape := ⟨3, ![1, 1, 8]⟩
abbrev S8x2048x8 : Shape := ⟨3, ![8, 2048, 8]⟩
abbrev S1024 : Shape := ⟨1, ![1024]⟩
abbrev S1x1x1024 : Shape := ⟨3, ![1, 1, 1024]⟩
abbrev S1024x3232 : Shape := ⟨2, ![1024, 3232]⟩
abbrev S8x2048x3232 : Shape := ⟨3, ![8, 2048, 3232]⟩
abbrev S8x2048x512 : Shape := ⟨3, ![8, 2048, 512]⟩
abbrev S8x2048x4x2x64 : Shape := ⟨5, ![8, 2048, 4, 2, 64]⟩
abbrev S8x2048x1x1x8 : Shape := ⟨5, ![8, 2048, 1, 1, 8]⟩
abbrev S8x2048x4x2x8 : Shape := ⟨5, ![8, 2048, 4, 2, 8]⟩
abbrev S8x2048x4x2x48 : Shape := ⟨5, ![8, 2048, 4, 2, 48]⟩
abbrev S8x2048x1696 : Shape := ⟨3, ![8, 2048, 1696]⟩
abbrev S8x2048x1536 : Shape := ⟨3, ![8, 2048, 1536]⟩
abbrev S8x2048x32 : Shape := ⟨3, ![8, 2048, 32]⟩
abbrev S8x2048x128 : Shape := ⟨3, ![8, 2048, 128]⟩
abbrev S8x2048x96 : Shape := ⟨3, ![8, 2048, 96]⟩
abbrev S8x2048x1920 : Shape := ⟨3, ![8, 2048, 1920]⟩
abbrev S16384x512 : Shape := ⟨2, ![16384, 512]⟩
abbrev S16384x1920 : Shape := ⟨2, ![16384, 1920]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1x1024x3232, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8x2048, .f32⟩
  | .hbm, ⟨19, _⟩ => ⟨S8x2048x1, .f32⟩
  | .hbm, ⟨20, _⟩ => ⟨S1x1x8, .f32⟩
  | .hbm, ⟨21, _⟩ => ⟨S8x2048x8, .f32⟩
  | .hbm, ⟨22, _⟩ => ⟨S8x2048x8, .f32⟩
  | .hbm, ⟨23, _⟩ => ⟨S8x2048x8, .f32⟩
  | .hbm, ⟨24, _⟩ => ⟨S8x2048x8, .f32⟩
  | .hbm, ⟨25, _⟩ => ⟨S8x2048x8, .f32⟩
  | .hbm, ⟨26, _⟩ => ⟨S1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S1024x3232, .f32⟩
  | .hbm, ⟨44, _⟩ => ⟨S8x2048x3232, .f32⟩
  | .hbm, ⟨45, _⟩ => ⟨S8x2048x512, .f32⟩
  | .hbm, ⟨46, _⟩ => ⟨S8x2048x4x2x64, .f32⟩
  | .hbm, ⟨47, _⟩ => ⟨S8x2048x512, .f32⟩
  | .hbm, ⟨48, _⟩ => ⟨S8x2048x4x2x64, .f32⟩
  | .hbm, ⟨49, _⟩ => ⟨S8x2048x512, .f32⟩
  | .hbm, ⟨50, _⟩ => ⟨S8x2048x1x1x8, .f32⟩
  | .hbm, ⟨51, _⟩ => ⟨S8x2048x1x1x8, .f32⟩
  | .hbm, ⟨52, _⟩ => ⟨S8x2048x4x2x8, .f32⟩
  | .hbm, ⟨53, _⟩ => ⟨S8x2048x4x2x8, .f32⟩
  | .hbm, ⟨54, _⟩ => ⟨S8x2048x4x2x8, .f32⟩
  | .hbm, ⟨55, _⟩ => ⟨S8x2048x4x2x8, .f32⟩
  | .hbm, ⟨56, _⟩ => ⟨S8x2048x4x2x8, .f32⟩
  | .hbm, ⟨57, _⟩ => ⟨S8x2048x4x2x8, .f32⟩
  | .hbm, ⟨58, _⟩ => ⟨S8x2048x4x2x8, .f32⟩
  | .hbm, ⟨59, _⟩ => ⟨S8x2048x4x2x8, .f32⟩
  | .hbm, ⟨60, _⟩ => ⟨S8x2048x4x2x8, .f32⟩
  | .hbm, ⟨61, _⟩ => ⟨S8x2048x4x2x8, .f32⟩
  | .hbm, ⟨62, _⟩ => ⟨S8x2048x4x2x8, .f32⟩
  | .hbm, ⟨63, _⟩ => ⟨S8x2048x4x2x8, .f32⟩
  | .hbm, ⟨64, _⟩ => ⟨S8x2048x4x2x48, .f32⟩
  | .hbm, ⟨65, _⟩ => ⟨S8x2048x4x2x64, .f32⟩
  | .hbm, ⟨66, _⟩ => ⟨S_, .f32⟩
  | .hbm, ⟨67, _⟩ => ⟨S8x2048x4x2x64, .f32⟩
  | .hbm, ⟨68, _⟩ => ⟨S8x2048x4x2x64, .f32⟩
  | .hbm, ⟨69, _⟩ => ⟨S8x2048x1x1x8, .f32⟩
  | .hbm, ⟨70, _⟩ => ⟨S8x2048x1x1x8, .f32⟩
  | .hbm, ⟨71, _⟩ => ⟨S8x2048x4x2x8, .f32⟩
  | .hbm, ⟨72, _⟩ => ⟨S8x2048x4x2x8, .f32⟩
  | .hbm, ⟨73, _⟩ => ⟨S8x2048x4x2x8, .f32⟩
  | .hbm, ⟨74, _⟩ => ⟨S8x2048x4x2x8, .f32⟩
  | .hbm, ⟨75, _⟩ => ⟨S8x2048x4x2x8, .f32⟩
  | .hbm, ⟨76, _⟩ => ⟨S8x2048x4x2x8, .f32⟩
  | .hbm, ⟨77, _⟩ => ⟨S8x2048x4x2x8, .f32⟩
  | .hbm, ⟨78, _⟩ => ⟨S8x2048x4x2x8, .f32⟩
  | .hbm, ⟨79, _⟩ => ⟨S8x2048x4x2x8, .f32⟩
  | .hbm, ⟨80, _⟩ => ⟨S8x2048x4x2x8, .f32⟩
  | .hbm, ⟨81, _⟩ => ⟨S8x2048x4x2x8, .f32⟩
  | .hbm, ⟨82, _⟩ => ⟨S8x2048x4x2x8, .f32⟩
  | .hbm, ⟨83, _⟩ => ⟨S8x2048x4x2x48, .f32⟩
  | .hbm, ⟨84, _⟩ => ⟨S8x2048x4x2x64, .f32⟩
  | .hbm, ⟨85, _⟩ => ⟨S8x2048x1696, .f32⟩
  | .hbm, ⟨86, _⟩ => ⟨S8x2048x1536, .f32⟩
  | .hbm, ⟨87, _⟩ => ⟨S8x2048x32, .f32⟩
  | .hbm, ⟨88, _⟩ => ⟨S_, .i32⟩
  | .hbm, ⟨89, _⟩ => ⟨S_, .f32⟩
  | .hbm, ⟨90, _⟩ => ⟨S8x2048x128, .f32⟩
  | .hbm, ⟨91, _⟩ => ⟨S8x2048x32, .f32⟩
  | .hbm, ⟨92, _⟩ => ⟨S_, .i32⟩
  | .hbm, ⟨93, _⟩ => ⟨S_, .f32⟩
  | .hbm, ⟨94, _⟩ => ⟨S8x2048x128, .f32⟩
  | .hbm, ⟨95, _⟩ => ⟨S8x2048x96, .f32⟩
  | .hbm, ⟨96, _⟩ => ⟨S_, .i32⟩
  | .hbm, ⟨97, _⟩ => ⟨S_, .f32⟩
  | .hbm, ⟨98, _⟩ => ⟨S8x2048x128, .f32⟩
  | .hbm, ⟨99, _⟩ => ⟨S8x2048x1920, .f32⟩
  | .hbm, ⟨100, _⟩ => ⟨S16384x512, .f32⟩
  | .hbm, ⟨101, _⟩ => ⟨S16384x512, .bf16⟩
  | .hbm, ⟨102, _⟩ => ⟨S16384x512, .f32⟩
  | .hbm, ⟨103, _⟩ => ⟨S16384x512, .bf16⟩
  | .hbm, ⟨104, _⟩ => ⟨S16384x512, .f32⟩
  | .hbm, ⟨105, _⟩ => ⟨S16384x512, .bf16⟩
  | .hbm, ⟨106, _⟩ => ⟨S16384x1920, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_c : Ref sig .tc := ⟨.hbm, 88, rfl⟩
abbrev main_call0_v0 : Ref sig .tc := ⟨.hbm, 89, rfl⟩
abbrev main_v76 : Ref sig .tc := ⟨.hbm, 90, rfl⟩
abbrev main_v77 : Ref sig .tc := ⟨.hbm, 91, rfl⟩
abbrev main_c_7 : Ref sig .tc := ⟨.hbm, 92, rfl⟩
abbrev main_call1_v0 : Ref sig .tc := ⟨.hbm, 93, rfl⟩
abbrev main_v78 : Ref sig .tc := ⟨.hbm, 94, rfl⟩
abbrev main_v79 : Ref sig .tc := ⟨.hbm, 95, rfl⟩
abbrev main_c_8 : Ref sig .tc := ⟨.hbm, 96, rfl⟩
abbrev main_call2_v0 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩

abbrev nD : Nat := 1
abbrev τ : Topo := Topo.v7x

variable {F : FTy → Type} [FloatOps F]
-- ==== Kernel4.lean ====
abbrev S16384x512 : Shape := ⟨2, ![16384, 512]⟩
abbrev S16384x1024 : Shape := ⟨2, ![16384, 1024]⟩
abbrev S1x512 : Shape := ⟨2, ![1, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024x32 : Shape := ⟨2, ![1024, 32]⟩
abbrev S1024x96 : Shape := ⟨2, ![1024, 96]⟩
abbrev S1024x128 : Shape := ⟨2, ![1024, 128]⟩
abbrev S1024x256 : Shape := ⟨2, ![1024, 256]⟩
abbrev S32 : Shape := ⟨1, ![32]⟩
abbrev S96 : Shape := ⟨1, ![96]⟩
abbrev S128 : Shape := ⟨1, ![128]⟩
abbrev S1x128 : Shape := ⟨2, ![1, 128]⟩
abbrev S1024x1024 : Shape := ⟨2, ![1024, 1024]⟩
abbrev S1024 : Shape := ⟨1, ![1024]⟩
abbrev S16384x128 : Shape := ⟨2, ![16384, 128]⟩
abbrev S512x128 : Shape := ⟨2, ![512, 128]⟩
abbrev S512x1024 : Shape := ⟨2, ![512, 1024]⟩
abbrev S16x128 : Shape := ⟨2, ![16, 128]⟩
abbrev S512x256 : Shape := ⟨2, ![512, 256]⟩
abbrev S256x128 : Shape := ⟨2, ![256, 128]⟩
abbrev S8x128 : Shape := ⟨2, ![8, 128]⟩

abbrev nBuf : Space → Nat
  | .hbm => 64
  | .vmem => 29
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .bf16⟩
  | .hbm, ⟨36, _⟩ => ⟨S1024x32, .f32⟩
  | .hbm, ⟨37, _⟩ => ⟨S_, .f32⟩
  | .hbm, ⟨38, _⟩ => ⟨S1024x96, .f32⟩
  | .hbm, ⟨39, _⟩ => ⟨S1024x128, .f32⟩
  | .hbm, ⟨40, _⟩ => ⟨S1024x128, .bf16⟩
  | .hbm, ⟨41, _⟩ => ⟨S1024x128, .f32⟩
  | .hbm, ⟨42, _⟩ => ⟨S1024x128, .f32⟩
  | .hbm, ⟨43, _⟩ => ⟨S1024x128, .bf16⟩
  | .hbm, ⟨44, _⟩ => ⟨S1024x256, .bf16⟩
  | .hbm, ⟨45, _⟩ => ⟨S32, .f32⟩
  | .hbm, ⟨46, _⟩ => ⟨S_, .f32⟩
  | .hbm, ⟨47, _⟩ => ⟨S96, .f32⟩
  | .hbm, ⟨48, _⟩ => ⟨S128, .f32⟩
  | .hbm, ⟨49, _⟩ => ⟨S1x128, .f32⟩
  | .hbm, ⟨50, _⟩ => ⟨S512, .f32⟩
  | .hbm, ⟨51, _⟩ => ⟨S1x512, .f32⟩
  | .hbm, ⟨52, _⟩ => ⟨S512, .f32⟩
  | .hbm, ⟨53, _⟩ => ⟨S1x512, .f32⟩
  | .hbm, ⟨54, _⟩ => ⟨S1024x1024, .f32⟩
  | .hbm, ⟨55, _⟩ => ⟨S1024x1024, .bf16⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .bf16⟩
  | .hbm, ⟨60, _⟩ => ⟨S16384x128, .f32⟩
  | .hbm, ⟨61, _⟩ => ⟨S16384x128, .i32⟩
  | .hbm, ⟨62, _⟩ => ⟨S16384x128, .f32⟩
  | .hbm, ⟨63, _⟩ => ⟨S512x128, .i32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1x128, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S512x128, .i32⟩
  | .local _ .vmem, ⟨24, _⟩ => ⟨S512x128, .i32⟩
  | .local _ .vmem, ⟨25, _⟩ => ⟨S512x128, .f32⟩
  | .local _ .vmem, ⟨26, _⟩ => ⟨S512x128, .f32⟩
  | .local _ .vmem, ⟨27, _⟩ => ⟨S16x128, .i32⟩
  | .local _ .vmem, ⟨28, _⟩ => ⟨S16x128, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v28_2 : Ref sig .tc := ⟨.hbm, 60, rfl⟩
abbrev main_v28_3 : Ref sig .tc := ⟨.hbm, 61, rfl⟩
abbrev main_v28_4 : Ref sig .tc := ⟨.hbm, 62, rfl⟩
abbrev main_v28_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S16384x512 : Shape := ⟨2, ![16384, 512]⟩
abbrev S16384x1024 : Shape := ⟨2, ![16384, 1024]⟩
abbrev S1x512 : Shape := ⟨2, ![1, 512]⟩
abbrev S1x1024x1024 : Shape := ⟨3, ![1, 1024, 1024]⟩
abbrev S1x1024 : Shape := ⟨2, ![1, 1024]⟩
abbrev S1x1024x32 : Shape := ⟨3, ![1, 1024, 32]⟩
abbrev S1x32 : Shape := ⟨2, ![1, 32]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S512 : Shape := ⟨1, ![512]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S1x512, .f32⟩
  | .hbm, ⟨6, _⟩ => ⟨S1x512, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S16384x8x64, .f32⟩
  | .hbm, ⟨12, _⟩ => ⟨S_, .f32⟩
  | .hbm, ⟨13, _⟩ => ⟨S16384x8, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x64, .f32⟩
  | .hbm, ⟨19, _⟩ => ⟨S16384x8x64, .f32⟩
  | .hbm, ⟨20, _⟩ => ⟨S16384x8x64, .f32⟩
  | .hbm, ⟨21, _⟩ => ⟨S16384x8x64, .f32⟩
  | .hbm, ⟨22, _⟩ => ⟨S16384x8x64, .f32⟩
  | .hbm, ⟨23, _⟩ => ⟨S_, .f32⟩
  | .hbm, ⟨24, _⟩ => ⟨S16384x8, .f32⟩
  | .hbm, ⟨25, _⟩ => ⟨S16384x8x1, .f32⟩
  | .hbm, ⟨26, _⟩ => ⟨S_, .f32⟩
  | .hbm, ⟨27, _⟩ => ⟨S16384x8x1, .f32⟩
  | .hbm, ⟨28, _⟩ => ⟨S16384x8x1, .f32⟩
  | .hbm, ⟨29, _⟩ => ⟨S16384x8x64, .f32⟩
  | .hbm, ⟨30, _⟩ => ⟨S16384x8x64, .f32⟩
  | .hbm, ⟨31, _⟩ => ⟨S_, .f32⟩
  | .hbm, ⟨32, _⟩ => ⟨S16384x8x1, .f32⟩
  | .hbm, ⟨33, _⟩ => ⟨S16384x8x1, .f32⟩
  | .hbm, ⟨34, _⟩ => ⟨S16384x8x1, .f32⟩
  | .hbm, ⟨35, _⟩ => ⟨S16384x8x64, .f32⟩
  | .hbm, ⟨36, _⟩ => ⟨S16384x8x64, .f32⟩
  | .hbm, ⟨37, _⟩ => ⟨S16384x512, .f32⟩
  | .hbm, ⟨38, _⟩ => ⟨S512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x1024, .f32⟩
  | .hbm, ⟨52, _⟩ => ⟨S1024x1024, .f32⟩
  | .hbm, ⟨53, _⟩ => ⟨S16384x1024, .f32⟩
  | .hbm, ⟨54, _⟩ => ⟨S16384x1024, .f32⟩
  | .hbm, ⟨55, _⟩ => ⟨S1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.MixBlocks.lean ====
module

public import proofs.«01_k».proof.Proof.Gen.Kernel4Ideal.Frame
public import Idealize.ShloMosaic.Lib.Pipeline.Value

/-! # The output projection's run, block by block -/

@[expose] public section

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 12).cut (grid0.coords t) ((dats m 0 c).after 12 t) = _
  rw [after0_12]

/-- The index map sends distinct grid points to distinct block indices (decided over the 32 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S16384x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 13).cut (grid0.coords t) ((dats m 0 c).after 13 t) = _
  rw [after0_13]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S16384x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S16384x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]

/-- The index map sends distinct grid points to distinct block indices (decided over the 32 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S16384x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 16).cut (grid0.coords t) ((dats m 0 c).after 16 t) = _
  rw [after0_16]

/-- The index map sends distinct grid points to distinct block indices (decided over the 32 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S16384x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 17).cut (grid0.coords t) ((dats m 0 c).after 17 t) = _
  rw [after0_17]

/-- The index map sends distinct grid points to distinct block indices (decided over the 32 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S512x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v28_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v28_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v28_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v28_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v28_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v28_5) = (dats m 0 c).arrAt 17 cfg0.N :=
  (h c).1 17

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v28_0) = (dats m 0 c).arrAt 12 cfg0.N
      ∧ r.2.mem ((c : Thread nD τ).loc main_v28_1) = (dats m 0 c).arrAt 13 cfg0.N
      ∧ r.2.mem ((c : Thread nD τ).loc main_v28_2) = (dats m 0 c).arrAt 14 cfg0.N
      ∧ r.2.mem ((c : Thread nD τ).loc main_v28_3) = (dats m 0 c).arrAt 15 cfg0.N
      ∧ r.2.mem ((c : Thread nD τ).loc main_v28_4) = (dats m 0 c).arrAt 16 cfg0.N
      ∧ r.2.mem ((c : Thread nD τ).loc main_v28_5) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      post14 m r h c,
      post15 m r h c,
      post16 m r h c,
      post17 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Kernel4Ideal.Value

end
-- ==== Proof.Rows.lean ====
module

public import proofs.«01_k».proof.Proof.Gen.KernelIdeal.Value
public import Idealize.ShloMosaic.Lib.Pointwise

/-! # The kernel's row operations, read at an index

One softmax map of a tile of 512 queries against `N` keys, and the normalisation of the difference of two of
them, as functions of whole blocks; then the value of each at an index. -/

@[expose] public section

noncomputable section

open scoped BigOperators

namespace Attn

open Idealize.ShloMosaic Cert.KernelIdeal

/-- The largest of a row's scores, from `-∞`. -/
def top {N : Nat} (s : Fin N → EReal) : EReal := Finset.univ.fold max ⊥ s

/-- One softmax map's value: the scores' exponentials, from the largest score down, weigh `v`. -/
def soft {N : Nat} (s v : Fin N → EReal) : EReal :=
  Ideal.div (∑ k, Ideal.exp (s k - top s) * v k) (∑ k, Ideal.exp (s k - top s))

/-- The root-mean-square normalisation of a row of 128 at column `c`, weighed by `w` and scaled by 0.8. -/
def rms (o w : Fin 128 → EReal) (c : Fin 128) : EReal :=
  o c * Ideal.rsqrt (Ideal.div (∑ d, o d * o d) (Ideal.ofBits .f32 0x43000000#32) + Ideal.ofBits .f32 0x3727C5AC#32)
    * w c * Ideal.ofBits .f32 0x3F4CCCCD#32

/-- The shape of `m` rows of `n`. -/
abbrev Sh (m n : Nat) : Shape := ⟨2, ![m, n]⟩

theorem ofBits_neg_inf : Ideal.ofBits .f32 0xFF800000#32 = ⊥ := by
  simp [Ideal.ofBits, Ideal.ieee]

theorem ofBits_bf16_zero : Ideal.ofBits .bf16 0x0000#16 = 0 := by
  simp [Ideal.ofBits, Ideal.ieee]

/-- A product of a block of rows with a block of columns, into zeros, at an index. -/
theorem plain_apply {φ₁ φ₂ : FTy} {M K N : Nat} (a : FVec Ideal (Sh M K) φ₁) (b : FVec Ideal (Sh K N) φ₂) (r : Fin M) (c : Fin N) :
    matmul (DotDims.plain M K N) none a b (constant (Sh M N) .f32 0x00000000#32) (ix2 r c)
      = ∑ k : Fin K, a (ix2 r k) * b (ix2 k c) := by
  rw [matmul, Ideal.matmul_constant_zero_apply,
    ← Equiv.sum_comp (ValueIdx.contrEquiv1 (DotDims.plain M K N) K rfl rfl).symm]
  exact Finset.sum_congr rfl fun k _ =>
    congrArg₂ (· * ·) (congrArg a (Shape.idx_ext₂ rfl rfl)) (congrArg b (Shape.idx_ext₂ rfl rfl))

/-- The same with the right operand's rows contracted. -/
theorem transposedRhs_apply {φ₁ φ₂ : FTy} {M K N : Nat} (a : FVec Ideal (Sh M K) φ₁) (b : FVec Ideal (Sh N K) φ₂) (r : Fin M)
    (c : Fin N) :
    matmul (DotDims.transposedRhs M K N) none a b (constant (Sh M N) .f32 0x00000000#32) (ix2 r c)
      = ∑ k : Fin K, a (ix2 r k) * b (ix2 c k) := by
  rw [matmul, Ideal.matmul_constant_zero_apply,
    ← Equiv.sum_comp (ValueIdx.contrEquiv1 (DotDims.transposedRhs M K N) K rfl rfl).symm]
  exact Finset.sum_congr rfl fun k _ =>
    congrArg₂ (· * ·) (congrArg a (Shape.idx_ext₂ rfl rfl)) (congrArg b (Shape.idx_ext₂ rfl rfl))

/-- The kernel's operations from the masked scores of a tile to one map's values. -/
def softBlock {N : Nat} (x : FVec Ideal (Sh 512 N) .f32) (v : FVec Ideal (Sh N 128) .bf16)
    (h1 : (Sh 512 N).Reduces [1] ⟨1, ![512]⟩) (h2 : (⟨1, ![512]⟩ : Shape).ShapeCasts (Sh 512 1))
    (h3 : (Sh 512 1).Broadcasts (Sh 512 N)) (h4 : (Sh 512 1).Broadcasts (Sh 512 128)) : FVec Ideal (Sh 512 128) .f32 :=
  have m : FVec Ideal ⟨1, ![512]⟩ .f32 := multiReduction .maximumf [1] _ x 0xFF800000#32 h1 (.inl rfl) rfl
  have p : FVec Ideal (Sh 512 N) .f32 := exp (subf x (broadcastTo (Sh 512 N) (shapeCast (Sh 512 1) m h2) h3))
  have o : FVec Ideal (Sh 512 128) .f32 :=
    matmul (DotDims.plain 512 N 128) none (truncf .bf16 p (by decide)) v (constant (Sh 512 128) .f32 0x00000000#32)
  have l : FVec Ideal ⟨1, ![512]⟩ .f32 := multiReduction .add [1] _ p 0x00000000#32 h1 (.inl rfl) rfl
  divf o (broadcastTo (Sh 512 128) (shapeCast (Sh 512 1) l h2) h4)

/-- One map's value at row `r`, column `c`. -/
theorem softBlock_apply {N : Nat} (x : FVec Ideal (Sh 512 N) .f32) (v : FVec Ideal (Sh N 128) .bf16)
    (h1 : (Sh 512 N).Reduces [1] ⟨1, ![512]⟩) (h2 : (⟨1, ![512]⟩ : Shape).ShapeCasts (Sh 512 1))
    (h3 : (Sh 512 1).Broadcasts (Sh 512 N)) (h4 : (Sh 512 1).Broadcasts (Sh 512 128)) (r : Fin 512) (c : Fin 128) :
    softBlock x v h1 h2 h3 h4 (ix2 r c) = soft (fun k => x (ix2 r k)) (fun k => v (ix2 k c)) := by
  unfold softBlock
  rw [ValueIdx.divf_apply, plain_apply]
  pointwise [soft, top]
  simp only [ofBits_neg_inf]

/-- The kernel's operations from two maps' values to a tile's result. -/
def normBlock (o0 o1 : FVec Ideal (Sh 512 128) .f32) (lam : FVec Ideal (Sh 1 1) .f32) (w : FVec Ideal (Sh 1 128) .f32)
    (h1 : (Sh 1 1).Broadcasts (Sh 512 128)) (h2 : (Sh 512 128).Reduces [1] ⟨1, ![512]⟩)
    (h3 : (⟨1, ![512]⟩ : Shape).ShapeCasts (Sh 512 1)) (h4 : (Sh 512 1).Broadcasts (Sh 512 128))
    (h5 : (Sh 1 128).ShapeCasts (Sh 1 128)) (h6 : (Sh 1 128).Broadcasts (Sh 512 128))
    (h7 : (Sh 512 128).ShapeCasts ⟨3, ![1, 512, 128]⟩) : FVec Ideal ⟨3, ![1, 512, 128]⟩ .bf16 :=
  have o : FVec Ideal (Sh 512 128) .f32 := subf o0 (mulf (broadcastTo (Sh 512 128) lam h1) o1)
  have ms : FVec Ideal ⟨1, ![512]⟩ .f32 := multiReduction .add [1] _ (mulf o o) 0x00000000#32 h2 (.inl rfl) rfl
  have c1 : Ideal .f32 := Scalar.ofBits .f32 0x43000000#32
  have c2 : Ideal .f32 := Scalar.ofBits .f32 0x3727C5AC#32
  have c3 : Ideal .f32 := Scalar.ofBits .f32 0x3F4CCCCD#32
  have rs : FVec Ideal (Sh 512 1) .f32 :=
    rsqrt (addf (divf (shapeCast (Sh 512 1) ms h3) (broadcast (Sh 512 1) c1)) (broadcast (Sh 512 1) c2))
  have y : FVec Ideal (Sh 512 128) .f32 := mulf o (broadcastTo (Sh 512 128) rs h4)
  have z : FVec Ideal (Sh 512 128) .f32 := mulf (mulf y (broadcastTo (Sh 512 128) (shapeCast (Sh 1 128) w h5) h6)) (broadcast (Sh 512 128) c3)
  shapeCast ⟨3, ![1, 512, 128]⟩ (truncf .bf16 z (by decide)) h7

/-- A tile's result at row `r`, column `c`. -/
theorem normBlock_apply (o0 o1 : FVec Ideal (Sh 512 128) .f32) (lam : FVec Ideal (Sh 1 1) .f32) (w : FVec Ideal (Sh 1 128) .f32)
    (h1 : (Sh 1 1).Broadcasts (Sh 512 128)) (h2 : (Sh 512 128).Reduces [1] ⟨1, ![512]⟩)
    (h3 : (⟨1, ![512]⟩ : Shape).ShapeCasts (Sh 512 1)) (h4 : (Sh 512 1).Broadcasts (Sh 512 128))
    (h5 : (Sh 1 128).ShapeCasts (Sh 1 128)) (h6 : (Sh 1 128).Broadcasts (Sh 512 128))
    (h7 : (Sh 512 128).ShapeCasts ⟨3, ![1, 512, 128]⟩) (r : Fin 512) (c : Fin 128) :
    normBlock o0 o1 lam w h1 h2 h3 h4 h5 h6 h7 (ix3 0 r c)
      = rms (fun d => o0 (ix2 r d) - lam (ix2 0 0) * o1 (ix2 r d)) (fun d => w (ix2 0 d)) c := by
  pointwise [normBlock, rms]
  try rfl

end Attn
-- ==== Proof.Tiles.lean ====
module

public import proofs.«01_k».proof.Proof.Rows
public import Idealize.ShloMosaic.Lib.WordCmp

/-! # The kernel's four tiles of queries, read at an index

A tile's scores against the keys up to its last row, the mask on the last 512 of them, and the four stores' payloads
as one function of the tile's number. -/

@[expose] public section

noncomputable section

open scoped BigOperators

namespace Attn

open Idealize.ShloMosaic Cert.KernelIdeal Cert.KernelIdeal.Gen

/-- A head's block of `n` rows. -/
abbrev Blk (n : Nat) : Shape := ⟨3, ![1, n, 128]⟩

/-- The score of a query row against a key row by the first half of the lanes. -/
def score0 (q k : Fin 128 → EReal) : EReal := ∑ l : Fin 128, (if l.val < 64 then q l else 0) * k l

/-- The score by the second half of the lanes. -/
def score1 (q k : Fin 128 → EReal) : EReal := ∑ l : Fin 128, (if l.val < 64 then 0 else q l) * k l

/-- Scores masked to the keys up to position `p`. -/
def upTo {N : Nat} (p : Nat) (s : Fin N → EReal) (k : Fin N) : EReal := if k.val ≤ p then s k else ⊥

/-- The lanes of the first map, as the kernel tests them. -/
theorem lane_apply (l : Fin 128) : k0_pay2 (ix2 (0 : Fin 1) l) = BitVec.ofBool (decide (l.val < 64)) := by
  have h := l.isLt
  pointwise [k0_pay2]
  exact WordCmp.cmpi_slt_ofNat (w := 32) (a := l.val) (b := 64) (by omega) (by omega)

/-- The causal mask of a tile's last 512 keys. -/
theorem keep_apply (r k : Fin 512) : k0_pay4 (ix2 r k) = BitVec.ofBool (decide (k.val ≤ r.val)) := by
  have h := r.isLt
  have h' := k.isLt
  pointwise [k0_pay4]
  exact WordCmp.cmpi_sle_ofNat (w := 32) (a := k.val) (b := r.val) (by omega) (by omega)

theorem select_ofBool {α : Type} (p : Prop) [Decidable p] (a b : α) :
    Scalar.select (BitVec.ofBool (decide p)) a b = if p then a else b := by
  by_cases h : p <;> simp [h, Scalar.select]

/-- The kernel's selection of one map's lanes. -/
def lanes (a b : FVec Ideal (Sh 512 128) .bf16) (h1 : (Sh 1 128).ShapeCasts (Sh 1 128)) (h2 : (Sh 1 128).Broadcasts (Sh 512 128)) :
    FVec Ideal (Sh 512 128) .bf16 :=
  select (broadcastTo (Sh 512 128) (shapeCast (Sh 1 128) k0_pay2 h1) h2) a b

theorem lanes_apply (a b : FVec Ideal (Sh 512 128) .bf16) (h1 : (Sh 1 128).ShapeCasts (Sh 1 128))
    (h2 : (Sh 1 128).Broadcasts (Sh 512 128)) (r : Fin 512) (l : Fin 128) :
    lanes a b h1 h2 (ix2 r l) = if l.val < 64 then a (ix2 r l) else b (ix2 r l) := by
  pointwise [lanes]
  rw [lane_apply]
  exact select_ofBool _ _ _

/-- The zero block the other map's lanes are replaced by. -/
def zeros : FVec Ideal (Sh 512 128) .bf16 := broadcast (Sh 512 128) (Scalar.ofBits .bf16 0x0000#16)

theorem zeros_apply (i : (Sh 512 128).Idx) : zeros i = 0 := ofBits_bf16_zero

/-- The mask's value. -/
theorem mask_bot : (Named.named (F := Ideal) κ "mask" (φ := .f32) 0xF149F2CA#32) = (⊥ : EReal) := rfl

/-- The mask of a tile whose last 512 keys are its own rows. -/
def maskBlock {M N : Nat} (x : FVec Ideal (Sh 512 N) .f32) (h1 : (Sh 512 N).Slices ![0, M] (Sh 512 512))
    (h2 : (Sh 512 N).Slices ![0, 0] (Sh 512 M)) (h3 : Shape.Concatenates [Sh 512 M, Sh 512 512] (Sh 512 N) 1) :
    FVec Ideal (Sh 512 N) .f32 :=
  have x1 : FVec Ideal (Sh 512 512) .f32 := extractStridedSlice (Sh 512 512) ![0, M] x h1
  have c : Ideal .f32 := Named.named κ "mask" 0xF149F2CA#32
  have y : FVec Ideal (Sh 512 512) .f32 := select k0_pay4 x1 (broadcast (Sh 512 512) c)
  have x0 : FVec Ideal (Sh 512 M) .f32 := extractStridedSlice (Sh 512 M) ![0, 0] x h2
  concatenate (Sh 512 N) 1 [⟨Sh 512 M, x0⟩, ⟨Sh 512 512, y⟩] h3

theorem maskBlock_apply {M N : Nat} (hN : N = M + 512) (x : FVec Ideal (Sh 512 N) .f32) (h1 : (Sh 512 N).Slices ![0, M] (Sh 512 512))
    (h2 : (Sh 512 N).Slices ![0, 0] (Sh 512 M)) (h3 : Shape.Concatenates [Sh 512 M, Sh 512 512] (Sh 512 N) 1)
    (r : Fin 512) (k : Fin N) :
    maskBlock x h1 h2 h3 (ix2 r k) = upTo (M + r.val) (fun k => x (ix2 r k)) k := by
  have hk := k.isLt
  have hr := r.isLt
  unfold maskBlock upTo
  by_cases h : k.val < M
  · rw [if_pos (by omega)]
    refine (concatenate_pair_apply_left (s₁ := Sh 512 M) (s₂ := Sh 512 512) (t := Sh 512 N) 1 _ _ h3 (ix2 r k) rfl (ix2 r ⟨k.val, h⟩) ?_).trans ?_
    · intro b
      match b with
      | ⟨0, _⟩ => rfl
      | ⟨1, _⟩ => rfl
    · refine extractStridedSlice_apply _ _ h2 _ (ix2 r k) fun a => ?_
      match a with
      | ⟨0, _⟩ => exact (Nat.zero_add _).symm
      | ⟨1, _⟩ => exact (Nat.zero_add _).symm
  · have hlt : k.val - M < 512 := by omega
    refine (concatenate_pair_apply_right (s₁ := Sh 512 M) (s₂ := Sh 512 512) (t := Sh 512 N) 1 _ _ h3 (ix2 r k) rfl rfl (ix2 r ⟨k.val - M, hlt⟩) ?_ ?_).trans ?_
    · intro b hb
      match b with
      | ⟨0, _⟩ => rfl
      | ⟨1, _⟩ => exact absurd rfl hb
    · show k.val - M + M = k.val
      omega
    · rw [ValueIdx.select_apply, keep_apply, select_ofBool, ValueIdx.broadcast_apply, mask_bot]
      have e : extractStridedSlice (Sh 512 512) ![0, M] x h1 (ix2 r ⟨k.val - M, hlt⟩) = x (ix2 r k) := by
        refine extractStridedSlice_apply _ _ h1 _ (ix2 r k) fun a => ?_
        match a with
        | ⟨0, _⟩ => exact (Nat.zero_add _).symm
        | ⟨1, _⟩ => show k.val = M + (k.val - M); omega
      rw [e]
      exact if_congr (by show k.val - M ≤ r.val ↔ _; omega) rfl rfl

/-- The mask of the first tile. -/
def maskFirst (x : FVec Ideal (Sh 512 512) .f32) : FVec Ideal (Sh 512 512) .f32 :=
  have c : Ideal .f32 := Named.named κ "mask" 0xF149F2CA#32
  select k0_pay4 x (broadcast (Sh 512 512) c)

theorem maskFirst_apply (x : FVec Ideal (Sh 512 512) .f32) (r k : Fin 512) :
    maskFirst x (ix2 r k) = upTo (0 + r.val) (fun k => x (ix2 r k)) k := by
  unfold maskFirst upTo
  rw [ValueIdx.select_apply, keep_apply, select_ofBool, ValueIdx.broadcast_apply, mask_bot, Nat.zero_add]

/-- A tile's scores for the first map … -/
def scores0 {N : Nat} (q : FVec Ideal (Blk 512) .bf16) (k : FVec Ideal (Blk N) .bf16) (h1 : (Sh 1 128).ShapeCasts (Sh 1 128))
    (h2 : (Sh 1 128).Broadcasts (Sh 512 128)) (h3 : (Blk 512).ShapeCasts (Sh 512 128)) (h4 : (Blk N).ShapeCasts (Sh N 128)) :
    FVec Ideal (Sh 512 N) .f32 :=
  matmul (DotDims.transposedRhs 512 128 N) none (lanes (shapeCast (Sh 512 128) q h3) zeros h1 h2) (shapeCast (Sh N 128) k h4)
    (constant (Sh 512 N) .f32 0x00000000#32)

/-- … and for the second. -/
def scores1 {N : Nat} (q : FVec Ideal (Blk 512) .bf16) (k : FVec Ideal (Blk N) .bf16) (h1 : (Sh 1 128).ShapeCasts (Sh 1 128))
    (h2 : (Sh 1 128).Broadcasts (Sh 512 128)) (h3 : (Blk 512).ShapeCasts (Sh 512 128)) (h4 : (Blk N).ShapeCasts (Sh N 128)) :
    FVec Ideal (Sh 512 N) .f32 :=
  matmul (DotDims.transposedRhs 512 128 N) none (lanes zeros (shapeCast (Sh 512 128) q h3) h1 h2) (shapeCast (Sh N 128) k h4)
    (constant (Sh 512 N) .f32 0x00000000#32)

theorem dropUnit_apply {φ : FTy} {N : Nat} (k : FVec Ideal (Blk N) φ) (h : (Blk N).ShapeCasts (Sh N 128)) (r : Fin N) (l : Fin 128) :
    shapeCast (Sh N 128) k h (ix2 r l) = k (ix3 0 r l) := by
  rw [shapeCast_dropUnit_apply]
  congr 1
  funext a
  match a with
  | ⟨0, _⟩ => rfl
  | ⟨1, _⟩ => rfl
  | ⟨2, _⟩ => rfl

theorem scores0_apply {N : Nat} (q : FVec Ideal (Blk 512) .bf16) (k : FVec Ideal (Blk N) .bf16) (h1 : (Sh 1 128).ShapeCasts (Sh 1 128))
    (h2 : (Sh 1 128).Broadcasts (Sh 512 128)) (h3 : (Blk 512).ShapeCasts (Sh 512 128)) (h4 : (Blk N).ShapeCasts (Sh N 128))
    (r : Fin 512) (n : Fin N) :
    scores0 q k h1 h2 h3 h4 (ix2 r n) = score0 (fun l => q (ix3 0 r l)) (fun l => k (ix3 0 n l)) := by
  unfold scores0 score0
  rw [transposedRhs_apply]
  refine Finset.sum_congr rfl fun l _ => ?_
  rw [lanes_apply, dropUnit_apply, dropUnit_apply, zeros_apply]

theorem scores1_apply {N : Nat} (q : FVec Ideal (Blk 512) .bf16) (k : FVec Ideal (Blk N) .bf16) (h1 : (Sh 1 128).ShapeCasts (Sh 1 128))
    (h2 : (Sh 1 128).Broadcasts (Sh 512 128)) (h3 : (Blk 512).ShapeCasts (Sh 512 128)) (h4 : (Blk N).ShapeCasts (Sh N 128))
    (r : Fin 512) (n : Fin N) :
    scores1 q k h1 h2 h3 h4 (ix2 r n) = score1 (fun l => q (ix3 0 r l)) (fun l => k (ix3 0 n l)) := by
  unfold scores1 score1
  rw [transposedRhs_apply]
  refine Finset.sum_congr rfl fun l _ => ?_
  rw [lanes_apply, dropUnit_apply, dropUnit_apply, zeros_apply]

/-- The value of the attention of one query row at position `p` against `N` keys, at column `c`. -/
def attnRow {N : Nat} (p : Nat) (q : Fin 128 → EReal) (k v : Fin N → Fin 128 → EReal) (lam : EReal) (w : Fin 128 → EReal)
    (c : Fin 128) : EReal :=
  rms (fun d => soft (upTo p fun n => score0 q (k n)) (fun n => v n d)
    - lam * soft (upTo p fun n => score1 q (k n)) (fun n => v n d)) w c

/-- The second, third and fourth tiles' payloads, read. -/
theorem tile_apply {M N : Nat} (hN : N = M + 512) (q : FVec Ideal (Blk 512) .bf16) (k v : FVec Ideal (Blk N) .bf16)
    (lam : FVec Ideal (Sh 1 1) .f32) (w : FVec Ideal (Sh 1 128) .f32) (a1 a2 a3 a4 b1 b2 b3 c1 c2 c3 c4 d1 d2 d3 d4 d5 d6 d7)
    (r : Fin 512) (c : Fin 128) :
    normBlock (softBlock (maskBlock (M := M) (scores0 q k a1 a2 a3 a4) b1 b2 b3) (shapeCast (Sh N 128) v a4) c1 c2 c3 c4)
        (softBlock (maskBlock (M := M) (scores1 q k a1 a2 a3 a4) b1 b2 b3) (shapeCast (Sh N 128) v a4) c1 c2 c3 c4)
        lam w d1 d2 d3 d4 d5 d6 d7 (ix3 0 r c)
      = attnRow (M + r.val) (fun l => q (ix3 0 r l)) (fun n l => k (ix3 0 n l)) (fun n l => v (ix3 0 n l)) (lam (ix2 0 0))
          (fun l => w (ix2 0 l)) c := by
  rw [normBlock_apply]
  unfold attnRow
  refine congrArg (fun o => rms o (fun l => w (ix2 0 l)) c) (funext fun d => ?_)
  rw [softBlock_apply, softBlock_apply]
  simp only [maskBlock_apply hN, scores0_apply, scores1_apply, dropUnit_apply]

/-- The first tile's. -/
theorem tileFirst_apply (q : FVec Ideal (Blk 512) .bf16) (k v : FVec Ideal (Blk 512) .bf16)
    (lam : FVec Ideal (Sh 1 1) .f32) (w : FVec Ideal (Sh 1 128) .f32) (a1 a2 a3 a4 c1 c2 c3 c4 d1 d2 d3 d4 d5 d6 d7)
    (r : Fin 512) (c : Fin 128) :
    normBlock (softBlock (maskFirst (scores0 q k a1 a2 a3 a4)) (shapeCast (Sh 512 128) v a4) c1 c2 c3 c4)
        (softBlock (maskFirst (scores1 q k a1 a2 a3 a4)) (shapeCast (Sh 512 128) v a4) c1 c2 c3 c4)
        lam w d1 d2 d3 d4 d5 d6 d7 (ix3 0 r c)
      = attnRow (0 + r.val) (fun l => q (ix3 0 r l)) (fun n l => k (ix3 0 n l)) (fun n l => v (ix3 0 n l)) (lam (ix2 0 0))
          (fun l => w (ix2 0 l)) c := by
  rw [normBlock_apply]
  unfold attnRow
  refine congrArg (fun o => rms o (fun l => w (ix2 0 l)) c) (funext fun d => ?_)
  rw [softBlock_apply, softBlock_apply]
  simp only [maskFirst_apply, scores0_apply, scores1_apply, dropUnit_apply]

section Payloads
variable (lam : FVec Ideal S1x1 .f32) (q : Vec Ideal S1x512x128 .bf16) (w : Vec Ideal S1x128 .f32)

/-- The four stores' payloads at an index. -/
theorem pay_tile0 (k v : Vec Ideal S1x512x128 .bf16) (r : Fin 512) (c : Fin 128) :
    k0_pay13 (k0_pay11 lam k0_pay4 (k0_pay5 q) (k0_pay6 (F := Ideal)) (k0_pay7 k) (k0_pay8 v) (k0_pay9 q) k0_pay10) (k0_pay12 w) (ix3 0 r c)
      = attnRow (0 + r.val) (fun l => q (ix3 0 r l)) (fun n l => k (ix3 0 n l)) (fun n l => v (ix3 0 n l)) (lam (ix2 0 0))
          (fun l => w (ix2 0 l)) c :=
  tileFirst_apply q k v lam w shapeCasts_S1x128_S1x128 broadcasts_S1x128_S512x128 shapeCasts_S1x512x128_S512x128
    shapeCasts_S1x512x128_S512x128 reduces_S512x512_S512 shapeCasts_S512_S512x1 broadcasts_S512x1_S512x512 broadcasts_S512x1_S512x128
    broadcasts_S1x1_S512x128 reduces_S512x128_S512 shapeCasts_S512_S512x1 broadcasts_S512x1_S512x128 shapeCasts_S1x128_S1x128
    broadcasts_S1x128_S512x128 shapeCasts_S512x128_S1x512x128 r c

theorem pay_tile1 (k v : Vec Ideal S1x1024x128 .bf16) (r : Fin 512) (c : Fin 128) :
    k0_pay20 lam k0_pay4 (k0_pay17 v) (k0_pay18 k0_pay2 k0_pay4 q k v) (k0_pay19 k0_pay2 q k) w (ix3 0 r c)
      = attnRow (512 + r.val) (fun l => q (ix3 0 r l)) (fun n l => k (ix3 0 n l)) (fun n l => v (ix3 0 n l)) (lam (ix2 0 0))
          (fun l => w (ix2 0 l)) c :=
  tile_apply (M := 512) (N := 1024) rfl q k v lam w shapeCasts_S1x128_S1x128 broadcasts_S1x128_S512x128 shapeCasts_S1x512x128_S512x128
    shapeCasts_S1x1024x128_S1024x128 slices_S512x1024_o0_512_S512x512 slices_S512x1024_o0_0_S512x512
    concatenates_S512x512_S512x512_S512x1024_d1
    reduces_S512x1024_S512 shapeCasts_S512_S512x1 broadcasts_S512x1_S512x1024 broadcasts_S512x1_S512x128
    broadcasts_S1x1_S512x128 reduces_S512x128_S512 shapeCasts_S512_S512x1 broadcasts_S512x1_S512x128 shapeCasts_S1x128_S1x128
    broadcasts_S1x128_S512x128 shapeCasts_S512x128_S1x512x128 r c

theorem pay_tile2 (k v : Vec Ideal S1x1536x128 .bf16) (r : Fin 512) (c : Fin 128) :
    k0_pay27 lam (k0_pay25 k0_pay2 k0_pay4 (k0_pay21 q) (k0_pay22 (F := Ideal)) k v) (k0_pay26 k0_pay2 k0_pay4 (k0_pay21 q) (k0_pay22 (F := Ideal)) k v) w (ix3 0 r c)
      = attnRow (1024 + r.val) (fun l => q (ix3 0 r l)) (fun n l => k (ix3 0 n l)) (fun n l => v (ix3 0 n l)) (lam (ix2 0 0))
          (fun l => w (ix2 0 l)) c :=
  tile_apply (M := 1024) (N := 1536) rfl q k v lam w shapeCasts_S1x128_S1x128 broadcasts_S1x128_S512x128 shapeCasts_S1x512x128_S512x128
    shapeCasts_S1x1536x128_S1536x128 slices_S512x1536_o0_1024_S512x512 slices_S512x1536_o0_0_S512x1024
    concatenates_S512x1024_S512x512_S512x1536_d1
    reduces_S512x1536_S512 shapeCasts_S512_S512x1 broadcasts_S512x1_S512x1536 broadcasts_S512x1_S512x128
    broadcasts_S1x1_S512x128 reduces_S512x128_S512 shapeCasts_S512_S512x1 broadcasts_S512x1_S512x128 shapeCasts_S1x128_S1x128
    broadcasts_S1x128_S512x128 shapeCasts_S512x128_S1x512x128 r c

theorem pay_tile3 (k v : Vec Ideal S1x2048x128 .bf16) (r : Fin 512) (c : Fin 128) :
    k0_pay1 (k0_pay35 lam k0_pay4 (k0_pay30 k) (k0_pay31 v) (k0_pay32 k0_pay2 q) (k0_pay33 k0_pay2 q k) (k0_pay34 k0_pay2 q k)
        (Named.named κ "mask" 0xF149F2CA#32)) (k0_pay36 w) (ix3 0 r c)
      = attnRow (1536 + r.val) (fun l => q (ix3 0 r l)) (fun n l => k (ix3 0 n l)) (fun n l => v (ix3 0 n l)) (lam (ix2 0 0))
          (fun l => w (ix2 0 l)) c :=
  tile_apply (M := 1536) (N := 2048) rfl q k v lam w shapeCasts_S1x128_S1x128 broadcasts_S1x128_S512x128 shapeCasts_S1x512x128_S512x128
    shapeCasts_S1x2048x128_S2048x128 slices_S512x2048_o0_1536_S512x512 slices_S512x2048_o0_0_S512x1536
    concatenates_S512x1536_S512x512_S512x2048_d1
    reduces_S512x2048_S512 shapeCasts_S512_S512x1 broadcasts_S512x1_S512x2048 broadcasts_S512x1_S512x128
    broadcasts_S1x1_S512x128 reduces_S512x128_S512 shapeCasts_S512_S512x1 broadcasts_S512x1_S512x128 shapeCasts_S1x128_S1x128
    broadcasts_S1x128_S512x128 shapeCasts_S512x128_S1x512x128 r c

end Payloads

end Attn
-- ==== Proof.Out.lean ====
module

public import proofs.«01_k».proof.Proof.Tiles

/-! # What one grid point writes, read at an index

The four tiles together: row `p` of the block is the attention of query `p` against all 2048 keys of the head, for a
key past a tile's last row is masked and weighs nothing. -/

@[expose] public section

noncomputable section

open scoped BigOperators

namespace Attn

open Idealize.ShloMosaic Cert.KernelIdeal Cert.KernelIdeal.Gen

theorem top_eq_sup {N : Nat} (s : Fin N → EReal) : top s = Finset.univ.sup s := rfl

/-- Masked scores past the first `N` do not change the largest one … -/
theorem top_castAdd {N D : Nat} (s : Fin (N + D) → EReal) (h : ∀ j : Fin D, s (Fin.natAdd N j) = ⊥) :
    top s = top fun k => s (Fin.castAdd D k) := by
  rw [top_eq_sup, top_eq_sup]
  refine le_antisymm (Finset.sup_le fun k _ => ?_) (Finset.sup_le fun k _ => Finset.le_sup (f := s) (Finset.mem_univ _))
  refine Fin.addCases (fun k => ?_) (fun j => ?_) k
  · exact Finset.le_sup (f := fun k => s (Fin.castAdd D k)) (Finset.mem_univ k)
  · rw [h]; exact bot_le

theorem exp_bot_sub (x : EReal) : Ideal.exp (⊥ - x) = 0 := by
  rw [sub_eq_add_neg, EReal.bot_add]; rfl

/-- … nor the map's value. -/
theorem soft_castAdd {N D : Nat} (s v : Fin (N + D) → EReal) (h : ∀ j : Fin D, s (Fin.natAdd N j) = ⊥) :
    soft s v = soft (fun k => s (Fin.castAdd D k)) (fun k => v (Fin.castAdd D k)) := by
  unfold soft
  rw [Fin.sum_univ_add, Fin.sum_univ_add, top_castAdd s h]
  simp only [h, exp_bot_sub, zero_mul, Finset.sum_const_zero, add_zero]

/-- So a row's attention against the first `N` keys, its own position among them, is against all of them. -/
theorem attnRow_castAdd {N D : Nat} (p : Nat) (hp : p < N) (q : Fin 128 → EReal) (k v : Fin (N + D) → Fin 128 → EReal)
    (lam : EReal) (w : Fin 128 → EReal) (c : Fin 128) :
    attnRow p q (fun n => k (Fin.castAdd D n)) (fun n => v (Fin.castAdd D n)) lam w c = attnRow p q k v lam w c := by
  unfold attnRow
  refine congrArg (fun o => rms o w c) (funext fun d => ?_)
  rw [soft_castAdd (upTo p fun n => score0 q (k n)), soft_castAdd (upTo p fun n => score1 q (k n))]
  · rfl
  · intro j; exact if_neg (by simp only [Fin.val_natAdd]; omega)
  · intro j; exact if_neg (by simp only [Fin.val_natAdd]; omega)

theorem attnRow_cast {N D N' : Nat} (hN : N + D = N') (p : Nat) (hp : p < N) (q : Fin 128 → EReal) (k v : Fin N' → Fin 128 → EReal)
    (lam : EReal) (w : Fin 128 → EReal) (c : Fin 128) :
    attnRow p q (fun n => k ((Fin.castAdd D n).cast hN)) (fun n => v ((Fin.castAdd D n).cast hN)) lam w c = attnRow p q k v lam w c := by
  subst hN
  exact attnRow_castAdd p hp q k v lam w c

/-- The weight of the second map, from the four vectors. -/
def lamOf (a b c d : Fin 64 → EReal) : EReal :=
  Ideal.exp (∑ i, a i * b i) - Ideal.exp (∑ i, c i * d i) + Ideal.ofBits .f32 0x3E4CCCCD#32

theorem lam_apply (a b c d : Vec Ideal S1x64 .f32) :
    k0_pay3 a b c d (ix2 (0 : Fin 1) (0 : Fin 1))
      = lamOf (fun i => a (ix2 0 i)) (fun i => b (ix2 0 i)) (fun i => c (ix2 0 i)) (fun i => d (ix2 0 i)) := by
  pointwise [k0_pay3, lamOf]

/-- A load of `n` rows from row `o` on reads row `o + r` at `r`. -/
theorem ld_apply {n : Nat} (x : Vec Ideal S1x2048x128 .bf16) (o : Nat) (inb) (r : Fin n) (l : Fin 128) (h : o + r.val < 2048) :
    View.ld x (Rect.unit (s := S1x2048x128) ![0, o, 0] ![1, n, 128] inb) (ix3 0 r l) = x (ix3 0 ⟨o + r.val, h⟩ l) := by
  refine congrArg x (funext fun a => Fin.ext ?_)
  match a with
  | ⟨0, _⟩ => rfl
  | ⟨1, _⟩ => exact congrArg (o + ·) (Nat.one_mul _)
  | ⟨2, _⟩ => exact (Nat.zero_add _).trans (Nat.one_mul _)

theorem ld_vec {n : Nat} (x : Vec Ideal ⟨2, ![1, n]⟩ .f32) (inb) :
    View.ld x (Rect.unit (s := ⟨2, ![1, n]⟩) ![0, 0] ![1, n] inb) = x :=
  View.ld_unit_zero (S := ⟨2, ![1, n]⟩) (by funext a; match a with | ⟨0, _⟩ => rfl | ⟨1, _⟩ => rfl) _ x

section Block
variable (x0 x1 x2 : Vec Ideal S1x2048x128 .bf16) (x3 x4 x5 x6 : Vec Ideal S1x64 .f32) (x7 : Vec Ideal S1x128 .f32)

/-- The block a grid point writes. -/
def outRow (p : Fin 2048) (c : Fin 128) : EReal :=
  attnRow p.val (fun l => x0 (ix3 0 p l)) (fun n l => x1 (ix3 0 n l)) (fun n l => x2 (ix3 0 n l))
    (lamOf (fun i => x3 (ix2 0 i)) (fun i => x4 (ix2 0 i)) (fun i => x5 (ix2 0 i)) (fun i => x6 (ix2 0 i)))
    (fun l => x7 (ix2 0 l)) c

/-- A tile's rows, read against all keys. -/
theorem tile_outRow {N D : Nat} (hN : N + D = 2048) (o : Nat) (ho : o + 512 ≤ N) (inb inb') (lam : EReal)
    (hlam : lam = lamOf (fun i => x3 (ix2 0 i)) (fun i => x4 (ix2 0 i)) (fun i => x5 (ix2 0 i)) (fun i => x6 (ix2 0 i)))
    (r : Fin 512) (c : Fin 128) (h : o + r.val < 2048) :
    attnRow (o + r.val) (fun l => View.ld x0 (Rect.unit (s := S1x2048x128) ![0, o, 0] ![1, 512, 128] inb) (ix3 0 r l))
        (fun (n : Fin N) l => View.ld x1 (Rect.unit (s := S1x2048x128) ![0, 0, 0] ![1, N, 128] inb') (ix3 0 n l))
        (fun (n : Fin N) l => View.ld x2 (Rect.unit (s := S1x2048x128) ![0, 0, 0] ![1, N, 128] inb') (ix3 0 n l))
        lam (fun l => x7 (ix2 0 l)) c
      = outRow x0 x1 x2 x3 x4 x5 x6 x7 ⟨o + r.val, h⟩ c := by
  have hr := r.isLt
  have hk : ∀ (x : Vec Ideal S1x2048x128 .bf16) (n : Fin N) (l : Fin 128),
      View.ld x (Rect.unit (s := S1x2048x128) ![0, 0, 0] ![1, N, 128] inb') (ix3 0 n l)
        = x (ix3 0 ((Fin.castAdd D n).cast hN) l) := fun x n l => by
    have := n.isLt
    rw [ld_apply x 0 inb' n l (by omega)]
    refine congrArg (fun m => x (ix3 0 m l)) (Fin.ext (Nat.zero_add _))
  refine (congrFun (congrFun (congrFun (congr (congrArg (attnRow (o + r.val) _) (funext fun n => funext fun l => hk x1 n l))
    (funext fun n => funext fun l => hk x2 n l)) lam) _) c).trans ?_
  rw [hlam]
  refine (attnRow_cast hN (o + r.val) (by omega) _ (fun n l => x1 (ix3 0 n l)) (fun n l => x2 (ix3 0 n l)) _ _ c).trans ?_
  unfold outRow
  exact congrArg (fun q => attnRow _ q _ _ _ _ c) (funext fun l => ld_apply x0 o inb r l h)

theorem emb_row (o : Nat) (inb) (r : Fin 512) (c : Fin 128) (h : o + r.val < 2048) :
    (Rect.unit (s := S1x2048x128) ![0, o, 0] ![1, 512, 128] inb).emb (ix3 0 r c) = ix3 0 ⟨o + r.val, h⟩ c := by
  funext a
  refine Fin.ext ?_
  match a with
  | ⟨0, _⟩ => rfl
  | ⟨1, _⟩ => exact congrArg (o + ·) (Nat.one_mul _)
  | ⟨2, _⟩ => exact (Nat.zero_add _).trans (Nat.one_mul _)

theorem out_apply (p : Fin 2048) (c : Fin 128) :
    out0_8 x0 x1 x2 x3 x4 x5 x6 x7 (ix3 0 p c) = outRow x0 x1 x2 x3 x4 x5 x6 x7 p c := by
  unfold_out out0_8
  refine View.canon_apply_of_pieces (S := S1x2048x128) (e := .bf16) (Val := Elt Ideal) (fun y => outRow x0 x1 x2 x3 x4 x5 x6 x7 (y 1) (y 2)) _ ?_ _ (cover0_8 _ _ _ _ _)
  intro pc hpc
  simp only [List.mem_cons, List.not_mem_nil, or_false] at hpc
  rcases hpc with rfl | rfl | rfl | rfl
  all_goals
    intro x
    obtain ⟨a, r, c, rfl⟩ : ∃ (a : Fin 1) (r : Fin 512) (c : Fin 128), x = ix3 a r c := ⟨x 0, x 1, x 2, ValueIdx.eq_ix3 x⟩
    obtain rfl : a = 0 := Subsingleton.elim _ _
    have hr := r.isLt
    dsimp only
    rw [ld_vec x7, ld_vec x3, ld_vec x4, ld_vec x5, ld_vec x6]
  · rw [emb_row 1536 _ r c (by omega)]
    exact (pay_tile3 _ _ _ _ _ r c).trans (tile_outRow x0 x1 x2 x3 x4 x5 x6 x7 (N := 2048) (D := 0) rfl 1536 (by decide) _ _ _ (lam_apply x3 x4 x5 x6) r c (by omega))
  · rw [emb_row 1024 _ r c (by omega)]
    exact (pay_tile2 _ _ _ _ _ r c).trans (tile_outRow x0 x1 x2 x3 x4 x5 x6 x7 (N := 1536) (D := 512) rfl 1024 (by decide) _ _ _ (lam_apply x3 x4 x5 x6) r c (by omega))
  · rw [emb_row 512 _ r c (by omega)]
    exact (pay_tile1 _ _ _ _ _ r c).trans (tile_outRow x0 x1 x2 x3 x4 x5 x6 x7 (N := 1024) (D := 1024) rfl 512 (by decide) _ _ _ (lam_apply x3 x4 x5 x6) r c (by omega))
  · rw [emb_row 0 _ r c (by omega)]
    exact (pay_tile0 _ _ _ _ _ r c).trans (tile_outRow x0 x1 x2 x3 x4 x5 x6 x7 (N := 512) (D := 1536) rfl 0 (by decide) _ _ _ (lam_apply x3 x4 x5 x6) r c (by omega))

end Block

end Attn
-- ==== Proof.Array.lean ====
module

public import proofs.«01_k».proof.Proof.Out

/-! # The kernel's result array, read at an index

The host prefix (the scale, the casts and the reshapes), the windows' blocks, and the array the grid leaves. -/

@[expose] public section

noncomputable section

open scoped BigOperators

namespace Attn

open Idealize.ShloMosaic Cert.KernelIdeal Cert.KernelIdeal.Gen Idealize.ShloMosaic.TcCoe Idealize.SL.Sem

/-- Lane `l` of head `h` in the folded feature axis. -/
def col (h : Fin 4) (l : Fin 128) : Fin 512 := ⟨h.val * 128 + l.val, by have := h.isLt; have := l.isLt; omega⟩

/-- The map a lane belongs to, and its place there. -/
def hi (l : Fin 128) : Fin 2 := ⟨l.val / 64, by have := l.isLt; omega⟩
def lo (l : Fin 128) : Fin 64 := ⟨l.val % 64, Nat.mod_lt _ (by decide)⟩

section Args
variable (a0 a1 : Vec Ideal S8x2048x4x2x64 .f32) (a2 : Vec Ideal S8x2048x4x128 .f32) (a3 a4 a5 a6 : Vec Ideal S1x64 .f32)
  (a7 : Vec Ideal S1x128 .f32)

/-- The kernel's result for batch `b`, query `s`, head `h`, column `d`. -/
def kerVal (b : Fin 8) (s : Fin 2048) (h : Fin 4) (d : Fin 128) : EReal :=
  attnRow s.val (fun l => a0 (ix5 b s h (hi l) (lo l)) * Ideal.ofBits .f32 0x3E000000#32)
    (fun (n : Fin 2048) l => a1 (ix5 b n h (hi l) (lo l))) (fun n l => a2 (ix4 b n h l))
    (lamOf (fun i => a3 (ix2 0 i)) (fun i => a4 (ix2 0 i)) (fun i => a5 (ix2 0 i)) (fun i => a6 (ix2 0 i)))
    (fun l => a7 (ix2 0 l)) d

end Args

theorem fold5_apply {φ : FTy} (x : FVec Ideal S8x2048x4x2x64 φ) (h0 : S8x2048x4x2x64.ShapeCasts S8x2048x512) (b : Fin 8) (s : Fin 2048)
    (h : Fin 4) (l : Fin 128) :
    shapeCast S8x2048x512 x h0 (ix3 b s (col h l)) = x (ix5 b s h (hi l) (lo l)) := by
  refine shapeCast_apply x h0 _ _ ?_
  rw [Shape.rowMajor_val_five, Shape.rowMajor_val_three]
  have := l.isLt
  show (((b.val * 2048 + s.val) * 4 + h.val) * 2 + l.val / 64) * 64 + l.val % 64 = (b.val * 2048 + s.val) * 512 + (h.val * 128 + l.val)
  omega

theorem fold4_apply {φ : FTy} (x : FVec Ideal S8x2048x4x128 φ) (h0 : S8x2048x4x128.ShapeCasts S8x2048x512) (b : Fin 8) (s : Fin 2048)
    (h : Fin 4) (l : Fin 128) :
    shapeCast S8x2048x512 x h0 (ix3 b s (col h l)) = x (ix4 b s h l) := by
  refine shapeCast_apply x h0 _ _ ?_
  rw [Shape.rowMajor_val_four, Shape.rowMajor_val_three]
  show ((b.val * 2048 + s.val) * 4 + h.val) * 128 + l.val = (b.val * 2048 + s.val) * 512 + (h.val * 128 + l.val)
  omega

section Memory
variable (m : (ℓ : Loc nD τ sig) → Buf (Elt Ideal) ℓ) (c : Dev nD)

/-- The query argument as the memory holds it. -/
abbrev queries : FVec Ideal S8x2048x4x2x64 .f32 := m ((c : Thread nD τ).loc main_arg0)

theorem V_q (b : Fin 8) (s : Fin 2048) (h : Fin 4) (l : Fin 128) :
    V m c main_v5 (ix3 b s (col h l))
      = queries m c (ix5 b s h (hi l) (lo l)) * Ideal.ofBits .f32 0x3E000000#32 := by
  have e : V m c main_v5 = shapeCast S8x2048x512 (truncf .bf16 (mulf (F := Ideal) (m ((c : Thread nD τ).loc main_arg0))
      (broadcastInDim S8x2048x4x2x64 ![] bcast_S_S8x2048x4x2x64 (constant S_ .f32 0x3E000000#32))) bitsLt_bf16_f32)
      shapeCasts_S8x2048x4x2x64_S8x2048x512 := by
    show StableHlo.after hostOps0 (fun b => m (c, b)) (Proc.devRef .tc main_v5) = _
    after_results
    rfl
  rw [e]
  exact fold5_apply _ _ b s h l

theorem V_k (b : Fin 8) (s : Fin 2048) (h : Fin 4) (l : Fin 128) :
    V m c main_v6 (ix3 b s (col h l)) = m ((c : Thread nD τ).loc main_arg1) (ix5 b s h (hi l) (lo l)) := by
  have e : V m c main_v6 = shapeCast S8x2048x512 (truncf (F := Ideal) (φ := .f32) .bf16 (m ((c : Thread nD τ).loc main_arg1)) bitsLt_bf16_f32)
      shapeCasts_S8x2048x4x2x64_S8x2048x512 := by
    show StableHlo.after hostOps0 (fun b => m (c, b)) (Proc.devRef .tc main_v6) = _
    after_results
    rfl
  rw [e]
  exact fold5_apply _ _ b s h l

theorem V_v (b : Fin 8) (s : Fin 2048) (h : Fin 4) (l : Fin 128) :
    V m c main_v7 (ix3 b s (col h l)) = m ((c : Thread nD τ).loc main_arg2) (ix4 b s h l) := by
  have e : V m c main_v7 = shapeCast S8x2048x512 (truncf (F := Ideal) (φ := .f32) .bf16 (m ((c : Thread nD τ).loc main_arg2)) bitsLt_bf16_f32)
      shapeCasts_S8x2048x4x128_S8x2048x512 := by
    show StableHlo.after hostOps0 (fun b => m (c, b)) (Proc.devRef .tc main_v7) = _
    after_results
    rfl
  rw [e]
  exact fold4_apply _ _ b s h l

theorem V_l1 : V m c main_v9 = m ((c : Thread nD τ).loc main_arg3) := by
  show StableHlo.after hostOps0 (fun b => m (c, b)) (Proc.devRef .tc main_v9) = _
  after_results
  exact shapeCast_shapeCast _ _ _
theorem V_l2 : V m c main_v11 = m ((c : Thread nD τ).loc main_arg4) := by
  show StableHlo.after hostOps0 (fun b => m (c, b)) (Proc.devRef .tc main_v11) = _
  after_results
  exact shapeCast_shapeCast _ _ _
theorem V_l3 : V m c main_v13 = m ((c : Thread nD τ).loc main_arg5) := by
  show StableHlo.after hostOps0 (fun b => m (c, b)) (Proc.devRef .tc main_v13) = _
  after_results
  exact shapeCast_shapeCast _ _ _
theorem V_l4 : V m c main_v15 = m ((c : Thread nD τ).loc main_arg6) := by
  show StableHlo.after hostOps0 (fun b => m (c, b)) (Proc.devRef .tc main_v15) = _
  after_results
  exact shapeCast_shapeCast _ _ _
theorem V_w : V m c main_v17 = m ((c : Thread nD τ).loc main_arg7) := by
  show StableHlo.after hostOps0 (fun b => m (c, b)) (Proc.devRef .tc main_v17) = _
  after_results
  exact shapeCast_shapeCast _ _ _

/-- Where the windows stand at a grid point: the blocks of one batch row and one head, and the vectors whole. -/
theorem idx_facts : ∀ t : Fin cfg0.N,
    (win0_0.index t (0 : Fin 3) = t.val / 4 ∧ win0_0.index t (1 : Fin 3) = 0 ∧ win0_0.index t (2 : Fin 3) = t.val % 4)
    ∧ (win0_1.index t (0 : Fin 3) = t.val / 4 ∧ win0_1.index t (1 : Fin 3) = 0 ∧ win0_1.index t (2 : Fin 3) = t.val % 4)
    ∧ (win0_2.index t (0 : Fin 3) = t.val / 4 ∧ win0_2.index t (1 : Fin 3) = 0 ∧ win0_2.index t (2 : Fin 3) = t.val % 4)
    ∧ (win0_8.index t (0 : Fin 3) = t.val / 4 ∧ win0_8.index t (1 : Fin 3) = 0 ∧ win0_8.index t (2 : Fin 3) = t.val % 4)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The grid point of batch `b` and head `h`. -/
def pt (b : Fin 8) (h : Fin 4) : Fin cfg0.N := ⟨b.val * 4 + h.val, by
  show b.val * 4 + h.val < 32
  have := b.isLt; have := h.isLt; omega⟩

theorem pt_div (b : Fin 8) (h : Fin 4) : (pt b h).val / 4 = b.val ∧ (pt b h).val % 4 = h.val := by
  have := h.isLt
  constructor
  · show (b.val * 4 + h.val) / 4 = b.val; omega
  · show (b.val * 4 + h.val) % 4 = h.val; omega

theorem emb0 (b : Fin 8) (h : Fin 4) (s : Fin 2048) (l : Fin 128) :
    ((cfg0.win 0).blk (pt b h)).view.emb (ix3 0 s l) = ix3 b s (col h l) := by
  obtain ⟨⟨e0, e1, e2⟩, _⟩ := idx_facts (pt b h)
  obtain ⟨d0, d1⟩ := pt_div b h
  funext a; apply Fin.ext
  match a with
  | ⟨0, _⟩ => show win0_0.index (pt b h) (0 : Fin 3) * 1 + 1 * 0 = b.val; omega
  | ⟨1, _⟩ => show win0_0.index (pt b h) (1 : Fin 3) * 2048 + 1 * s.val = s.val; omega
  | ⟨2, _⟩ => show win0_0.index (pt b h) (2 : Fin 3) * 128 + 1 * l.val = h.val * 128 + l.val; omega

theorem emb1 (b : Fin 8) (h : Fin 4) (s : Fin 2048) (l : Fin 128) :
    ((cfg0.win 1).blk (pt b h)).view.emb (ix3 0 s l) = ix3 b s (col h l) := by
  obtain ⟨_, ⟨e0, e1, e2⟩, _⟩ := idx_facts (pt b h)
  obtain ⟨d0, d1⟩ := pt_div b h
  funext a; apply Fin.ext
  match a with
  | ⟨0, _⟩ => show win0_1.index (pt b h) (0 : Fin 3) * 1 + 1 * 0 = b.val; omega
  | ⟨1, _⟩ => show win0_1.index (pt b h) (1 : Fin 3) * 2048 + 1 * s.val = s.val; omega
  | ⟨2, _⟩ => show win0_1.index (pt b h) (2 : Fin 3) * 128 + 1 * l.val = h.val * 128 + l.val; omega

theorem emb2 (b : Fin 8) (h : Fin 4) (s : Fin 2048) (l : Fin 128) :
    ((cfg0.win 2).blk (pt b h)).view.emb (ix3 0 s l) = ix3 b s (col h l) := by
  obtain ⟨_, _, ⟨e0, e1, e2⟩, _⟩ := idx_facts (pt b h)
  obtain ⟨d0, d1⟩ := pt_div b h
  funext a; apply Fin.ext
  match a with
  | ⟨0, _⟩ => show win0_2.index (pt b h) (0 : Fin 3) * 1 + 1 * 0 = b.val; omega
  | ⟨1, _⟩ => show win0_2.index (pt b h) (1 : Fin 3) * 2048 + 1 * s.val = s.val; omega
  | ⟨2, _⟩ => show win0_2.index (pt b h) (2 : Fin 3) * 128 + 1 * l.val = h.val * 128 + l.val; omega

theorem emb8 (b : Fin 8) (h : Fin 4) (s : Fin 2048) (l : Fin 128) :
    ((cfg0.win 8).blk (pt b h)).view.emb (ix3 0 s l) = ix3 b s (col h l) := by
  obtain ⟨_, _, _, ⟨e0, e1, e2⟩, _⟩ := idx_facts (pt b h)
  obtain ⟨d0, d1⟩ := pt_div b h
  funext a; apply Fin.ext
  match a with
  | ⟨0, _⟩ => show win0_8.index (pt b h) (0 : Fin 3) * 1 + 1 * 0 = b.val; omega
  | ⟨1, _⟩ => show win0_8.index (pt b h) (1 : Fin 3) * 2048 + 1 * s.val = s.val; omega
  | ⟨2, _⟩ => show win0_8.index (pt b h) (2 : Fin 3) * 128 + 1 * l.val = h.val * 128 + l.val; omega

theorem blk3 (t : Fin cfg0.N) (i : Fin 64) : iblk m c 3 t (ix2 0 i) = m ((c : Thread nD τ).loc main_arg3) (ix2 0 i) := by
  obtain ⟨_, _, _, _, ⟨e0, e1⟩, _⟩ := idx_facts t
  show V m c main_v9 (((cfg0.win 3).blk t).view.emb (ix2 0 i)) = _
  rw [V_l1]
  refine congrArg _ (funext fun a => Fin.ext ?_)
  match a with
  | ⟨0, _⟩ => show win0_3.index t (0 : Fin 2) * 1 + 1 * 0 = 0; omega
  | ⟨1, _⟩ => show win0_3.index t (1 : Fin 2) * 64 + 1 * i.val = i.val; omega
theorem blk4 (t : Fin cfg0.N) (i : Fin 64) : iblk m c 4 t (ix2 0 i) = m ((c : Thread nD τ).loc main_arg4) (ix2 0 i) := by
  obtain ⟨_, _, _, _, _, ⟨e0, e1⟩, _⟩ := idx_facts t
  show V m c main_v11 (((cfg0.win 4).blk t).view.emb (ix2 0 i)) = _
  rw [V_l2]
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * i.val = i.val; omega
theorem blk5 (t : Fin cfg0.N) (i : Fin 64) : iblk m c 5 t (ix2 0 i) = m ((c : Thread nD τ).loc main_arg5) (ix2 0 i) := by
  obtain ⟨_, _, _, _, _, _, ⟨e0, e1⟩, _⟩ := idx_facts t
  show V m c main_v13 (((cfg0.win 5).blk t).view.emb (ix2 0 i)) = _
  rw [V_l3]
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * i.val = i.val; omega
theorem blk6 (t : Fin cfg0.N) (i : Fin 64) : iblk m c 6 t (ix2 0 i) = m ((c : Thread nD τ).loc main_arg6) (ix2 0 i) := by
  obtain ⟨_, _, _, _, _, _, _, ⟨e0, e1⟩, _⟩ := idx_facts t
  show V m c main_v15 (((cfg0.win 6).blk t).view.emb (ix2 0 i)) = _
  rw [V_l4]
  refine congrArg _ (funext fun a => Fin.ext ?_)
  match a with
  | ⟨0, _⟩ => show win0_6.index t (0 : Fin 2) * 1 + 1 * 0 = 0; omega
  | ⟨1, _⟩ => show win0_6.index t (1 : Fin 2) * 64 + 1 * i.val = i.val; omega
theorem blk7 (t : Fin cfg0.N) (i : Fin 128) : iblk m c 7 t (ix2 0 i) = m ((c : Thread nD τ).loc main_arg7) (ix2 0 i) := by
  obtain ⟨_, _, _, _, _, _, _, _, ⟨e0, e1⟩⟩ := idx_facts t
  show V m c main_v17 (((cfg0.win 7).blk t).view.emb (ix2 0 i)) = _
  rw [V_w]
  refine congrArg _ (funext fun a => Fin.ext ?_)
  match a with
  | ⟨0, _⟩ => show win0_7.index t (0 : Fin 2) * 1 + 1 * 0 = 0; omega
  | ⟨1, _⟩ => show win0_7.index t (1 : Fin 2) * 128 + 1 * i.val = i.val; omega

theorem blk0 (b : Fin 8) (h : Fin 4) (s : Fin 2048) (l : Fin 128) : iblk m c 0 (pt b h) (ix3 0 s l)
    = queries m c (ix5 b s h (hi l) (lo l)) * Ideal.ofBits .f32 0x3E000000#32 := by
  show V m c main_v5 (((cfg0.win 0).blk (pt b h)).view.emb (ix3 0 s l)) = _
  rw [emb0]
  exact V_q m c b s h l
theorem blk1 (b : Fin 8) (h : Fin 4) (s : Fin 2048) (l : Fin 128) : iblk m c 1 (pt b h) (ix3 0 s l)
    = m ((c : Thread nD τ).loc main_arg1) (ix5 b s h (hi l) (lo l)) := by
  show V m c main_v6 (((cfg0.win 1).blk (pt b h)).view.emb (ix3 0 s l)) = _
  rw [emb1]
  exact V_k m c b s h l
theorem blk2 (b : Fin 8) (h : Fin 4) (s : Fin 2048) (l : Fin 128) : iblk m c 2 (pt b h) (ix3 0 s l)
    = m ((c : Thread nD τ).loc main_arg2) (ix4 b s h l) := by
  show V m c main_v7 (((cfg0.win 2).blk (pt b h)).view.emb (ix3 0 s l)) = _
  rw [emb2]
  exact V_v m c b s h l

/-- The result array after the run. -/
theorem final_apply (b : Fin 8) (s : Fin 2048) (h : Fin 4) (d : Fin 128) :
    (dats m 0 c).arrAt 8 cfg0.N (ix3 b s (col h d))
      = kerVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) b s h d := by
  have e := Cert.KernelIdeal.Value.blocks8 m c (pt b h) (flush0_8 (pt b h))
  rw [Cert.KernelIdeal.Value.flushed8] at e
  have e' := congrFun e (ix3 0 s d)
  have e1 : ((cfg0.win 8).blk (pt b h)).view.read (Elt Ideal) ((dats m 0 c).arrAt 8 cfg0.N) (ix3 0 s d)
      = (dats m 0 c).arrAt 8 cfg0.N (ix3 b s (col h d)) := by
    show (dats m 0 c).arrAt 8 cfg0.N (((cfg0.win 8).blk (pt b h)).view.emb (ix3 0 s d)) = _
    rw [emb8]
  refine e1.symm.trans (e'.trans ?_)
  refine Eq.trans (b := out0_8 (iblk m c 0 (pt b h)) (iblk m c 1 (pt b h)) (iblk m c 2 (pt b h)) (iblk m c 3 (pt b h)) (iblk m c 4 (pt b h)) (iblk m c 5 (pt b h)) (iblk m c 6 (pt b h)) (iblk m c 7 (pt b h)) (ix3 0 s d)) rfl ?_
  rw [out_apply]
  unfold outRow kerVal
  simp only [blk0, blk1, blk2, blk3, blk4, blk5, blk6, blk7]

end Memory

end Attn
-- ==== Proof.Reference.lean ====
module

public import proofs.«01_k».proof.Proof.Out
public import proofs.«01_k».proof.Proof.Gen.ReferenceIdeal.Read

/-! # The reference's result, read at an index -/

@[expose] public section

noncomputable section

open scoped BigOperators

namespace Attn

open Idealize.ShloMosaic Cert.ReferenceIdeal Cert.ReferenceIdeal.Read Idealize.ShloMosaic.TcCoe Idealize.SL.Sem

/-- A probability of a softmax map. -/
def prob {N : Nat} (s : Fin N → EReal) (k : Fin N) : EReal :=
  Ideal.div (Ideal.exp (s k - top s)) (∑ k, Ideal.exp (s k - top s))

section Args
variable (a0 a1 : FVec Ideal S8x2048x4x2x64 .f32) (a2 : FVec Ideal S8x2048x4x128 .f32) (a3 a4 a5 a6 : FVec Ideal S1x64 .f32)
  (a7 : FVec Ideal S1x128 .f32)

/-- The masked scores of query `s` in map `j` of head `h`. -/
def refScore (b : Fin 8) (h : Fin 4) (j : Fin 2) (s : Fin 2048) : Fin 2048 → EReal :=
  upTo s.val fun n => (∑ i : Fin 64, a0 (ix5 b s h j i) * a1 (ix5 b n h j i)) * Ideal.ofBits .f32 0x3E000000#32

/-- The mixing weight. -/
def refLam : EReal :=
  lamOf (fun i => a3 (ix2 0 i)) (fun i => a4 (ix2 0 i)) (fun i => a5 (ix2 0 i)) (fun i => a6 (ix2 0 i))

/-- The reference's result for batch `b`, query `s`, head `h`, column `d`. -/
def refVal (b : Fin 8) (s : Fin 2048) (h : Fin 4) (d : Fin 128) : EReal :=
  rms (fun d => ∑ n, a2 (ix4 b n h d) * (prob (refScore a0 a1 b h 0 s) n - refLam a3 a4 a5 a6 * prob (refScore a0 a1 b h 1 s) n))
    (fun d => a7 (ix2 0 d)) d

theorem ofBits_zero : (FloatOps.ofBits (F := Ideal) .f32 0x00000000#32) = (0 : EReal) := by
  show Ideal.ofBits .f32 0x00000000#32 = 0
  simp [Ideal.ofBits, Ideal.ieee]

theorem sum_S64 (f : S64.Idx → EReal) : ∑ j : S64.Idx, f j = ∑ i : Fin 64, f (ix1 i) :=
  (Fintype.sum_equiv ⟨fun i : Fin 64 => (ix1 i : S64.Idx), fun j => j 0, fun _ => rfl, fun j => (eq_ix1 j).symm⟩ _ _ fun _ => rfl).symm

theorem vec64 (a : FVec Ideal S1x64 .f32) (i : Fin 64) (z : S1x64.Idx) (h : (z 1).val = i.val) : a z = a (ix2 0 i) := by
  refine congrArg a ((ValueIdx.eq_ix2 z).trans ?_)
  funext x
  apply Fin.ext
  match x with
  | ⟨0, _⟩ => have h0 : (z 0).val < 1 := (z 0).isLt; show (z 0).val = 0; omega
  | ⟨1, _⟩ => exact h

theorem lam_at (i : S_.Idx) : val_main_v11 (F := Ideal) a3 a4 a5 a6 i = refLam a3 a4 a5 a6 := by
  have e3 : ∀ i : S_.Idx, val_main_v3 (F := Ideal) a3 a4 i = ∑ i : Fin 64, a3 (ix2 0 i) * a4 (ix2 0 i) := by
    intro i
    rw [val_main_v3_apply, val_main_cst_apply, ofBits_zero, zero_add, sum_S64]
    refine Finset.sum_congr rfl fun k _ => ?_
    rw [val_main_v2_apply, val_main_v0_apply, val_main_v1_apply]
    rw [vec64 a3 k _ (Nat.mod_eq_of_lt k.isLt), vec64 a4 k _ (Nat.mod_eq_of_lt k.isLt)]
    rfl
  have e8 : ∀ i : S_.Idx, val_main_v8 (F := Ideal) a5 a6 i = ∑ i : Fin 64, a5 (ix2 0 i) * a6 (ix2 0 i) := by
    intro i
    rw [val_main_v8_apply, val_main_cst_0_apply, ofBits_zero, zero_add, sum_S64]
    refine Finset.sum_congr rfl fun k _ => ?_
    rw [val_main_v7_apply, val_main_v5_apply, val_main_v6_apply]
    rw [vec64 a5 k _ (Nat.mod_eq_of_lt k.isLt), vec64 a6 k _ (Nat.mod_eq_of_lt k.isLt)]
    rfl
  rw [val_main_v11_apply, val_main_v10_apply, val_main_v4_apply, val_main_v9_apply, e3, e8, val_main_cst_1_apply]
  rfl

variable (b : Fin 8) (h : Fin 4) (j : Fin 2) (s n : Fin 2048) (d : Fin 128)

theorem v21_at : val_main_v21 (F := Ideal) a0 a1 (ix5 b h j s n) = refScore a0 a1 b h j s n := by
  rw [val_main_v21_apply, val_main_call0_v1_apply, val_main_v20_apply, val_main_v18_apply, val_main_v19_apply, val_main_v16_apply,
    val_main_v17_apply, val_main_v12_apply, val_main_v12_apply, val_main_v15_apply, val_main_v13_apply, val_main_v14_apply,
    val_main_cst_2_apply, val_main_call0_v2_apply, val_main_call0_v0_apply, val_main_cst_3_apply]
  have e := WordCmp.cmpi_sle_ofNat (w := 32) (a := n.val) (b := s.val) (by have := n.isLt; omega) (by have := s.isLt; omega)
  refine (congrArg (fun w => Scalar.select w _ _) e).trans ?_
  rw [select_ofBool]
  have el : ∀ k : Fin 64, lidx_main_v13 (ix5 b h j s n) k = ix5 b s h j k := fun k => eq_ix5 _
  have er : ∀ k : Fin 64, ridx_main_v13 (ix5 b h j s n) k = ix5 b n h j k := fun k => eq_ix5 _
  simp only [el, er]
  rfl

theorem v22_at : val_main_v22 (F := Ideal) a0 a1 (ix4 b h j s) = top (refScore a0 a1 b h j s) := by
  unfold val_main_v22 top
  generalize hy : val_main_v21 (F := Ideal) a0 a1 = y
  refine (Host.reduce_eq_fold_single (FloatOps.maximumf (F := Ideal) (φ := .f32)) y (val_main_cst_4 (F := Ideal)) _ (by decide) _ (ix4 b h j s)).trans ?_
  rw [val_main_cst_4_apply]
  show Finset.fold max (Ideal.ofBits .f32 0xFF800000#32) _ _ = _
  rw [ofBits_neg_inf]
  refine Finset.fold_congr fun k _ => ?_
  rw [← v21_at a0 a1 b h j s k, hy]
  exact congrArg y (eq_ix5 _)

theorem v24_at : val_main_v24 (F := Ideal) a0 a1 (ix4 b h j s) = top (refScore a0 a1 b h j s) := by
  rw [val_main_v24_apply, val_main_v23_apply, val_main_cst_5_apply, v22_at]
  show max (Ideal.ofBits .f32 0xFF800000#32) _ = _
  rw [ofBits_neg_inf]
  exact bot_sup_eq _

theorem v28_at : val_main_v28 (F := Ideal) a0 a1 (ix5 b h j s n)
    = Ideal.exp (refScore a0 a1 b h j s n - top (refScore a0 a1 b h j s)) := by
  have e : idx_main_v25 (idx_main_v26 (ix5 b h j s n)) = ix4 b h j s := eq_ix4 _
  rw [val_main_v28_apply, val_main_v27_apply, val_main_v26_apply, val_main_v25_apply, e, v24_at, v21_at]
  rfl

theorem v32_at : val_main_v32 (F := Ideal) a0 a1 (ix5 b h j s n) = prob (refScore a0 a1 b h j s) n := by
  have e : idx_main_v30 (idx_main_v31 (ix5 b h j s n)) = ix4 b h j s := eq_ix4 _
  have e' : ∀ k, idx_main_v29 (ix4 b h j s) k = ix5 b h j s k := fun k => eq_ix5 _
  rw [val_main_v32_apply, val_main_v31_apply, val_main_v30_apply, e, val_main_v29_apply, val_main_cst_6_apply, ofBits_zero, zero_add]
  simp only [e', v28_at]
  rfl

theorem v39_at : val_main_v39 (F := Ideal) a0 a1 a3 a4 a5 a6 (ix4 b h s n)
    = prob (refScore a0 a1 b h 0 s) n - refLam a3 a4 a5 a6 * prob (refScore a0 a1 b h 1 s) n := by
  have hb := b.isLt; have hh := h.isLt; have hs := s.isLt; have hn := n.isLt
  have e : idx_main_v33 (idx_main_v34 (ix4 b h s n)) = ix5 b h 0 s n := by
    refine (eq_ix5 _).trans ?_
    congr 1 <;> apply Fin.ext
    · show (((b.val * 4 + h.val) * 2048 + s.val) * 2048 + n.val) / 16777216 = b.val; omega
    · show (((b.val * 4 + h.val) * 2048 + s.val) * 2048 + n.val) / 4194304 % 4 = h.val; omega
    · show (((b.val * 4 + h.val) * 2048 + s.val) * 2048 + n.val) / 2048 % 2048 = s.val; omega
    · show (((b.val * 4 + h.val) * 2048 + s.val) * 2048 + n.val) % 2048 = n.val; omega
  have e' : idx_main_v35 (idx_main_v36 (ix4 b h s n)) = ix5 b h 1 s n := by
    refine (eq_ix5 _).trans ?_
    congr 1 <;> apply Fin.ext
    · show (((b.val * 4 + h.val) * 2048 + s.val) * 2048 + n.val) / 16777216 = b.val; omega
    · show (((b.val * 4 + h.val) * 2048 + s.val) * 2048 + n.val) / 4194304 % 4 = h.val; omega
    · show (((b.val * 4 + h.val) * 2048 + s.val) * 2048 + n.val) / 2048 % 2048 = s.val; omega
    · show (((b.val * 4 + h.val) * 2048 + s.val) * 2048 + n.val) % 2048 = n.val; omega
  rw [val_main_v39_apply, val_main_v34_apply, val_main_v33_apply, e, v32_at, val_main_v38_apply, val_main_v37_apply, lam_at,
    val_main_v36_apply, val_main_v35_apply, e', v32_at]
  rfl

/-- The weighted values before the norm. -/
def refMix (b : Fin 8) (h : Fin 4) (s : Fin 2048) (d : Fin 128) : EReal :=
  ∑ n, a2 (ix4 b n h d) * (prob (refScore a0 a1 b h 0 s) n - refLam a3 a4 a5 a6 * prob (refScore a0 a1 b h 1 s) n)

theorem v41_at : val_main_v41 (F := Ideal) a0 a1 a2 a3 a4 a5 a6 (ix4 b s h d) = refMix a0 a1 a2 a3 a4 a5 a6 b h s d := by
  have e : idx_main_v41 (ix4 b s h d) = ix4 b h d s := eq_ix4 _
  have el : ∀ k : Fin 2048, lidx_main_v40 (ix4 b h d s) k = ix4 b k h d := fun k => eq_ix4 _
  have er : ∀ k : Fin 2048, ridx_main_v40 (ix4 b h d s) k = ix4 b h s k := fun k => eq_ix4 _
  rw [val_main_v41_apply, e, val_main_v40_apply]
  simp only [el, er, v39_at]
  rfl

theorem v57_at : val_main_v57 (F := Ideal) a0 a1 a2 a3 a4 a5 a6 a7 (ix4 b s h d) = refVal a0 a1 a2 a3 a4 a5 a6 a7 b s h d := by
  have e : idx_main_v45 (idx_main_v51 (ix4 b s h d)) = ix3 b s h := eq_ix3 _
  have e' : ∀ k, idx_main_v44 (ix3 b s h) k = ix4 b s h k := fun k => eq_ix4 _
  have e7 : idx_main_v42 (idx_main_v53 (idx_main_v54 (ix4 b s h d))) = ix2 0 d := by
    refine (eq_ix2 _).trans ?_
    congr 1
    exact Fin.ext (Nat.mod_eq_of_lt d.isLt)
  rw [val_main_v57_apply, val_main_v55_apply, val_main_v52_apply, val_main_v51_apply, val_main_v50_apply, val_main_v49_apply,
    val_main_v47_apply, val_main_v45_apply, e, val_main_v44_apply, val_main_cst_7_apply, ofBits_zero, zero_add, val_main_v46_apply,
    val_main_cst_8_apply, val_main_v48_apply, val_main_cst_9_apply, val_main_v54_apply, val_main_v53_apply, val_main_v42_apply, e7,
    val_main_v56_apply, val_main_cst_10_apply, v41_at]
  simp only [e', val_main_v43_apply, v41_at]
  rfl

theorem v59_at : val_main_v59 (F := Ideal) a0 a1 a2 a3 a4 a5 a6 a7 (ix3 b s ⟨h.val * 128 + d.val, by have := h.isLt; have := d.isLt; omega⟩)
    = refVal a0 a1 a2 a3 a4 a5 a6 a7 b s h d := by
  have hb := b.isLt; have hh := h.isLt; have hs := s.isLt; have hd := d.isLt
  have e : idx_main_v58 (ix3 b s ⟨h.val * 128 + d.val, by omega⟩) = ix4 b s h d := by
    refine (eq_ix4 _).trans ?_
    congr 1 <;> apply Fin.ext
    · show ((b.val * 2048 + s.val) * 512 + (h.val * 128 + d.val)) / 1048576 = b.val; omega
    · show ((b.val * 2048 + s.val) * 512 + (h.val * 128 + d.val)) / 512 % 2048 = s.val; omega
    · show ((b.val * 2048 + s.val) * 512 + (h.val * 128 + d.val)) / 128 % 4 = h.val; omega
    · show ((b.val * 2048 + s.val) * 512 + (h.val * 128 + d.val)) % 128 = d.val; omega
  rw [val_main_v59_apply, val_main_v58_apply, e, v57_at]
  rfl

end Args

end Attn
-- ==== Proof.Equation.lean ====
module

public import proofs.«01_k».proof.Proof.Array
public import proofs.«01_k».proof.Proof.Reference

/-! # The two results agree on finite arguments

The kernel scales the queries, divides each map's weighted values by its denominator, and subtracts; the
reference scales the scores, divides the weights, subtracts them, and weighs the values once. -/

@[expose] public section

noncomputable section

open scoped BigOperators

namespace Attn

open Idealize.ShloMosaic

theorem sum_coe {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- An entry that is a real number. -/
def IsReal (x : EReal) : Prop := ∃ r : ℝ, x = (r : EReal)

theorem real_family {ι : Type} {f : ι → EReal} (h : ∀ i, IsReal (f i)) : ∃ r : ι → ℝ, f = fun i => (r i : EReal) := by
  choose r hr using h
  exact ⟨r, funext hr⟩

theorem isReal_ieee (e m : Nat) (b : BitVec (1 + e + m)) (h : (b.extractLsb' m e).toNat ≠ 2 ^ e - 1) : IsReal (Ideal.ieee e m b) := by
  unfold Ideal.ieee
  simp only [if_neg h]
  split
  · exact ⟨_, rfl⟩
  · exact ⟨_, rfl⟩

theorem real_eighth : IsReal (Ideal.ofBits .f32 0x3E000000#32) :=
  isReal_ieee 8 23 0x3E000000#32 (by decide)
theorem real_base : IsReal (Ideal.ofBits .f32 0x3E4CCCCD#32) :=
  isReal_ieee 8 23 0x3E4CCCCD#32 (by decide)

/-- The lanes of the two maps, one after the other. -/
theorem sum_lanes (f : Fin 128 → EReal) :
    ∑ l, f l = (∑ i : Fin 64, f ⟨i.val, by have := i.isLt; omega⟩) + ∑ i : Fin 64, f ⟨64 + i.val, by have := i.isLt; omega⟩ :=
  Fin.sum_univ_add (a := 64) (b := 64) f

theorem real_score {n : Nat} {q k : Fin n → EReal} {c : EReal} (hq : ∀ i, IsReal (q i)) (hk : ∀ i, IsReal (k i)) (hc : IsReal c) :
    (∑ i, q i * c * k i) = (∑ i, q i * k i) * c ∧ IsReal ((∑ i, q i * k i) * c) := by
  obtain ⟨q, rfl⟩ := real_family hq
  obtain ⟨k, rfl⟩ := real_family hk
  obtain ⟨c, rfl⟩ := hc
  simp only [← EReal.coe_mul, sum_coe]
  refine ⟨congrArg _ ?_, ⟨_, rfl⟩⟩
  rw [Finset.sum_mul]
  exact Finset.sum_congr rfl fun i _ => by ring

theorem score0_eq (q k : Fin 2 → Fin 64 → EReal) (c : EReal) (hq : ∀ j i, IsReal (q j i)) (hk : ∀ j i, IsReal (k j i)) (hc : IsReal c) :
    score0 (fun l => q (hi l) (lo l) * c) (fun l => k (hi l) (lo l)) = (∑ i, q 0 i * k 0 i) * c := by
  rw [← (real_score (hq 0) (hk 0) hc).1]
  unfold score0
  rw [sum_lanes]
  have e : (∑ i : Fin 64, (if (⟨64 + i.val, by have := i.isLt; omega⟩ : Fin 128).val < 64
      then q (hi ⟨64 + i.val, by have := i.isLt; omega⟩) (lo ⟨64 + i.val, by have := i.isLt; omega⟩) * c else 0)
      * k (hi ⟨64 + i.val, by have := i.isLt; omega⟩) (lo ⟨64 + i.val, by have := i.isLt; omega⟩)) = (0 : EReal) :=
    Finset.sum_eq_zero fun i _ => by rw [if_neg (by show ¬ (64 + i.val < 64); omega), zero_mul]
  refine (congrArg (_ + ·) e).trans ?_
  rw [add_zero]
  refine Finset.sum_congr rfl fun i _ => ?_
  have hlt := i.isLt
  rw [if_pos (by exact hlt)]
  have eh : hi ⟨i.val, by omega⟩ = 0 := Fin.ext (by show i.val / 64 = 0; omega)
  have el : lo ⟨i.val, by omega⟩ = i := Fin.ext (by show i.val % 64 = i.val; omega)
  simp only [eh, el]

theorem score1_eq (q k : Fin 2 → Fin 64 → EReal) (c : EReal) (hq : ∀ j i, IsReal (q j i)) (hk : ∀ j i, IsReal (k j i)) (hc : IsReal c) :
    score1 (fun l => q (hi l) (lo l) * c) (fun l => k (hi l) (lo l)) = (∑ i, q 1 i * k 1 i) * c := by
  rw [← (real_score (hq 1) (hk 1) hc).1]
  unfold score1
  rw [sum_lanes]
  have e : (∑ i : Fin 64, (if (⟨i.val, by have := i.isLt; omega⟩ : Fin 128).val < 64 then 0
      else q (hi ⟨i.val, by have := i.isLt; omega⟩) (lo ⟨i.val, by have := i.isLt; omega⟩) * c)
      * k (hi ⟨i.val, by have := i.isLt; omega⟩) (lo ⟨i.val, by have := i.isLt; omega⟩)) = (0 : EReal) :=
    Finset.sum_eq_zero fun i _ => by rw [if_pos (by exact i.isLt), zero_mul]
  refine (congrArg (· + _) e).trans ?_
  rw [zero_add]
  refine Finset.sum_congr rfl fun i _ => ?_
  have hlt := i.isLt
  rw [if_neg (by show ¬ (64 + i.val < 64); omega)]
  have eh : hi ⟨64 + i.val, by omega⟩ = 1 := Fin.ext (by show (64 + i.val) / 64 = 1; omega)
  have el : lo ⟨64 + i.val, by omega⟩ = i := Fin.ext (by show (64 + i.val) % 64 = i.val; omega)
  simp only [eh, el]

theorem isReal_of_ne {x : EReal} (h1 : x ≠ ⊤) (h2 : x ≠ ⊥) : IsReal x := ⟨x.toReal, (EReal.coe_toReal h1 h2).symm⟩

/-- The weights of a causal row of real scores are real, and their sum is positive. -/
theorem weights {N : Nat} (hN : 0 < N) (p : Nat) (r : Fin N → ℝ) :
    ∃ e : Fin N → ℝ, (∀ k, Ideal.exp (upTo p (fun n => (r n : EReal)) k - top (upTo p fun n => (r n : EReal))) = (e k : EReal))
      ∧ 0 < ∑ k, e k := by
  have hM : IsReal (top (upTo p fun n => (r n : EReal))) := by
    rw [top_eq_sup]
    refine isReal_of_ne (ne_of_lt ?_) (ne_of_gt ?_)
    · refine (Finset.sup_lt_iff (by exact bot_lt_top)).2 fun k _ => ?_
      unfold upTo
      split
      · exact EReal.coe_lt_top _
      · exact bot_lt_top
    · refine lt_of_lt_of_le ?_ (Finset.le_sup (f := upTo p fun n => (r n : EReal)) (Finset.mem_univ ⟨0, hN⟩))
      unfold upTo
      rw [if_pos (Nat.zero_le _)]
      exact EReal.bot_lt_coe _
  obtain ⟨M, hM⟩ := hM
  refine ⟨fun k => if k.val ≤ p then Real.exp (r k - M) else 0, fun k => ?_, ?_⟩
  · rw [hM]
    unfold upTo
    by_cases h : k.val ≤ p
    · simp only [if_pos h]; rw [← EReal.coe_sub, Ideal.exp_coe]
    · simp only [if_neg h]; rw [exp_bot_sub]; rfl
  · refine Finset.sum_pos' (fun k _ => ?_) ⟨⟨0, hN⟩, Finset.mem_univ _, ?_⟩
    · split
      · exact (Real.exp_pos _).le
      · exact le_refl _
    · rw [if_pos (Nat.zero_le _)]; exact Real.exp_pos _

theorem soft_sub {N : Nat} (hN : 0 < N) (p : Nat) (s t v : Fin N → EReal) (lam : EReal) (hs : ∀ k, IsReal (s k)) (ht : ∀ k, IsReal (t k))
    (hv : ∀ k, IsReal (v k)) (hlam : IsReal lam) :
    soft (upTo p s) v - lam * soft (upTo p t) v = ∑ k, v k * (prob (upTo p s) k - lam * prob (upTo p t) k) := by
  obtain ⟨s, rfl⟩ := real_family hs
  obtain ⟨t, rfl⟩ := real_family ht
  obtain ⟨v, rfl⟩ := real_family hv
  obtain ⟨lam, rfl⟩ := hlam
  obtain ⟨e, he, hpos⟩ := weights hN p s
  obtain ⟨f, hf, hpos'⟩ := weights hN p t
  unfold soft prob
  simp only [he, hf, ← EReal.coe_mul, sum_coe, Ideal.div_coe hpos.ne', Ideal.div_coe hpos'.ne', ← EReal.coe_sub]
  refine congrArg _ ?_
  rw [← mul_assoc, Finset.sum_mul, Finset.mul_sum, Finset.sum_mul, ← Finset.sum_sub_distrib]
  exact Finset.sum_congr rfl fun k _ => by ring

theorem real_lamOf (a b c d : Fin 64 → EReal) (ha : ∀ i, IsReal (a i)) (hb : ∀ i, IsReal (b i)) (hc : ∀ i, IsReal (c i))
    (hd : ∀ i, IsReal (d i)) : IsReal (lamOf a b c d) := by
  obtain ⟨a, rfl⟩ := real_family ha
  obtain ⟨b, rfl⟩ := real_family hb
  obtain ⟨c, rfl⟩ := real_family hc
  obtain ⟨d, rfl⟩ := real_family hd
  obtain ⟨z, hz⟩ := real_base
  unfold lamOf
  simp only [hz, ← EReal.coe_mul, sum_coe, Ideal.exp_coe, ← EReal.coe_sub, ← EReal.coe_add]
  exact ⟨_, rfl⟩

/-- The kernel's result is the reference's. -/
theorem value_eq (a0 a1 : FVec Ideal Cert.KernelIdeal.S8x2048x4x2x64 .f32) (a2 : FVec Ideal Cert.KernelIdeal.S8x2048x4x128 .f32)
    (a3 a4 a5 a6 : FVec Ideal Cert.KernelIdeal.S1x64 .f32) (a7 : FVec Ideal Cert.KernelIdeal.S1x128 .f32)
    (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) (b : Fin 8) (s : Fin 2048) (h : Fin 4) (d : Fin 128) :
    kerVal a0 a1 a2 a3 a4 a5 a6 a7 b s h d = refVal a0 a1 a2 a3 a4 a5 a6 a7 b s h d := by
  unfold kerVal refVal attnRow
  refine congrArg (fun o => rms o (fun d => a7 (ix2 0 d)) d) (funext fun d => ?_)
  have e0 : (fun n : Fin 2048 => score0 (fun l => a0 (ix5 b s h (hi l) (lo l)) * Ideal.ofBits .f32 0x3E000000#32)
      (fun l => a1 (ix5 b n h (hi l) (lo l))))
      = fun n => (∑ i : Fin 64, a0 (ix5 b s h 0 i) * a1 (ix5 b n h 0 i)) * Ideal.ofBits .f32 0x3E000000#32 :=
    funext fun n => score0_eq (fun j i => a0 (ix5 b s h j i)) (fun j i => a1 (ix5 b n h j i)) _ (fun _ _ => h0 _) (fun _ _ => h1 _) real_eighth
  have e1 : (fun n : Fin 2048 => score1 (fun l => a0 (ix5 b s h (hi l) (lo l)) * Ideal.ofBits .f32 0x3E000000#32)
      (fun l => a1 (ix5 b n h (hi l) (lo l))))
      = fun n => (∑ i : Fin 64, a0 (ix5 b s h 1 i) * a1 (ix5 b n h 1 i)) * Ideal.ofBits .f32 0x3E000000#32 :=
    funext fun n => score1_eq (fun j i => a0 (ix5 b s h j i)) (fun j i => a1 (ix5 b n h j i)) _ (fun _ _ => h0 _) (fun _ _ => h1 _) real_eighth
  rw [e0, e1]
  exact soft_sub (by decide) s.val _ _ (fun n => a2 (ix4 b n h d)) _
    (fun n => (real_score (fun i => h0 (ix5 b s h 0 i)) (fun i => h1 (ix5 b n h 0 i)) real_eighth).2)
    (fun n => (real_score (fun i => h0 (ix5 b s h 1 i)) (fun i => h1 (ix5 b n h 1 i)) real_eighth).2) (fun _ => h2 _)
    (real_lamOf _ _ _ _ (fun _ => h3 _) (fun _ => h4 _) (fun _ => h5 _) (fun _ => h6 _))

end Attn
-- ==== Proof.MixBody.lean ====
module

public import proofs.«01_k».proof.Proof.Rows
public import proofs.«01_k».proof.Proof.Equation
public import proofs.«01_k».proof.Proof.Gen.Kernel4Ideal.Frame
public import Idealize.ShloMosaic.Lib.Pointwise

/-!
# The output projection: what a block of rows gets

The heads of the scan's output normalised through a table of ones, the bonus and the gate, the product
of the two halves of the mixers with the two halves of the weights, and the next norm.
-/

@[expose] public section

set_option maxRecDepth 16384

noncomputable section

namespace Cert.Kernel4Ideal.Mix

open Cert.Kernel4Ideal Cert.Kernel4Ideal.Gen
open Idealize.ShloMosaic
open Attn (IsReal)

/-! ## A row -/

/-- Feature `k` of the head of column `n`. -/
def hd (n : Fin 512) (k : Fin 64) : Fin 512 := ⟨n.val / 64 * 64 + k.val, by omega⟩

/-- The mean of the head of column `n`. -/
def mean (y : Fin 512 → EReal) (n : Fin 512) : EReal := Ideal.div (∑ k, y (hd n k)) (Ideal.ofBits .f32 0x42800000#32)
def dev (y : Fin 512 → EReal) (n : Fin 512) : EReal := y n - mean y n
def var (y : Fin 512 → EReal) (n : Fin 512) : EReal :=
  Ideal.div (∑ k, dev y (hd n k) * dev y (hd n k)) (Ideal.ofBits .f32 0x42800000#32)

/-- The head's normalised column with its weight and offset, the bonus added, times the gate. -/
def mixed (y w b u g : Fin 512 → EReal) (n : Fin 512) : EReal :=
  (dev y n * Ideal.rsqrt (var y n + Ideal.ofBits .f32 0x3A27C5AC#32) * w n + b n + u n) * g n

/-- The residual and the product of both mixers' columns with the weights. -/
def joined (x : EReal) (od orw : Fin 512 → EReal) (a : Fin 1024 → EReal) : EReal :=
  x + (∑ k : Fin 512, od k * a ⟨k.val, by omega⟩) + ∑ k : Fin 512, orw k * a ⟨512 + k.val, by omega⟩

/-- A row divided by its root mean square and weighted. -/
def unit (x w : Fin 1024 → EReal) (k : Fin 1024) : EReal :=
  x k * Ideal.rsqrt (Ideal.div (∑ j, x j * x j) (Ideal.ofBits .f32 0x44800000#32) + Ideal.ofBits .f32 0x3727C5AC#32) * w k

theorem sixtyfourth : (Ideal.ofBits .f32 0x3C800000#32 : EReal) = ((64⁻¹ : ℝ) : EReal) := by
  simp [Ideal.ofBits, Ideal.ieee]
  rw [← EReal.coe_mul]
  norm_num
theorem sixtyfour : (Ideal.ofBits .f32 0x42800000#32 : EReal) = ((64 : ℝ) : EReal) := by
  simp [Ideal.ofBits, Ideal.ieee]
  rw [← EReal.coe_mul]
  norm_num

theorem mul_sixtyfourth (x : EReal) : x * Ideal.ofBits .f32 0x3C800000#32 = Ideal.div x (Ideal.ofBits .f32 0x42800000#32) := by
  rw [sixtyfourth, sixtyfour]
  unfold Ideal.div
  rw [if_neg (by norm_num), EReal.coe_inv]

/-- A sum against the ones of a head is the sum over the head. -/
theorem sum_head (f : Fin 512 → EReal) (n : Fin 512) :
    (∑ j : Fin 512, f j * (if j.val / 64 = n.val / 64 then 1 else 0)) = ∑ k : Fin 64, f (hd n k) := by
  rw [← Equiv.sum_comp (finProdFinEquiv (m := 8) (n := 64)), Fintype.sum_prod_type]
  have hn := n.isLt
  rw [Finset.sum_eq_single (⟨n.val / 64, by omega⟩ : Fin 8)]
  · refine Finset.sum_congr rfl fun k _ => ?_
    have hk := k.isLt
    have e : (finProdFinEquiv (m := 8) (n := 64) (⟨n.val / 64, by omega⟩, k)) = hd n k := Fin.ext (by
      show k.val + 64 * (n.val / 64) = n.val / 64 * 64 + k.val
      omega)
    rw [e, if_pos (by show (n.val / 64 * 64 + k.val) / 64 = n.val / 64; omega), mul_one]
  · intro h _ hne
    refine Finset.sum_eq_zero fun k _ => ?_
    have hk := k.isLt
    rw [if_neg, mul_zero]
    intro e
    refine hne (Fin.ext ?_)
    have e' : (k.val + 64 * h.val) / 64 = n.val / 64 := e
    show h.val = n.val / 64
    omega
  · intro h
    exact absurd (Finset.mem_univ _) h

/-! ## A head with an infinite entry -/

theorem hd_hd (n : Fin 512) (k k' : Fin 64) : hd (hd n k) k' = hd n k' := Fin.ext (by
  have := k.isLt
  show (n.val / 64 * 64 + k.val) / 64 * 64 + k'.val = n.val / 64 * 64 + k'.val
  omega)

theorem real_add {a b : EReal} (h : IsReal (a + b)) : IsReal a ∧ IsReal b := by
  obtain ⟨r, e⟩ := h
  induction a using EReal.rec with
  | bot => rw [EReal.bot_add] at e; exact absurd e.symm (EReal.coe_ne_bot r)
  | top =>
    induction b using EReal.rec with
    | bot => rw [EReal.add_bot] at e; exact absurd e.symm (EReal.coe_ne_bot r)
    | top => rw [EReal.top_add_top] at e; exact absurd e.symm (EReal.coe_ne_top r)
    | coe b => rw [EReal.top_add_coe] at e; exact absurd e.symm (EReal.coe_ne_top r)
  | coe a =>
    induction b using EReal.rec with
    | bot => rw [EReal.add_bot] at e; exact absurd e.symm (EReal.coe_ne_bot r)
    | top => rw [EReal.coe_add_top] at e; exact absurd e.symm (EReal.coe_ne_top r)
    | coe b => exact ⟨⟨a, rfl⟩, ⟨b, rfl⟩⟩

theorem real_sub {a b : EReal} (h : IsReal (a - b)) : IsReal a ∧ IsReal b := by
  rw [sub_eq_add_neg] at h
  obtain ⟨ha, ⟨v, e⟩⟩ := real_add h
  exact ⟨ha, ⟨-v, by rw [EReal.coe_neg, ← e, neg_neg]⟩⟩

theorem real_sum {ι : Type} {s : Finset ι} {f : ι → EReal} (h : IsReal (∑ k ∈ s, f k)) : ∀ k ∈ s, IsReal (f k) := by
  classical
  induction s using Finset.induction_on with
  | empty => intro k hk; exact absurd hk (Finset.notMem_empty k)
  | insert a s ha ih =>
    rw [Finset.sum_insert ha] at h
    obtain ⟨h0, h1⟩ := real_add h
    intro k hk
    rcases Finset.mem_insert.1 hk with rfl | hk
    · exact h0
    · exact ih h1 k hk

theorem top_sixtyfourth : (⊤ : EReal) * Ideal.ofBits .f32 0x3C800000#32 = ⊤ := by
  rw [sixtyfourth]
  exact EReal.top_mul_coe_of_pos (by norm_num)
theorem bot_sixtyfourth : (⊥ : EReal) * Ideal.ofBits .f32 0x3C800000#32 = ⊥ := by
  rw [sixtyfourth]
  exact EReal.bot_mul_coe_of_pos (by norm_num)

theorem real_mul_sixtyfourth {a : EReal} (h : IsReal (a * Ideal.ofBits .f32 0x3C800000#32)) : IsReal a := by
  obtain ⟨r, e⟩ := h
  induction a using EReal.rec with
  | bot => rw [bot_sixtyfourth] at e; exact absurd e.symm (EReal.coe_ne_bot r)
  | top => rw [top_sixtyfourth] at e; exact absurd e.symm (EReal.coe_ne_top r)
  | coe a => exact ⟨a, rfl⟩

theorem square_inf {d : EReal} (h : ¬ IsReal d) : d * d = ⊤ := by
  induction d using EReal.rec with
  | bot => exact EReal.bot_mul_bot
  | top => exact EReal.top_mul_top
  | coe a => exact absurd ⟨a, rfl⟩ h

theorem sum_top {ι : Type} (s : Finset ι) (hs : s.Nonempty) : (∑ _k ∈ s, (⊤ : EReal)) = ⊤ := by
  classical
  induction hs using Finset.Nonempty.cons_induction with
  | singleton a => rw [Finset.sum_singleton]
  | cons a s ha _ ih => rw [Finset.sum_cons, ih, EReal.top_add_top]

/-- An infinite deviation's variance is infinite, and the quotient by its root is zero. -/
theorem norm_inf (x : EReal) (d : Fin 64 → EReal) (h : ∀ k, ¬ IsReal (d k)) :
    x * Ideal.rsqrt (Ideal.div (∑ k, d k * d k) (Ideal.ofBits .f32 0x42800000#32) + Ideal.ofBits .f32 0x3A27C5AC#32) = 0 := by
  obtain ⟨v, e⟩ : IsReal (Ideal.ofBits .f32 0x3A27C5AC#32) := Attn.isReal_ieee 8 23 0x3A27C5AC#32 (by decide)
  rw [Finset.sum_congr rfl fun k _ => square_inf (h k), sum_top _ ⟨0, Finset.mem_univ 0⟩, ← mul_sixtyfourth, top_sixtyfourth, e, EReal.top_add_coe]
  exact mul_zero x

theorem dev_inf (y : Fin 512 → EReal) (n : Fin 512) (h : ¬ ∀ k, IsReal (y (hd n k))) : ¬ IsReal (dev y n) := by
  intro hd'
  have hm := (real_sub hd').2
  unfold mean at hm
  rw [← mul_sixtyfourth] at hm
  exact h fun k => real_sum (real_mul_sixtyfourth hm) k (Finset.mem_univ k)

/-! ## The block -/

section Mean
variable (ones : Vec Ideal S512x512 .bf16) (y : Vec Ideal S512x512 .f32)

def dotOnes (a : FVec Ideal S512x512 .bf16) : FVec Ideal S512x512 .f32 :=
  matmul (φ₂ := .bf16) dot_S512x512_S512x512_S512x512_1_0_0_1_n_n none a (shapeCast S512x512 ones Facts₀.shapeCasts_S512x512_S512x512) (constant S512x512 .f32 0x00000000#32)

def meanV : FVec Ideal S512x512 .f32 :=
  mulf (addf (dotOnes ones (truncf .bf16 y Facts₀.bitsLt_bf16_f32))
    (dotOnes ones (truncf .bf16 (subf y (extf .f32 (truncf .bf16 y Facts₀.bitsLt_bf16_f32) Facts₀.bitsLt_bf16_f32)) Facts₀.bitsLt_bf16_f32)))
    (broadcast S512x512 (Scalar.ofBits .f32 0x3C800000#32))
def devV : FVec Ideal S512x512 .f32 := subf y (meanV ones y)
def varV : FVec Ideal S512x512 .f32 :=
  mulf (dotOnes ones (truncf .bf16 (mulf (devV ones y) (devV ones y)) Facts₀.bitsLt_bf16_f32)) (broadcast S512x512 (Scalar.ofBits .f32 0x3C800000#32))

variable (hones : ∀ j n : Fin 512, ones (ix2 j n) = if j.val / 64 = n.val / 64 then (1 : EReal) else 0)
include hones

theorem dotOnes_apply (a : FVec Ideal S512x512 .bf16) (r n : Fin 512) :
    dotOnes ones a (ix2 r n) = ∑ k : Fin 64, (a (ix2 r (hd n k)) : EReal) := by
  unfold dotOnes
  refine (Attn.plain_apply (φ₁ := .bf16) (φ₂ := .bf16) _ _ r n).trans ?_
  refine Eq.trans (Finset.sum_congr rfl fun j _ => ?_) (sum_head (fun j => a (ix2 r j)) n)
  refine congrArg₂ (fun a b : EReal => a * b) rfl ?_
  rw [shapeCast_self]
  exact hones j n

/-- At a head of real numbers the mean is the kernel's: the remainders of the split are zero. -/
theorem meanV_apply (r n : Fin 512) (hy : ∀ k, IsReal (y (ix2 r (hd n k)))) : meanV ones y (ix2 r n) = mean (fun j => y (ix2 r j)) n := by
  have z : dotOnes ones (truncf .bf16 (subf y (extf .f32 (truncf .bf16 y Facts₀.bitsLt_bf16_f32) Facts₀.bitsLt_bf16_f32)) Facts₀.bitsLt_bf16_f32) (ix2 r n) = 0 := by
    rw [dotOnes_apply ones hones]
    refine Finset.sum_eq_zero fun k _ => ?_
    show (y (ix2 r (hd n k)) : EReal) - y (ix2 r (hd n k)) = 0
    obtain ⟨v, e⟩ := hy k
    rw [e, ← EReal.coe_sub, sub_self, EReal.coe_zero]
  show (dotOnes ones (truncf .bf16 y Facts₀.bitsLt_bf16_f32) (ix2 r n)
    + dotOnes ones (truncf .bf16 (subf y (extf .f32 (truncf .bf16 y Facts₀.bitsLt_bf16_f32) Facts₀.bitsLt_bf16_f32)) Facts₀.bitsLt_bf16_f32) (ix2 r n) : EReal)
    * Ideal.ofBits .f32 0x3C800000#32 = _
  rw [z, add_zero, dotOnes_apply ones hones, mul_sixtyfourth]
  rfl

/-- At a head with an infinite entry the kernel's mean is infinite too. -/
theorem meanV_inf (r n : Fin 512) (hy : ¬ ∀ k, IsReal (y (ix2 r (hd n k)))) : ¬ IsReal (meanV ones y (ix2 r n)) := by
  intro h
  have h' : IsReal ((dotOnes ones (truncf .bf16 y Facts₀.bitsLt_bf16_f32) (ix2 r n)
    + dotOnes ones (truncf .bf16 (subf y (extf .f32 (truncf .bf16 y Facts₀.bitsLt_bf16_f32) Facts₀.bitsLt_bf16_f32)) Facts₀.bitsLt_bf16_f32) (ix2 r n) : EReal)
    * Ideal.ofBits .f32 0x3C800000#32) := h
  have h1 := (real_add (real_mul_sixtyfourth h')).1
  rw [dotOnes_apply ones hones] at h1
  exact hy fun k => real_sum h1 k (Finset.mem_univ k)

theorem devV_inf (r n : Fin 512) (hy : ¬ ∀ k, IsReal (y (ix2 r (hd n k)))) : ¬ IsReal (devV ones y (ix2 r n)) := fun h =>
  meanV_inf ones y hones r n hy (real_sub (a := y (ix2 r n)) h).2

theorem varV_eq (r n : Fin 512) : varV ones y (ix2 r n)
    = Ideal.div (∑ k, devV ones y (ix2 r (hd n k)) * devV ones y (ix2 r (hd n k))) (Ideal.ofBits .f32 0x42800000#32) := by
  show (dotOnes ones (truncf .bf16 (mulf (devV ones y) (devV ones y)) Facts₀.bitsLt_bf16_f32) (ix2 r n) : EReal) * Ideal.ofBits .f32 0x3C800000#32 = _
  rw [dotOnes_apply ones hones, mul_sixtyfourth]
  rfl

/-- The normalised column, at any row: at an infinite head both sides are zero. -/
theorem norm_apply (r n : Fin 512) :
    devV ones y (ix2 r n) * Ideal.rsqrt (varV ones y (ix2 r n) + Ideal.ofBits .f32 0x3A27C5AC#32)
      = dev (fun j => y (ix2 r j)) n * Ideal.rsqrt (var (fun j => y (ix2 r j)) n + Ideal.ofBits .f32 0x3A27C5AC#32) := by
  rw [varV_eq ones y hones]
  unfold var
  by_cases hy : ∀ k, IsReal (y (ix2 r (hd n k)))
  · have d : ∀ n', (∀ k, IsReal (y (ix2 r (hd n' k)))) → devV ones y (ix2 r n') = dev (fun j => y (ix2 r j)) n' := fun n' h =>
      congrArg (fun a : EReal => y (ix2 r n') - a) (meanV_apply ones y hones r n' h)
    rw [d n hy]
    have e : ∀ k, devV ones y (ix2 r (hd n k)) = dev (fun j => y (ix2 r j)) (hd n k) := fun k => d _ fun k' => by rw [hd_hd]; exact hy k'
    simp only [e]
  · rw [norm_inf _ _ fun k => devV_inf ones y hones r (hd n k) (by simp only [hd_hd]; exact hy),
      norm_inf _ _ fun k => dev_inf _ _ (by simp only [hd_hd]; exact hy)]

variable (r : Fin 512)

theorem pay1_apply (w b : Vec Ideal S1x512 .f32) (u g : Vec Ideal S512x512 .f32) (n : Fin 512) :
    k0_pay1 (F := Ideal) ones y w b u g (ix2 r n)
      = mixed (fun j => y (ix2 r j)) (fun j => w (ix2 (0 : Fin 1) j)) (fun j => b (ix2 (0 : Fin 1) j)) (fun j => u (ix2 r j)) (fun j => g (ix2 r j)) n := by
  have e : k0_pay1 (F := Ideal) ones y w b u g = truncf .bf16 (mulf (addf (addf (mulf (mulf (devV ones y)
      (rsqrt (addf (varV ones y) (broadcast S512x512 (Scalar.ofBits .f32 0x3A27C5AC#32)))))
      (broadcastTo S512x512 (shapeCast S1x512 w Facts₀.shapeCasts_S1x512_S1x512) Facts₀.broadcasts_S1x512_S512x512))
      (broadcastTo S512x512 (shapeCast S1x512 b Facts₀.shapeCasts_S1x512_S1x512) Facts₀.broadcasts_S1x512_S512x512)) u) g) Facts₀.bitsLt_bf16_f32 := rfl
  have d := norm_apply ones y hones r n
  rw [e]
  unfold mixed
  rw [← d]
  generalize devV ones y = D
  generalize varV ones y = V
  pointwise
  try rfl

end Mean

theorem pay2_apply (o : FVec Ideal S512x512 .bf16) (x : Vec Ideal S512x1024 .f32) (d : Vec Ideal S512x512 .bf16) (a₀ a₁ : Vec Ideal S512x1024 .bf16)
    (r : Fin 512) (n : Fin 1024) :
    k0_pay2 (F := Ideal) o x d a₀ a₁ (ix2 r n)
      = x (ix2 r n) + (∑ k : Fin 512, (d (ix2 r k) : EReal) * a₀ (ix2 k n)) + ∑ k : Fin 512, (o (ix2 r k) : EReal) * a₁ (ix2 k n) := by
  unfold k0_pay2
  rw [shapeCast_self, shapeCast_self]
  refine congrArg₂ (fun a b : EReal => a + b) (congrArg (fun b : EReal => x (ix2 r n) + b) ?_) ?_
  · exact Attn.plain_apply (φ₁ := .bf16) (φ₂ := .bf16) _ _ r n
  · exact Attn.plain_apply (φ₁ := .bf16) (φ₂ := .bf16) _ _ r n

theorem pay4_apply (o : FVec Ideal S512x512 .bf16) (x : Vec Ideal S512x1024 .f32) (d : Vec Ideal S512x512 .bf16) (a₀ a₁ : Vec Ideal S512x1024 .bf16)
    (w : Vec Ideal S1x1024 .f32) (r : Fin 512) (n : Fin 1024) :
    k0_pay4 (F := Ideal) o x d a₀ a₁ w (ix2 r n)
      = unit (fun j => k0_pay2 (F := Ideal) o x d a₀ a₁ (ix2 r j)) (fun j => w (ix2 (0 : Fin 1) j)) n := by
  unfold k0_pay4 k0_pay3
  generalize k0_pay2 (F := Ideal) o x d a₀ a₁ = H
  pointwise [unit]
  try rfl

section Block
variable (x0 : Vec Ideal S512x512 .bf16) (x1 : Vec Ideal S512x512 .f32) (x2 x3 : Vec Ideal S512x512 .bf16) (x4 : Vec Ideal S512x1024 .f32) (x5 x6 : Vec Ideal S1x512 .f32)
  (x7 : Vec Ideal S512x512 .bf16) (x8 : Vec Ideal S1024x1024 .bf16) (x9 : Vec Ideal S1x1024 .f32) (x10 : Vec Ideal S1024x256 .bf16) (x11 : Vec Ideal S1x128 .f32)

theorem ld0 {e : EltTy} (x : Vec Ideal S512x512 e) : View.ld x r0_0 = x := View.ld_unit_zero (by funext a; match a with | ⟨0, _⟩ => rfl | ⟨1, _⟩ => rfl) _ x
theorem ld1 (x : Vec Ideal S1x512 .f32) : View.ld x r0_1 = x := View.ld_unit_zero (by funext a; match a with | ⟨0, _⟩ => rfl | ⟨1, _⟩ => rfl) _ x
theorem ld2 (x : Vec Ideal S512x1024 .f32) : View.ld x r0_2 = x := View.ld_unit_zero (by funext a; match a with | ⟨0, _⟩ => rfl | ⟨1, _⟩ => rfl) _ x
theorem ld5 (x : Vec Ideal S1x1024 .f32) : View.ld x r0_5 = x := View.ld_unit_zero (by funext a; match a with | ⟨0, _⟩ => rfl | ⟨1, _⟩ => rfl) _ x
theorem ld3 (k : Fin 512) (n : Fin 1024) : View.ld x8 r0_3 (ix2 k n) = x8 (ix2 (⟨k.val, by omega⟩ : Fin 1024) n) := by
  refine congrArg x8 (funext fun a => Fin.ext ?_)
  match a with
  | ⟨0, _⟩ => exact (Nat.zero_add _).trans (Nat.one_mul _)
  | ⟨1, _⟩ => exact (Nat.zero_add _).trans (Nat.one_mul _)
theorem ld4 (k : Fin 512) (n : Fin 1024) : View.ld x8 r0_4 (ix2 k n) = x8 (ix2 (⟨512 + k.val, by omega⟩ : Fin 1024) n) := by
  refine congrArg x8 (funext fun a => Fin.ext ?_)
  match a with
  | ⟨0, _⟩ => exact congrArg (512 + ·) (Nat.one_mul _)
  | ⟨1, _⟩ => exact (Nat.zero_add _).trans (Nat.one_mul _)

variable (hones : ∀ j n : Fin 512, x7 (ix2 j n) = if j.val / 64 = n.val / 64 then (1 : EReal) else 0)
  (r : Fin 512)
include hones

/-- Row `r` of the block's result, at column `n`. -/
def rowOut (r : Fin 512) (n : Fin 1024) : EReal :=
  joined (x4 (ix2 r n)) (fun k => x0 (ix2 r k))
    (mixed (fun j => x1 (ix2 r j)) (fun j => x5 (ix2 (0 : Fin 1) j)) (fun j => x6 (ix2 (0 : Fin 1) j)) (fun j => x3 (ix2 r j)) (fun j => x2 (ix2 r j)))
    (fun k => x8 (ix2 k n))

theorem pay2_row (n : Fin 1024) :
    k0_pay2 (F := Ideal) (k0_pay39 x0 x1 x2 x3 x4 x5 x6 x7 x8 x9 x10 x11) (View.ld x4 r0_2) (View.ld x0 r0_0) (View.ld x8 r0_3) (View.ld x8 r0_4) (ix2 r n)
      = rowOut x0 x1 x2 x3 x4 x5 x6 x8 r n := by
  rw [pay2_apply, ld2, ld0]
  unfold rowOut joined k0_pay39
  refine congrArg₂ (fun a b : EReal => a + b) (congrArg (fun b : EReal => x4 (ix2 r n) + b) ?_) ?_
  · refine Finset.sum_congr rfl fun k _ => ?_
    rw [ld3]
  · refine Finset.sum_congr rfl fun k _ => ?_
    rw [ld4, ld0, ld0, ld0, ld0, ld1, ld1, pay1_apply x7 x1 hones r]

theorem out12_apply (n : Fin 1024) : out0_12 x0 x1 x2 x3 x4 x5 x6 x7 x8 x9 x10 x11 (ix2 r n) = rowOut x0 x1 x2 x3 x4 x5 x6 x8 r n := by
  unfold out0_12
  rw [View.canon_unit_zero (by funext a; match a with | ⟨0, _⟩ => rfl | ⟨1, _⟩ => rfl)]
  exact pay2_row x0 x1 x2 x3 x4 x5 x6 x7 x8 x9 x10 x11 hones r n

theorem out13_apply (n : Fin 1024) : out0_13 x0 x1 x2 x3 x4 x5 x6 x7 x8 x9 x10 x11 (ix2 r n)
    = unit (rowOut x0 x1 x2 x3 x4 x5 x6 x8 r) (fun j => x9 (ix2 (0 : Fin 1) j)) n := by
  unfold out0_13
  rw [View.canon_unit_zero (by funext a; match a with | ⟨0, _⟩ => rfl | ⟨1, _⟩ => rfl)]
  rw [pay4_apply, ld5]
  exact congrArg (fun h => unit h _ n) (funext fun j => pay2_row x0 x1 x2 x3 x4 x5 x6 x7 x8 x9 x10 x11 hones r j)

end Block

end Cert.Kernel4Ideal.Mix

end
-- ==== Proof.MixHost.lean ====
module

public import proofs.«01_k».proof.Proof.MixBody
public import Idealize.ShloMosaic.Lib.IdealHost
public import Idealize.ShloMosaic.Lib.StableHlo.RunRead

/-!
# The output projection's operands, as the host lays them out

The table of ones over the heads and the weights.
-/

@[expose] public section

set_option maxRecDepth 16384

noncomputable section

namespace Cert.Kernel4Ideal.Mix

open Cert.Kernel4Ideal Cert.Kernel4Ideal.Gen
open Idealize.ShloMosaic Idealize.ShloMosaic.TcCoe Idealize.SL.Sem

/-- The head of each column: its place divided by 64. -/
def heads : IVec S512 32 :=
  select
    (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem heads_apply : ∀ j : Fin 512, heads (ix1 j) = BitVec.ofNat 32 (j.val / 64) := by
  decide +kernel

def onesV : FVec Ideal S512x512 .bf16 :=
  uitofp .bf16 (cmpi .eq
    (broadcastInDim S512x512 ![0, 1] bcast_S512x1_S512x512_0_1 (broadcastInDim S512x1 ![0] bcast_S512_S512x1_0 heads))
    (broadcastInDim S512x512 ![0, 1] bcast_S1x512_S512x512_0_1 (broadcastInDim S1x512 ![1] bcast_S512_S1x512_1 heads)))

theorem onesV_apply (j n : Fin 512) : onesV (ix2 j n) = if j.val / 64 = n.val / 64 then (1 : EReal) else 0 := by
  have e : onesV (ix2 j n) = ((((IntOp.cmpi .eq (heads (ix1 j)) (heads (ix1 n))).toNat : ℝ)) : EReal) := by
    unfold onesV
    generalize heads = H
    pointwise
    try rfl
  rw [e, heads_apply, heads_apply]
  have hj := j.isLt
  have hn := n.isLt
  by_cases h : j.val / 64 = n.val / 64
  · rw [if_pos h, h]
    simp [IntOp.cmpi]
  · rw [if_neg h]
    have h' : ¬ (BitVec.ofNat 32 (j.val / 64) = BitVec.ofNat 32 (n.val / 64)) := by
      intro e
      have e' := congrArg BitVec.toNat e
      simp only [BitVec.toNat_ofNat] at e'
      omega
    simp [IntOp.cmpi, h']

section Memory
variable (m : (ℓ : Loc nD τ sig) → Buf (Elt Ideal) ℓ) (c : Dev nD)

abbrev argO : FVec Ideal S16384x512 .bf16 := m ((c : Thread nD τ).loc main_arg0)
abbrev argY : FVec Ideal S16384x512 .f32 := m ((c : Thread nD τ).loc main_arg1)
abbrev argG : FVec Ideal S16384x512 .bf16 := m ((c : Thread nD τ).loc main_arg2)
abbrev argU : FVec Ideal S16384x512 .bf16 := m ((c : Thread nD τ).loc main_arg3)
abbrev argX : FVec Ideal S16384x1024 .f32 := m ((c : Thread nD τ).loc main_arg4)
abbrev argLw : FVec Ideal S1x512 .f32 := m ((c : Thread nD τ).loc main_arg5)
abbrev argLb : FVec Ideal S1x512 .f32 := m ((c : Thread nD τ).loc main_arg6)
abbrev argW : FVec Ideal S1x1024x1024 .f32 := m ((c : Thread nD τ).loc main_arg7)
abbrev argN : FVec Ideal S1x1024 .f32 := m ((c : Thread nD τ).loc main_arg8)

theorem V_ones : V m c main_v7 = onesV := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append]
  after_reads_simp
  rfl
theorem V_lw : V m c main_v21 = shapeCast S1x512 (shapeCast S512 (argLw m c) shapeCasts_S1x512_S512) shapeCasts_S512_S1x512 := by
  show StableHlo.after (List.flatten [hostOps0, hostOps0_1, hostOps0_2]) (fun b => m (c, b)) (Proc.devRef .tc main_v21) = _
  simp only [hostOps0, hostOps0_1, hostOps0_2, List.flatten_cons, List.flatten_nil, List.append_nil, List.cons_append, List.nil_append]
  after_reads_simp
  rfl
theorem V_lb : V m c main_v23 = shapeCast S1x512 (shapeCast S512 (argLb m c) shapeCasts_S1x512_S512) shapeCasts_S512_S1x512 := by
  show StableHlo.after (List.flatten [hostOps0, hostOps0_1, hostOps0_2]) (fun b => m (c, b)) (Proc.devRef .tc main_v23) = _
  simp only [hostOps0, hostOps0_1, hostOps0_2, List.flatten_cons, List.flatten_nil, List.append_nil, List.cons_append, List.nil_append]
  after_reads_simp
  rfl
theorem V_w : V m c main_v25 = truncf .bf16 (shapeCast S1024x1024 (argW m c) shapeCasts_S1x1024x1024_S1024x1024) bitsLt_bf16_f32 := by
  show StableHlo.after (List.flatten [hostOps0, hostOps0_1, hostOps0_2]) (fun b => m (c, b)) (Proc.devRef .tc main_v25) = _
  simp only [hostOps0, hostOps0_1, hostOps0_2, List.flatten_cons, List.flatten_nil, List.append_nil, List.cons_append, List.nil_append]
  after_reads_simp
  rfl
theorem V_n : V m c main_v27 = shapeCast S1x1024 (shapeCast S1024 (argN m c) shapeCasts_S1x1024_S1024) shapeCasts_S1024_S1x1024 := by
  show StableHlo.after (List.flatten [hostOps0, hostOps0_1, hostOps0_2]) (fun b => m (c, b)) (Proc.devRef .tc main_v27) = _
  simp only [hostOps0, hostOps0_1, hostOps0_2, List.flatten_cons, List.flatten_nil, List.append_nil, List.cons_append, List.nil_append]
  after_reads_simp
  rfl

end Memory

end Cert.Kernel4Ideal.Mix

end
-- ==== Proof.MixArray.lean ====
module

public import proofs.«01_k».proof.Proof.MixHost
public import proofs.«01_k».proof.Proof.MixBlocks

/-! # The output projection's result arrays, read at an index -/

@[expose] public section

set_option maxRecDepth 16384

noncomputable section

namespace Cert.Kernel4Ideal.Mix

open Cert.Kernel4Ideal Cert.Kernel4Ideal.Gen
open Idealize.ShloMosaic Idealize.ShloMosaic.TcCoe Idealize.SL.Sem

/-- Row `i` of the residual after the mixers, at column `n`. -/
def hrow (O : FVec Ideal S16384x512 .bf16) (Y : FVec Ideal S16384x512 .f32) (G U : FVec Ideal S16384x512 .bf16) (X : FVec Ideal S16384x1024 .f32) (Lw Lb : FVec Ideal S1x512 .f32)
    (W : FVec Ideal S1x1024x1024 .f32) (i : Fin 16384) (n : Fin 1024) : EReal :=
  joined (X (ix2 i n)) (fun k => O (ix2 i k))
    (mixed (fun j => Y (ix2 i j)) (fun j => Lw (ix2 (0 : Fin 1) j)) (fun j => Lb (ix2 (0 : Fin 1) j)) (fun j => U (ix2 i j)) (fun j => G (ix2 i j)))
    (fun k => W (ix3 (0 : Fin 1) k n))

/-- Where the windows stand at a grid point: 512 rows of the mixers, of the residual and of the results; the weights whole. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The grid point of block `q`, and row `r` of that block. -/
def pt (q : Fin 32) : Fin cfg0.N := ⟨q.val, q.isLt⟩
def row (q : Fin 32) (r : Fin 512) : Fin 16384 := ⟨q.val * 512 + r.val, by omega⟩
theorem pt_val (q : Fin 32) : (pt q).val = q.val := rfl

theorem emb0 (q : Fin 32) (r : Fin 512) (n : Fin 512) : ((cfg0.win 0).blk (pt q)).view.emb (ix2 r n) = ix2 (row q r) n := by
  obtain ⟨⟨e0, e1⟩, _⟩ := idx_facts (pt q)
  have d := pt_val q
  funext a; apply Fin.ext
  match a with
  | ⟨0, _⟩ => show win0_0.index (pt q) (0 : Fin 2) * 512 + 1 * r.val = q.val * 512 + r.val; omega
  | ⟨1, _⟩ => show win0_0.index (pt q) (1 : Fin 2) * 512 + 1 * n.val = n.val; omega
theorem emb1 (q : Fin 32) (r : Fin 512) (n : Fin 512) : ((cfg0.win 1).blk (pt q)).view.emb (ix2 r n) = ix2 (row q r) n := by
  obtain ⟨_, ⟨e0, e1⟩, _⟩ := idx_facts (pt q)
  have d := pt_val q
  funext a; apply Fin.ext
  match a with
  | ⟨0, _⟩ => show win0_1.index (pt q) (0 : Fin 2) * 512 + 1 * r.val = q.val * 512 + r.val; omega
  | ⟨1, _⟩ => show win0_1.index (pt q) (1 : Fin 2) * 512 + 1 * n.val = n.val; omega
theorem emb2 (q : Fin 32) (r : Fin 512) (n : Fin 512) : ((cfg0.win 2).blk (pt q)).view.emb (ix2 r n) = ix2 (row q r) n := by
  obtain ⟨_, _, ⟨e0, e1⟩, _⟩ := idx_facts (pt q)
  have d := pt_val q
  funext a; apply Fin.ext
  match a with
  | ⟨0, _⟩ => show win0_2.index (pt q) (0 : Fin 2) * 512 + 1 * r.val = q.val * 512 + r.val; omega
  | ⟨1, _⟩ => show win0_2.index (pt q) (1 : Fin 2) * 512 + 1 * n.val = n.val; omega
theorem emb3 (q : Fin 32) (r : Fin 512) (n : Fin 512) : ((cfg0.win 3).blk (pt q)).view.emb (ix2 r n) = ix2 (row q r) n := by
  obtain ⟨_, _, _, ⟨e0, e1⟩, _⟩ := idx_facts (pt q)
  have d := pt_val q
  funext a; apply Fin.ext
  match a with
  | ⟨0, _⟩ => show win0_3.index (pt q) (0 : Fin 2) * 512 + 1 * r.val = q.val * 512 + r.val; omega
  | ⟨1, _⟩ => show win0_3.index (pt q) (1 : Fin 2) * 512 + 1 * n.val = n.val; omega
theorem emb4 (q : Fin 32) (r : Fin 512) (n : Fin 1024) : ((cfg0.win 4).blk (pt q)).view.emb (ix2 r n) = ix2 (row q r) n := by
  obtain ⟨_, _, _, _, ⟨e0, e1⟩, _⟩ := idx_facts (pt q)
  have d := pt_val q
  funext a; apply Fin.ext
  match a with
  | ⟨0, _⟩ => show win0_4.index (pt q) (0 : Fin 2) * 512 + 1 * r.val = q.val * 512 + r.val; omega
  | ⟨1, _⟩ => show win0_4.index (pt q) (1 : Fin 2) * 1024 + 1 * n.val = n.val; omega
theorem emb5 (q : Fin 32) (r : Fin 1) (n : Fin 512) : ((cfg0.win 5).blk (pt q)).view.emb (ix2 r n) = ix2 r n := by
  obtain ⟨_, _, _, _, _, ⟨e0, e1⟩, _⟩ := idx_facts (pt q)
  funext a; apply Fin.ext
  match a with
  | ⟨0, _⟩ => show win0_5.index (pt q) (0 : Fin 2) * 1 + 1 * r.val = r.val; omega
  | ⟨1, _⟩ => show win0_5.index (pt q) (1 : Fin 2) * 512 + 1 * n.val = n.val; omega
theorem emb6 (q : Fin 32) (r : Fin 1) (n : Fin 512) : ((cfg0.win 6).blk (pt q)).view.emb (ix2 r n) = ix2 r n := by
  obtain ⟨_, _, _, _, _, _, ⟨e0, e1⟩, _⟩ := idx_facts (pt q)
  funext a; apply Fin.ext
  match a with
  | ⟨0, _⟩ => show win0_6.index (pt q) (0 : Fin 2) * 1 + 1 * r.val = r.val; omega
  | ⟨1, _⟩ => show win0_6.index (pt q) (1 : Fin 2) * 512 + 1 * n.val = n.val; omega
theorem emb7 (q : Fin 32) (r : Fin 512) (n : Fin 512) : ((cfg0.win 7).blk (pt q)).view.emb (ix2 r n) = ix2 r n := by
  obtain ⟨_, _, _, _, _, _, _, ⟨e0, e1⟩, _⟩ := idx_facts (pt q)
  funext a; apply Fin.ext
  match a with
  | ⟨0, _⟩ => show win0_7.index (pt q) (0 : Fin 2) * 512 + 1 * r.val = r.val; omega
  | ⟨1, _⟩ => show win0_7.index (pt q) (1 : Fin 2) * 512 + 1 * n.val = n.val; omega
theorem emb8 (q : Fin 32) (r : Fin 1024) (n : Fin 1024) : ((cfg0.win 8).blk (pt q)).view.emb (ix2 r n) = ix2 r n := by
  obtain ⟨_, _, _, _, _, _, _, _, ⟨e0, e1⟩, _⟩ := idx_facts (pt q)
  funext a; apply Fin.ext
  match a with
  | ⟨0, _⟩ => show win0_8.index (pt q) (0 : Fin 2) * 1024 + 1 * r.val = r.val; omega
  | ⟨1, _⟩ => show win0_8.index (pt q) (1 : Fin 2) * 1024 + 1 * n.val = n.val; omega
theorem emb9 (q : Fin 32) (r : Fin 1) (n : Fin 1024) : ((cfg0.win 9).blk (pt q)).view.emb (ix2 r n) = ix2 r n := by
  obtain ⟨_, _, _, _, _, _, _, _, _, ⟨e0, e1⟩, _⟩ := idx_facts (pt q)
  funext a; apply Fin.ext
  match a with
  | ⟨0, _⟩ => show win0_9.index (pt q) (0 : Fin 2) * 1 + 1 * r.val = r.val; omega
  | ⟨1, _⟩ => show win0_9.index (pt q) (1 : Fin 2) * 1024 + 1 * n.val = n.val; omega
theorem emb12 (q : Fin 32) (r : Fin 512) (n : Fin 1024) : ((cfg0.win 12).blk (pt q)).view.emb (ix2 r n) = ix2 (row q r) n := by
  obtain ⟨_, _, _, _, _, _, _, _, _, _, ⟨e0, e1⟩, _⟩ := idx_facts (pt q)
  have d := pt_val q
  funext a; apply Fin.ext
  match a with
  | ⟨0, _⟩ => show win0_12.index (pt q) (0 : Fin 2) * 512 + 1 * r.val = q.val * 512 + r.val; omega
  | ⟨1, _⟩ => show win0_12.index (pt q) (1 : Fin 2) * 1024 + 1 * n.val = n.val; omega
theorem emb13 (q : Fin 32) (r : Fin 512) (n : Fin 1024) : ((cfg0.win 13).blk (pt q)).view.emb (ix2 r n) = ix2 (row q r) n := by
  obtain ⟨_, _, _, _, _, _, _, _, _, _, _, ⟨e0, e1⟩⟩ := idx_facts (pt q)
  have d := pt_val q
  funext a; apply Fin.ext
  match a with
  | ⟨0, _⟩ => show win0_13.index (pt q) (0 : Fin 2) * 512 + 1 * r.val = q.val * 512 + r.val; omega
  | ⟨1, _⟩ => show win0_13.index (pt q) (1 : Fin 2) * 1024 + 1 * n.val = n.val; omega

section Memory
variable (m : (ℓ : Loc nD τ sig) → Buf (Elt Ideal) ℓ) (c : Dev nD) (q : Fin 32)

theorem blk0 (r : Fin 512) (j : Fin 512) : iblk m c 0 (pt q) (ix2 r j) = argO m c (ix2 (row q r) j) := by
  show V m c main_arg0 (((cfg0.win 0).blk (pt q)).view.emb (ix2 r j)) = _
  rw [emb0, V_main_arg0]
theorem blk1 (r : Fin 512) (j : Fin 512) : iblk m c 1 (pt q) (ix2 r j) = argY m c (ix2 (row q r) j) := by
  show V m c main_arg1 (((cfg0.win 1).blk (pt q)).view.emb (ix2 r j)) = _
  rw [emb1, V_main_arg1]
theorem blk2 (r : Fin 512) (j : Fin 512) : iblk m c 2 (pt q) (ix2 r j) = argG m c (ix2 (row q r) j) := by
  show V m c main_arg2 (((cfg0.win 2).blk (pt q)).view.emb (ix2 r j)) = _
  rw [emb2, V_main_arg2]
theorem blk3 (r : Fin 512) (j : Fin 512) : iblk m c 3 (pt q) (ix2 r j) = argU m c (ix2 (row q r) j) := by
  show V m c main_arg3 (((cfg0.win 3).blk (pt q)).view.emb (ix2 r j)) = _
  rw [emb3, V_main_arg3]
theorem blk4 (r : Fin 512) (j : Fin 1024) : iblk m c 4 (pt q) (ix2 r j) = argX m c (ix2 (row q r) j) := by
  show V m c main_arg4 (((cfg0.win 4).blk (pt q)).view.emb (ix2 r j)) = _
  rw [emb4, V_main_arg4]
theorem blk5 (j : Fin 512) : iblk m c 5 (pt q) (ix2 (0 : Fin 1) j) = argLw m c (ix2 (0 : Fin 1) j) := by
  show V m c main_v21 (((cfg0.win 5).blk (pt q)).view.emb (ix2 (0 : Fin 1) j)) = _
  rw [emb5, V_lw]
  exact congrFun (shapeCast_shapeCast (argLw m c) _ _) _
theorem blk6 (j : Fin 512) : iblk m c 6 (pt q) (ix2 (0 : Fin 1) j) = argLb m c (ix2 (0 : Fin 1) j) := by
  show V m c main_v23 (((cfg0.win 6).blk (pt q)).view.emb (ix2 (0 : Fin 1) j)) = _
  rw [emb6, V_lb]
  exact congrFun (shapeCast_shapeCast (argLb m c) _ _) _
theorem blk9 (j : Fin 1024) : iblk m c 9 (pt q) (ix2 (0 : Fin 1) j) = argN m c (ix2 (0 : Fin 1) j) := by
  show V m c main_v27 (((cfg0.win 9).blk (pt q)).view.emb (ix2 (0 : Fin 1) j)) = _
  rw [emb9, V_n]
  exact congrFun (shapeCast_shapeCast (argN m c) _ _) _
theorem blk7 (j n : Fin 512) : iblk m c 7 (pt q) (ix2 j n) = if j.val / 64 = n.val / 64 then (1 : EReal) else 0 := by
  show V m c main_v7 (((cfg0.win 7).blk (pt q)).view.emb (ix2 j n)) = _
  rw [emb7, V_ones]
  exact onesV_apply j n
theorem blk8 (k n : Fin 1024) : iblk m c 8 (pt q) (ix2 k n) = argW m c (ix3 (0 : Fin 1) k n) := by
  show V m c main_v25 (((cfg0.win 8).blk (pt q)).view.emb (ix2 k n)) = _
  rw [emb8, V_w]
  show shapeCast S1024x1024 (argW m c) shapeCasts_S1x1024x1024_S1024x1024 (ix2 k n) = _
  refine shapeCast_apply (argW m c) _ _ _ ?_
  rw [Shape.rowMajor_val_three, Shape.rowMajor_val_two]
  show (0 * 1024 + k.val) * 1024 + n.val = k.val * 1024 + n.val
  omega

theorem row_apply (r : Fin 512) (n : Fin 1024) : rowOut (iblk m c 0 (pt q)) (iblk m c 1 (pt q)) (iblk m c 2 (pt q)) (iblk m c 3 (pt q)) (iblk m c 4 (pt q)) (iblk m c 5 (pt q)) (iblk m c 6 (pt q)) (iblk m c 8 (pt q)) r n
    = hrow (argO m c) (argY m c) (argG m c) (argU m c) (argX m c) (argLw m c) (argLb m c) (argW m c) (row q r) n := by
  unfold rowOut hrow
  rw [blk4]
  simp only [blk0, blk1, blk2, blk3, blk5, blk6, blk8]

theorem final12 (r : Fin 512) (n : Fin 1024) : (dats m 0 c).arrAt 12 cfg0.N (ix2 (row q r) n)
    = hrow (argO m c) (argY m c) (argG m c) (argU m c) (argX m c) (argLw m c) (argLb m c) (argW m c) (row q r) n := by
  have e := Cert.Kernel4Ideal.Value.blocks12 m c (pt q) (flush0_12 (pt q))
  rw [Cert.Kernel4Ideal.Value.flushed12] at e
  have e' := congrFun e (ix2 r n)
  have e1 : ((cfg0.win 12).blk (pt q)).view.read (Elt Ideal) ((dats m 0 c).arrAt 12 cfg0.N) (ix2 r n)
      = (dats m 0 c).arrAt 12 cfg0.N (ix2 (row q r) n) := by
    show (dats m 0 c).arrAt 12 cfg0.N (((cfg0.win 12).blk (pt q)).view.emb (ix2 r n)) = _
    rw [emb12]
  refine e1.symm.trans (e'.trans ?_)
  refine Eq.trans (b := out0_12 (iblk m c 0 (pt q)) (iblk m c 1 (pt q)) (iblk m c 2 (pt q)) (iblk m c 3 (pt q)) (iblk m c 4 (pt q)) (iblk m c 5 (pt q)) (iblk m c 6 (pt q)) (iblk m c 7 (pt q)) (iblk m c 8 (pt q)) (iblk m c 9 (pt q)) (iblk m c 10 (pt q)) (iblk m c 11 (pt q)) (ix2 r n)) rfl ?_
  rw [out12_apply _ _ _ _ _ _ _ _ _ _ _ _ (blk7 m c q) r]
  exact row_apply m c q r n

theorem final13 (r : Fin 512) (n : Fin 1024) : (dats m 0 c).arrAt 13 cfg0.N (ix2 (row q r) n)
    = unit (hrow (argO m c) (argY m c) (argG m c) (argU m c) (argX m c) (argLw m c) (argLb m c) (argW m c) (row q r)) (fun j => argN m c (ix2 (0 : Fin 1) j)) n := by
  have e := Cert.Kernel4Ideal.Value.blocks13 m c (pt q) (flush0_13 (pt q))
  rw [Cert.Kernel4Ideal.Value.flushed13] at e
  have e' := congrFun e (ix2 r n)
  have e1 : ((cfg0.win 13).blk (pt q)).view.read (Elt Ideal) ((dats m 0 c).arrAt 13 cfg0.N) (ix2 r n)
      = (dats m 0 c).arrAt 13 cfg0.N (ix2 (row q r) n) := by
    show (dats m 0 c).arrAt 13 cfg0.N (((cfg0.win 13).blk (pt q)).view.emb (ix2 r n)) = _
    rw [emb13]
  refine e1.symm.trans (e'.trans ?_)
  refine Eq.trans (b := out0_13 (iblk m c 0 (pt q)) (iblk m c 1 (pt q)) (iblk m c 2 (pt q)) (iblk m c 3 (pt q)) (iblk m c 4 (pt q)) (iblk m c 5 (pt q)) (iblk m c 6 (pt q)) (iblk m c 7 (pt q)) (iblk m c 8 (pt q)) (iblk m c 9 (pt q)) (iblk m c 10 (pt q)) (iblk m c 11 (pt q)) (ix2 r n)) rfl ?_
  rw [out13_apply _ _ _ _ _ _ _ _ _ _ _ _ (blk7 m c q) r]
  rw [show (fun j => iblk m c 9 (pt q) (ix2 (0 : Fin 1) j)) = fun j => argN m c (ix2 (0 : Fin 1) j) from funext (blk9 m c q)]
  exact congrArg (fun h => unit h _ n) (funext fun j => row_apply m c q r j)

end Memory

end Cert.Kernel4Ideal.Mix

end
-- ==== Proof.MixRef.lean ====
module

public import proofs.«01_k».proof.Proof.MixArray
public import proofs.«01_k».proof.Proof.Gen.Reference4Ideal.Read
public import Idealize.ShloMosaic.Lib.KernelVsHost

/-! # The output projection's reference, read at an index -/

@[expose] public section

set_option maxRecDepth 16384

noncomputable section

namespace MixRef

open Cert.Reference4Ideal Cert.Reference4Ideal.Gen Cert.Reference4Ideal.Read
open Cert.Kernel4Ideal.Mix (hd mean dev var mixed joined unit hrow)
open Idealize.ShloMosaic

variable (x0 : FVec Ideal S16384x512 .bf16) (x1 : FVec Ideal S16384x512 .f32) (x2 x3 : FVec Ideal S16384x512 .bf16) (x4 : FVec Ideal S16384x1024 .f32) (x5 x6 : FVec Ideal S1x512 .f32)
  (x7 : FVec Ideal S1x1024x1024 .f32) (x8 : FVec Ideal S1x1024 .f32)

/-- Feature `k` of head `h`. -/
def col (h : Fin 8) (k : Fin 64) : Fin 512 := ⟨h.val * 64 + k.val, by omega⟩

theorem hd_col (h : Fin 8) (k k' : Fin 64) : hd (col h k) k' = col h k' := Fin.ext (by
  have := k.isLt
  show (h.val * 64 + k.val) / 64 * 64 + k'.val = h.val * 64 + k'.val
  omega)

theorem col_of (n : Fin 512) : ∃ (h : Fin 8) (k : Fin 64), n = col h k := by
  have hn := n.isLt
  exact ⟨⟨n.val / 64, by omega⟩, ⟨n.val % 64, by omega⟩, Fin.ext (by show n.val = n.val / 64 * 64 + n.val % 64; omega)⟩

theorem v0_at (i : Fin 16384) (h : Fin 8) (k : Fin 64) : val_main_v0 (F := Ideal) x1 (ix3 i h k) = x1 (ix2 i (col h k)) := by
  rw [val_main_v0_apply]
  refine congrArg x1 (funext fun a => Fin.ext ?_)
  have hh := h.isLt
  have hk := k.isLt
  match a with
  | ⟨0, _⟩ =>
    show ((i.val * 8 + h.val) * 64 + k.val) / 512 = i.val
    omega
  | ⟨1, _⟩ =>
    show ((i.val * 8 + h.val) * 64 + k.val) % 512 = h.val * 64 + k.val
    omega

theorem v4_at (i : Fin 16384) (h : Fin 8) (k : Fin 64) :
    val_main_v4 (F := Ideal) x1 (ix3 i h (0 : Fin 1)) = mean (fun j => x1 (ix2 i j)) (col h k) := by
  have e1 : val_main_v1 (F := Ideal) x1 (ix2 i h) = ∑ k' : Fin 64, (x1 (ix2 i (col h k')) : EReal) := by
    rw [val_main_v1_apply]
    refine (congrArg₂ (fun a b : EReal => a + b) Ideal.ofBits_zero_f32 (Finset.sum_congr rfl fun k' _ => ?_)).trans (zero_add _)
    have e : idx_main_v1 (ix2 i h) k' = ix3 i h k' := by
      funext a
      match a with
      | ⟨0, _⟩ => rfl
      | ⟨1, _⟩ => rfl
      | ⟨2, _⟩ => rfl
    rw [e, v0_at]
  rw [val_main_v4_apply, val_main_v2_apply, val_main_v3_apply]
  have e : idx_main_v2 (ix3 i h (0 : Fin 1)) = ix2 i h := by
    funext a
    match a with
    | ⟨0, _⟩ => rfl
    | ⟨1, _⟩ => rfl
  rw [e, e1]
  unfold mean
  simp only [hd_col]
  rfl

theorem dev_at (i : Fin 16384) (h : Fin 8) (k : Fin 64) :
    (val_main_v0 (F := Ideal) x1 (ix3 i h k) : EReal) - val_main_v4 (F := Ideal) x1 (ix3 i h (0 : Fin 1)) = dev (fun j => x1 (ix2 i j)) (col h k) := by
  rw [v0_at, v4_at x1 i h k]
  rfl

theorem v13_at (i : Fin 16384) (h : Fin 8) (k : Fin 64) :
    val_main_v13 (F := Ideal) x1 (ix3 i h (0 : Fin 1)) = var (fun j => x1 (ix2 i j)) (col h k) := by
  have e1 : val_main_v10 (F := Ideal) x1 (ix2 i h)
      = ∑ k' : Fin 64, dev (fun j => x1 (ix2 i j)) (col h k') * dev (fun j => x1 (ix2 i j)) (col h k') := by
    rw [val_main_v10_apply]
    refine (congrArg₂ (fun a b : EReal => a + b) Ideal.ofBits_zero_f32 (Finset.sum_congr rfl fun k' _ => ?_)).trans (zero_add _)
    have e : idx_main_v10 (ix2 i h) k' = ix3 i h k' := by
      funext a
      match a with
      | ⟨0, _⟩ => rfl
      | ⟨1, _⟩ => rfl
      | ⟨2, _⟩ => rfl
    have e5 : idx_main_v5 (ix3 i h k') = ix3 i h (0 : Fin 1) := by
      funext a
      match a with
      | ⟨0, _⟩ => rfl
      | ⟨1, _⟩ => rfl
      | ⟨2, _⟩ => rfl
    have e7 : idx_main_v7 (ix3 i h k') = ix3 i h (0 : Fin 1) := e5
    rw [e, val_main_v9_apply, val_main_v6_apply, val_main_v8_apply, val_main_v5_apply, val_main_v7_apply, e5, e7, ← dev_at]
    rfl
  rw [val_main_v13_apply, val_main_v11_apply, val_main_v12_apply]
  have e : idx_main_v11 (ix3 i h (0 : Fin 1)) = ix2 i h := by
    funext a
    match a with
    | ⟨0, _⟩ => rfl
    | ⟨1, _⟩ => rfl
  rw [e, e1]
  unfold var
  simp only [hd_col]
  rfl

theorem v21_at (i : Fin 16384) (n : Fin 512) : val_main_v21 (F := Ideal) x1 (ix2 i n)
    = dev (fun j => x1 (ix2 i j)) n * Ideal.rsqrt (var (fun j => x1 (ix2 i j)) n + Ideal.ofBits .f32 0x3A27C5AC#32) := by
  obtain ⟨h, k, rfl⟩ := col_of n
  have hh := h.isLt
  have hk := k.isLt
  have e : idx_main_v21 (ix2 i (col h k)) = ix3 i h k := by
    funext a
    refine Fin.ext ?_
    match a with
    | ⟨0, _⟩ =>
      show (i.val * 512 + (h.val * 64 + k.val)) / 512 = i.val
      omega
    | ⟨1, _⟩ =>
      show (i.val * 512 + (h.val * 64 + k.val)) / 64 % 8 = h.val
      omega
    | ⟨2, _⟩ =>
      show (i.val * 512 + (h.val * 64 + k.val)) % 64 = k.val
      omega
  have e14 : idx_main_v14 (ix3 i h k) = ix3 i h (0 : Fin 1) := by
    funext a
    match a with
    | ⟨0, _⟩ => rfl
    | ⟨1, _⟩ => rfl
    | ⟨2, _⟩ => rfl
  have e19 : idx_main_v19 (ix3 i h k) = ix3 i h (0 : Fin 1) := e14
  rw [val_main_v21_apply, e, val_main_v20_apply, val_main_v15_apply, val_main_v14_apply, val_main_v19_apply, e14, e19, val_main_v18_apply,
    val_main_v17_apply, v13_at x1 i h k, val_main_v16_apply, ← dev_at]
  rfl

theorem v33_at (i : Fin 16384) (n : Fin 512) : val_main_v33 (F := Ideal) x1 x2 x3 x5 x6 (ix2 i n)
    = mixed (fun j => x1 (ix2 i j)) (fun j => x5 (ix2 (0 : Fin 1) j)) (fun j => x6 (ix2 (0 : Fin 1) j)) (fun j => x3 (ix2 i j)) (fun j => x2 (ix2 i j)) n := by
  have e24 : val_main_v24 (F := Ideal) x5 (ix2 i n) = x5 (ix2 (0 : Fin 1) n) := by
    rw [val_main_v24_apply, val_main_v23_apply, val_main_v22_apply]
    refine congrArg x5 (funext fun a => Fin.ext ?_)
    match a with
    | ⟨0, _⟩ => rfl
    | ⟨1, _⟩ => exact Nat.mod_eq_of_lt n.isLt
  have e28 : val_main_v28 (F := Ideal) x6 (ix2 i n) = x6 (ix2 (0 : Fin 1) n) := by
    rw [val_main_v28_apply, val_main_v27_apply, val_main_v26_apply]
    refine congrArg x6 (funext fun a => Fin.ext ?_)
    match a with
    | ⟨0, _⟩ => rfl
    | ⟨1, _⟩ => exact Nat.mod_eq_of_lt n.isLt
  rw [val_main_v33_apply, val_main_v32_apply, val_main_v31_apply, val_main_v30_apply, val_main_v29_apply, val_main_v25_apply, v21_at, e24, e28]
  rfl

/-- Two halves of 512 columns side by side. -/
theorem halves (A B : FVec Ideal S16384x512 .f32) (h : Shape.Concatenates [S16384x512, S16384x512] S16384x1024 1) (i : Fin 16384) :
    (∀ k : Fin 512, concatenate S16384x1024 1 [⟨S16384x512, A⟩, ⟨S16384x512, B⟩] h (ix2 i ⟨k.val, Nat.lt_trans k.isLt (by decide)⟩) = A (ix2 i k))
      ∧ (∀ k : Fin 512, concatenate S16384x1024 1 [⟨S16384x512, A⟩, ⟨S16384x512, B⟩] h (ix2 i ⟨512 + k.val, Nat.add_lt_add_left k.isLt 512⟩) = B (ix2 i k)) := by
  constructor
  · intro k
    rw [concatenate_cons_apply]
    simp only [concatenateAt_cons, concatenateAt_singleton]
    split_ifs with h0
    · refine congrArg A (funext fun a => Fin.ext ?_)
      match a with
      | ⟨0, _⟩ => rfl
      | ⟨1, _⟩ => rfl
    · exact absurd k.isLt h0
  · intro k
    rw [concatenate_cons_apply]
    simp only [concatenateAt_cons, concatenateAt_singleton]
    split_ifs with h0
    · have h0' : 512 + k.val < 512 := h0
      omega
    · refine congrArg B (funext fun a => Fin.ext ?_)
      match a with
      | ⟨0, _⟩ => rfl
      | ⟨1, _⟩ =>
        show 512 + k.val - 512 = k.val
        omega

theorem v38_at (i : Fin 16384) (n : Fin 1024) : val_main_v38 (F := Ideal) x0 x1 x2 x3 x4 x5 x6 x7 (ix2 i n) = hrow x0 x1 x2 x3 x4 x5 x6 x7 i n := by
  have el : ∀ k : Fin 1024, lidx_main_v37 (ix2 i n) k = ix2 i k := fun k => by
    funext a
    match a with
    | ⟨0, _⟩ => rfl
    | ⟨1, _⟩ => rfl
  have er : ∀ k : Fin 1024, val_main_v36 (F := Ideal) x7 (ridx_main_v37 (ix2 i n) k) = x7 (ix3 (0 : Fin 1) k n) := fun k => by
    rw [val_main_v36_apply]
    refine congrArg x7 (funext fun a => Fin.ext ?_)
    have hk := k.isLt
    have hn := n.isLt
    match a with
    | ⟨0, _⟩ => rfl
    | ⟨1, _⟩ =>
      show (k.val * 1024 + n.val) / 1024 % 1024 = k.val
      omega
    | ⟨2, _⟩ =>
      show (k.val * 1024 + n.val) % 1024 = n.val
      omega
  rw [val_main_v38_apply, val_main_v37_apply]
  simp only [el, er]
  obtain ⟨h0, h1⟩ := halves (val_main_v34 (F := Ideal) x0) (val_main_v33 (F := Ideal) x1 x2 x3 x5 x6) concatenates_S16384x512_S16384x512_S16384x1024_d1 i
  have s : (∑ k : Fin 1024, (val_main_v35 (F := Ideal) x0 x1 x2 x3 x5 x6 (ix2 i k) : EReal) * x7 (ix3 (0 : Fin 1) k n))
      = (∑ k : Fin 512, (x0 (ix2 i k) : EReal) * x7 (ix3 (0 : Fin 1) ⟨k.val, Nat.lt_trans k.isLt (by decide)⟩ n))
        + ∑ k : Fin 512, val_main_v33 (F := Ideal) x1 x2 x3 x5 x6 (ix2 i k) * x7 (ix3 (0 : Fin 1) ⟨512 + k.val, Nat.add_lt_add_left k.isLt 512⟩ n) := by
    refine (Fin.sum_univ_add (a := 512) (b := 512) (fun k : Fin 1024 => (val_main_v35 (F := Ideal) x0 x1 x2 x3 x5 x6 (ix2 i k) : EReal) * x7 (ix3 (0 : Fin 1) k n))).trans ?_
    refine congrArg₂ (fun a b : EReal => a + b) (Finset.sum_congr rfl fun k _ => ?_) (Finset.sum_congr rfl fun k _ => ?_)
    · exact congrArg (fun a : EReal => a * _) (h0 k)
    · exact congrArg (fun a : EReal => a * _) (h1 k)
  refine (congrArg (fun b : EReal => x4 (ix2 i n) + b) s).trans ?_
  simp only [v33_at]
  exact (add_assoc _ _ _).symm

theorem v53_at (i : Fin 16384) (n : Fin 1024) : val_main_v53 (F := Ideal) x0 x1 x2 x3 x4 x5 x6 x7 x8 (ix2 i n)
    = unit (hrow x0 x1 x2 x3 x4 x5 x6 x7 i) (fun j => x8 (ix2 (0 : Fin 1) j)) n := by
  have e41 : val_main_v41 (F := Ideal) x0 x1 x2 x3 x4 x5 x6 x7 (ix1 i)
      = ∑ j : Fin 1024, hrow x0 x1 x2 x3 x4 x5 x6 x7 i j * hrow x0 x1 x2 x3 x4 x5 x6 x7 i j := by
    rw [val_main_v41_apply]
    refine (congrArg₂ (fun a b : EReal => a + b) Ideal.ofBits_zero_f32 (Finset.sum_congr rfl fun j _ => ?_)).trans (zero_add _)
    have e : idx_main_v41 (ix1 i) j = ix2 i j := by
      funext a
      match a with
      | ⟨0, _⟩ => rfl
      | ⟨1, _⟩ => rfl
    rw [e, val_main_v40_apply, v38_at]
    rfl
  have e48 : val_main_v48 (F := Ideal) x0 x1 x2 x3 x4 x5 x6 x7 (ix2 i n)
      = Ideal.rsqrt (Ideal.div (∑ j : Fin 1024, hrow x0 x1 x2 x3 x4 x5 x6 x7 i j * hrow x0 x1 x2 x3 x4 x5 x6 x7 i j) (Ideal.ofBits .f32 0x44800000#32)
        + Ideal.ofBits .f32 0x3727C5AC#32) := by
    rw [val_main_v48_apply, val_main_v47_apply, val_main_v46_apply, val_main_v44_apply, val_main_v42_apply, val_main_v43_apply, val_main_v45_apply]
    have e : idx_main_v42 (idx_main_v48 (ix2 i n)) = ix1 i := by
      funext a
      match a with
      | ⟨0, _⟩ => rfl
    rw [e, e41]
    rfl
  have e51 : val_main_v51 (F := Ideal) x8 (ix2 i n) = x8 (ix2 (0 : Fin 1) n) := by
    rw [val_main_v51_apply, val_main_v50_apply, val_main_v39_apply]
    refine congrArg x8 (funext fun a => Fin.ext ?_)
    match a with
    | ⟨0, _⟩ => rfl
    | ⟨1, _⟩ => exact Nat.mod_eq_of_lt n.isLt
  rw [val_main_v53_apply]
  show (val_main_v52 (F := Ideal) x0 x1 x2 x3 x4 x5 x6 x7 x8 (ix2 i n) : EReal) = _
  rw [val_main_v52_apply, val_main_v49_apply, v38_at, e48, e51]
  rfl

end MixRef

end
-- ==== Proof.MixClaims.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.MixBlocks
public import proofs.«01_k».proof.Proof.Gen.Reference4Ideal
public import proofs.«01_k».proof.Proof.Gen.Reference4Ideal.Read
public import proofs.«01_k».proof.Proof.MixRef
public import Idealize.ShloMosaic.Adequacy

/-! # The output projection's claims -/

@[expose] public section

noncomputable section

namespace Mix

open Idealize.ShloMosaic Idealize.SL.Sem
open Cert.Kernel4Ideal.Mix (row)

theorem frame_p : Cert.quiescent_Kernel4 := fun m ρ _ => Cert.Kernel4.Gen.frame m ρ
theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem preserves : Cert.preserves_Kernel4_Kernel4Ideal := trivial

/-- A row of the results is a row of a block of 512. -/
theorem result_idx {N : ℕ} (i : (⟨2, ![16384, N]⟩ : Shape).Idx) :
    ∃ (q : Fin 32) (r : Fin 512) (n : Fin N), i = ix2 (row q r) n := by
  have hi : (i 0).val < 16384 := (i 0).isLt
  refine ⟨⟨(i 0).val / 512, by omega⟩, ⟨(i 0).val % 512, by omega⟩, i 1, (eq_ix2 i).trans ?_⟩
  refine congrArg (fun a : Fin 16384 => (ix2 a (i 1) : (⟨2, ![16384, N]⟩ : Shape).Idx)) (Fin.ext ?_)
  show (i 0).val = (i 0).val / 512 * 512 + (i 0).val % 512
  omega

section Results

variable (m : (ℓ : Loc Cert.Kernel4Ideal.nD Cert.Kernel4Ideal.τ Cert.Kernel4Ideal.sig) → Buf (Elt Ideal) ℓ) (c : Dev Cert.Kernel4Ideal.nD)

theorem value12 : Cert.Reference4Ideal.Read.val_main_v38 (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6))
    (m ((c.tc : Thread Cert.Kernel4Ideal.nD Cert.Kernel4Ideal.τ).loc Cert.Kernel4Ideal.main_arg7))
      = (Cert.Kernel4Ideal.Gen.dats m 0 c).arrAt 12 Cert.Kernel4Ideal.cfg0.N := by
  funext i
  obtain ⟨q, r, n, rfl⟩ := result_idx i
  exact (MixRef.v38_at _ _ _ _ _ _ _ _ (row q r) n).trans (Cert.Kernel4Ideal.Mix.final12 m c q r n).symm

theorem value13 : Cert.Reference4Ideal.Read.val_main_v53 (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6))
    (m ((c.tc : Thread Cert.Kernel4Ideal.nD Cert.Kernel4Ideal.τ).loc Cert.Kernel4Ideal.main_arg7))
    (m ((c.tc : Thread Cert.Kernel4Ideal.nD Cert.Kernel4Ideal.τ).loc Cert.Kernel4Ideal.main_arg8))
      = (Cert.Kernel4Ideal.Gen.dats m 0 c).arrAt 13 Cert.Kernel4Ideal.cfg0.N := by
  funext i
  obtain ⟨q, r, n, rfl⟩ := result_idx i
  exact (MixRef.v53_at _ _ _ _ _ _ _ _ _ (row q r) n).trans (Cert.Kernel4Ideal.Mix.final13 m c q r n).symm

end Results

theorem algebraic : Cert.algebraic_Kernel4Ideal_Reference4Ideal := by
  intro m g m' g' _ hargs
  refine ⟨fun c => (Cert.Kernel4Ideal.Gen.dats m 0 c).arrAt 12 Cert.Kernel4Ideal.cfg0.N,
    fun c => (Cert.Kernel4Ideal.Gen.dats m 0 c).arrAt 13 Cert.Kernel4Ideal.cfg0.N, ?_, ?_⟩
  · exact (θ_run Cert.Kernel4Ideal.defs _ _).mono (fun r h c => ⟨(h c).1, (h c).2.1, (h c).2.2.2.2.2.2⟩) (Cert.Kernel4Ideal.Value.run_blocks m g)
  · refine (θ_run Cert.Reference4Ideal.defs _ _).mono (fun r h c => ⟨(h c).1.trans ?_, (h c).2.1.trans ?_, (h c).2.2⟩)
      (Cert.Reference4Ideal.Value.run (F := Ideal) m' g')
    · obtain ⟨e0, e1, e2, e3, e4, e5, e6, e7, _⟩ := hargs c
      rw [Cert.Reference4Ideal.Read.val_main_v38_eq, e0, e1, e2, e3, e4, e5, e6, e7]
      exact value12 m c
    · obtain ⟨e0, e1, e2, e3, e4, e5, e6, e7, e8, _⟩ := hargs c
      rw [Cert.Reference4Ideal.Read.val_main_v53_eq, e0, e1, e2, e3, e4, e5, e6, e7, e8]
      exact value13 m c

end Mix

end
-- ==== Proof.InBody.lean ====
module

public import proofs.«01_k».proof.Proof.Rows
public import proofs.«01_k».proof.Proof.Gen.Kernel3Ideal.Frame
public import Idealize.ShloMosaic.Lib.Pointwise

/-!
# The in-projection: what a block of rows gets

The normalised rows times the weights; the queries' and the keys' lanes turned by the tables of the
positions; the values and the features as the products leave them.
-/

@[expose] public section

set_option maxRecDepth 16384

noncomputable section

namespace Cert.Kernel3Ideal.Proj

open Cert.Kernel3Ideal Cert.Kernel3Ideal.Gen
open Idealize.ShloMosaic

/-- A row divided by its root mean square and weighted, at activation `k`. -/
def unit (x w : Fin 1024 → EReal) (k : Fin 1024) : EReal :=
  x k * Ideal.rsqrt (Ideal.div (∑ j, x j * x j) (Ideal.ofBits .f32 0x44800000#32) + Ideal.ofBits .f32 0x3727C5AC#32) * w k

/-- One entry of the product of a normalised row with a column of weights. -/
def proj (x w a : Fin 1024 → EReal) : EReal := ∑ k, unit x w k * a k

theorem unit_apply (x : Vec Ideal S512x1024 .f32) (w : Vec Ideal S1x1024 .f32) (r : Fin 512) (k : Fin 1024) :
    k0_pay2 (F := Ideal) x w (ix2 r k) = unit (fun j => x (ix2 r j)) (fun j => w (ix2 (0 : Fin 1) j)) k := by
  pointwise [k0_pay2, unit]
  try rfl

theorem pay3_apply (x : Vec Ideal S512x1024 .f32) (w : Vec Ideal S1x1024 .f32) (a : Vec Ideal S1024x1536 .bf16) (r : Fin 512) (n : Fin 1536) :
    k0_pay3 (F := Ideal) x w a (ix2 r n) = proj (fun j => x (ix2 r j)) (fun j => w (ix2 (0 : Fin 1) j)) (fun k => a (ix2 k n)) := by
  unfold k0_pay3 proj
  refine (Attn.plain_apply (φ₁ := .bf16) (φ₂ := .bf16) _ _ r n).trans (Finset.sum_congr rfl fun k _ => ?_)
  refine congrArg₂ (· * ·) (unit_apply x w r k) ?_
  pointwise

theorem pay1_apply (u : FVec Ideal S512x1024 .bf16) (a : Vec Ideal S1024x1920 .bf16) (r : Fin 512) (n : Fin 1920) :
    k0_pay1 (F := Ideal) u a (ix2 r n) = ∑ k : Fin 1024, (u (ix2 r k) : EReal) * (a (ix2 k n) : EReal) := by
  unfold k0_pay1
  refine (Attn.plain_apply (φ₁ := .bf16) (φ₂ := .bf16) _ _ r n).trans (Finset.sum_congr rfl fun k _ => ?_)
  refine congrArg₂ (· * ·) rfl ?_
  pointwise

/-! ## The turn of a group of lanes -/

/-- A group of 128 lanes with the tables' turn. -/
def turned (v c sa sb : FVec Ideal S512x128 .f32) : FVec Ideal S512x128 .f32 :=
  addf (addf (mulf v c) (mulf (dynamicRotate 1 120#32 none v Facts₀.rotates_S512x128_d1) sa))
    (mulf (dynamicRotate 1 8#32 none v Facts₀.rotates_S512x128_d1) sb)

def scaled (v : FVec Ideal S512x128 .f32) : FVec Ideal S512x128 .bf16 :=
  truncf .bf16 (mulf v (broadcast S512x128 (Scalar.ofBits .f32 0x3E000000#32))) Facts₀.bitsLt_bf16_f32

def lanes (z : FVec Ideal S512x1536 .f32) (o : ℕ) (ho : S512x1536.Slices ![0, o] S512x128) : FVec Ideal S512x128 .f32 :=
  extractStridedSlice S512x128 ![0, o] z ho

theorem lanes_apply (z : FVec Ideal S512x1536 .f32) (o : ℕ) (ho : S512x1536.Slices ![0, o] S512x128) (r : Fin 512) (l : Fin 128) (hl : o + l.val < 1536) :
    lanes z o ho (ix2 r l) = z (ix2 r ⟨o + l.val, hl⟩) := by
  unfold lanes extractStridedSlice
  refine congrArg z (funext fun b => Fin.ext ?_)
  match b with
  | ⟨0, _⟩ => show 0 + r.val = r.val; omega
  | ⟨1, _⟩ => rfl

theorem turned_apply (v c sa sb : FVec Ideal S512x128 .f32) (r : Fin 512) (l : Fin 128) :
    turned v c sa sb (ix2 r l) = (v (ix2 r l) : EReal) * (c (ix2 r l) : EReal)
      + (v (ix2 r ⟨(l.val + 8) % 128, Nat.mod_lt _ (by decide)⟩) : EReal) * (sa (ix2 r l) : EReal)
      + (v (ix2 r ⟨(l.val + 120) % 128, Nat.mod_lt _ (by decide)⟩) : EReal) * (sb (ix2 r l) : EReal) := by
  have e1 : dynamicRotate 1 120#32 none v Facts₀.rotates_S512x128_d1 (ix2 r l) = v (ix2 r ⟨(l.val + 8) % 128, Nat.mod_lt _ (by decide)⟩) := by
    rw [Pointwise.dynamicRotate_apply]
    refine congrArg v (funext fun b => Fin.ext ?_)
    match b with
    | ⟨0, _⟩ => rfl
    | ⟨1, _⟩ => show (l.val + 128 - 120) % 128 = (l.val + 8) % 128; omega
  have e2 : dynamicRotate 1 8#32 none v Facts₀.rotates_S512x128_d1 (ix2 r l) = v (ix2 r ⟨(l.val + 120) % 128, Nat.mod_lt _ (by decide)⟩) := by
    rw [Pointwise.dynamicRotate_apply]
    refine congrArg v (funext fun b => Fin.ext ?_)
    match b with
    | ⟨0, _⟩ => rfl
    | ⟨1, _⟩ => show (l.val + 128 - 8) % 128 = (l.val + 120) % 128; omega
  unfold turned
  rw [ValueIdx.addf_apply, ValueIdx.addf_apply, ValueIdx.mulf_apply, ValueIdx.mulf_apply, ValueIdx.mulf_apply, e1, e2]

section Pieces
variable (z : FVec Ideal S512x1536 .f32) (c sa sb : FVec Ideal S512x128 .f32)

theorem pay8_eq : k0_pay8 z c sa sb = scaled (turned (lanes z 128 Facts₀.slices_S512x1536_o0_128_S512x128) c sa sb) := by unfold k0_pay8; rfl
theorem pay9_eq : k0_pay9 z c sa sb = scaled (turned (lanes z 256 Facts₀.slices_S512x1536_o0_256_S512x128) c sa sb) := by unfold k0_pay9; rfl
theorem pay10_eq : k0_pay10 z c sa sb = scaled (turned (lanes z 384 Facts₀.slices_S512x1536_o0_384_S512x128) c sa sb) := by unfold k0_pay10; rfl
theorem pay7_eq (x : Vec Ideal S512x1024 .f32) (w : Vec Ideal S1x1024 .f32) (a : Vec Ideal S1024x1536 .bf16) :
    k0_pay7 x w a c sa sb = scaled (turned (lanes (k0_pay3 x w a) 0 Facts₀.slices_S512x1536_o0_0_S512x128) (k0_pay4 c) (k0_pay5 sa) (k0_pay6 sb)) := by
  unfold k0_pay7; rfl
theorem pay14_eq : k0_pay14 sb (k0_pay11 z) (k0_pay12 z c) (k0_pay13 z sa)
    = truncf .bf16 (turned (lanes z 512 Facts₀.slices_S512x1536_o0_512_S512x128) c sa sb) Facts₀.bitsLt_bf16_f32 := by
  unfold k0_pay14 k0_pay12 k0_pay13 k0_pay11; rfl
theorem pay15_eq : k0_pay15 z c sa sb = truncf .bf16 (turned (lanes z 640 Facts₀.slices_S512x1536_o0_640_S512x128) c sa sb) Facts₀.bitsLt_bf16_f32 := by
  unfold k0_pay15; rfl
theorem pay16_eq : k0_pay16 z c sa sb = truncf .bf16 (turned (lanes z 768 Facts₀.slices_S512x1536_o0_768_S512x128) c sa sb) Facts₀.bitsLt_bf16_f32 := by
  unfold k0_pay16; rfl
theorem pay17_eq : k0_pay17 z c sa sb = truncf .bf16 (turned (lanes z 896 Facts₀.slices_S512x1536_o0_896_S512x128) c sa sb) Facts₀.bitsLt_bf16_f32 := by
  unfold k0_pay17; rfl
end Pieces

theorem pay4_eq (c : Vec Ideal S512x128 .f32) : k0_pay4 (F := Ideal) c = c := shapeCast_self _ _
theorem pay5_eq (c : Vec Ideal S512x128 .f32) : k0_pay5 (F := Ideal) c = c := shapeCast_self _ _
theorem pay6_eq (c : Vec Ideal S512x128 .f32) : k0_pay6 (F := Ideal) c = c := shapeCast_self _ _

/-! ## The blocks the body leaves -/

section Block
variable (x0 : Vec Ideal S512x1024 .f32) (x1 : Vec Ideal S1x1024 .f32) (x2 : Vec Ideal S1024x1536 .bf16) (x3 : Vec Ideal S1024x1920 .bf16)
  (x4 x5 x6 : Vec Ideal S512x128 .f32)

/-- Column `n` of the first product in row `r`. -/
def col (r : Fin 512) (n : Fin 1536) : EReal :=
  proj (fun j => x0 (ix2 r j)) (fun j => x1 (ix2 (0 : Fin 1) j)) (fun k => x2 (ix2 k n))

/-- Lane `l` of the group of columns from `o` on, turned. -/
def rot (o : ℕ) (ho : o + 128 ≤ 1536) (r : Fin 512) (l : Fin 128) : EReal :=
  col x0 x1 x2 r ⟨o + l.val, by omega⟩ * x4 (ix2 r l)
    + col x0 x1 x2 r ⟨o + (l.val + 8) % 128, by omega⟩ * x5 (ix2 r l)
    + col x0 x1 x2 r ⟨o + (l.val + 120) % 128, by omega⟩ * x6 (ix2 r l)

theorem piece_rot (o : ℕ) (ho : S512x1536.Slices ![0, o] S512x128) (h : o + 128 ≤ 1536) (r : Fin 512) (l : Fin 128) :
    turned (lanes (k0_pay3 x0 x1 x2) o ho) x4 x5 x6 (ix2 r l) = rot x0 x1 x2 x4 x5 x6 o h r l := by
  rw [turned_apply, lanes_apply _ o ho r l (by omega), lanes_apply _ o ho r ⟨(l.val + 8) % 128, _⟩ (by show o + (l.val + 8) % 128 < 1536; omega),
    lanes_apply _ o ho r ⟨(l.val + 120) % 128, _⟩ (by show o + (l.val + 120) % 128 < 1536; omega)]
  simp only [pay3_apply]
  rfl

theorem ld0 : View.ld x0 r0_0 = x0 := View.ld_unit_zero (by funext a; match a with | ⟨0, _⟩ => rfl | ⟨1, _⟩ => rfl) _ x0
theorem ld1 : View.ld x1 r0_1 = x1 := View.ld_unit_zero (by funext a; match a with | ⟨0, _⟩ => rfl | ⟨1, _⟩ => rfl) _ x1
theorem ld2 : View.ld x2 r0_2 = x2 := View.ld_unit_zero (by funext a; match a with | ⟨0, _⟩ => rfl | ⟨1, _⟩ => rfl) _ x2
theorem ld3 (x : Vec Ideal S512x128 .f32) : View.ld x r0_3 = x := View.ld_unit_zero (by funext a; match a with | ⟨0, _⟩ => rfl | ⟨1, _⟩ => rfl) _ x
theorem ld9 : View.ld x3 r0_9 = x3 := View.ld_unit_zero (by funext a; match a with | ⟨0, _⟩ => rfl | ⟨1, _⟩ => rfl) _ x3

theorem pay19_eq : k0_pay19 (F := Ideal) x0 x1 x2 x3 x4 x5 x6 = k0_pay3 x0 x1 x2 := by unfold k0_pay19; rw [ld0, ld1, ld2]
theorem pay20_eq : k0_pay20 (F := Ideal) x0 x1 x2 x3 x4 x5 x6 = x4 := by unfold k0_pay20; rw [ld3, pay4_eq]
theorem pay21_eq : k0_pay21 (F := Ideal) x0 x1 x2 x3 x4 x5 x6 = x5 := by unfold k0_pay21; rw [ld3, pay5_eq]
theorem pay22_eq : k0_pay22 (F := Ideal) x0 x1 x2 x3 x4 x5 x6 = x6 := by unfold k0_pay22; rw [ld3, pay6_eq]

theorem emb_lane (o : ℕ) (inb) (r : Fin 512) (l : Fin 128) (h : o + l.val < 512) :
    (Rect.unit (s := S512x512) ![0, o] S512x128.size inb).emb (ix2 r l) = ix2 r ⟨o + l.val, h⟩ := by
  funext a
  refine Fin.ext ?_
  match a with
  | ⟨0, _⟩ => exact (Nat.zero_add _).trans (Nat.one_mul _)
  | ⟨1, _⟩ => exact congrArg (o + ·) (Nat.one_mul _)

/-- The group and the lane of a column. -/
def grp (n : Fin 512) : ℕ := n.val / 128 * 128
def lane (n : Fin 512) : Fin 128 := ⟨n.val % 128, Nat.mod_lt _ (by decide)⟩
theorem grp_le (n : Fin 512) : grp n + 128 ≤ 512 := by have := n.isLt; unfold grp; omega

theorem at_lane (f : (o : ℕ) → o + 128 ≤ 1536 → Fin 512 → Fin 128 → EReal) (b o : ℕ) (hb : b + 512 ≤ 1536) (r : Fin 512) (l : Fin 128) (h : o + l.val < 512) (h' : b + o + 128 ≤ 1536)
    (hm : o % 128 = 0) :
    f (b + grp ⟨o + l.val, h⟩) (by have := grp_le ⟨o + l.val, h⟩; omega) r (lane ⟨o + l.val, h⟩) = f (b + o) h' r l := by
  have e1 : lane ⟨o + l.val, h⟩ = l := Fin.ext (by show (o + l.val) % 128 = l.val; have := l.isLt; omega)
  have e2 : grp ⟨o + l.val, h⟩ = o := by show (o + l.val) / 128 * 128 = o; have := l.isLt; omega
  rw [e1]
  congr 1
  rw [e2]

theorem out7_apply (r : Fin 512) (n : Fin 512) :
    out0_7 x0 x1 x2 x3 x4 x5 x6 (ix2 r n)
      = rot x0 x1 x2 x4 x5 x6 (0 + grp n) (by have := grp_le n; omega) r (lane n) * Ideal.ofBits .f32 0x3E000000#32 := by
  unfold out0_7
  rw [pay19_eq, pay20_eq, pay21_eq, pay22_eq, ld0, ld1, ld2, ld3, ld3, ld3, pay7_eq, pay8_eq, pay9_eq, pay10_eq, pay4_eq, pay5_eq, pay6_eq]
  refine View.canon_apply_of_pieces (S := S512x512) (e := .bf16) (Val := Elt Ideal)
    (fun y => rot x0 x1 x2 x4 x5 x6 (0 + grp (y 1)) (by have := grp_le (y 1); omega) (y 0) (lane (y 1)) * Ideal.ofBits .f32 0x3E000000#32) _ ?_ _ (cover0_7 _ _ _ _ _)
  intro pc hpc
  simp only [List.mem_cons, List.not_mem_nil, or_false] at hpc
  rcases hpc with rfl | rfl | rfl | rfl
  all_goals
    intro x
    obtain ⟨r, l, rfl⟩ : ∃ (r : Fin 512) (l : Fin 128), x = ix2 r l := ⟨x 0, x 1, ValueIdx.eq_ix2 x⟩
    have hl := l.isLt
    dsimp only
  · rw [emb_lane 384 _ r l (by omega)]
    exact congrArg (· * Ideal.ofBits .f32 0x3E000000#32) ((piece_rot x0 x1 x2 x4 x5 x6 384 _ (by decide) r l).trans (at_lane (rot x0 x1 x2 x4 x5 x6) 0 384 (by decide) r l (by omega) (by decide) rfl).symm)
  · rw [emb_lane 256 _ r l (by omega)]
    exact congrArg (· * Ideal.ofBits .f32 0x3E000000#32) ((piece_rot x0 x1 x2 x4 x5 x6 256 _ (by decide) r l).trans (at_lane (rot x0 x1 x2 x4 x5 x6) 0 256 (by decide) r l (by omega) (by decide) rfl).symm)
  · rw [emb_lane 128 _ r l (by omega)]
    exact congrArg (· * Ideal.ofBits .f32 0x3E000000#32) ((piece_rot x0 x1 x2 x4 x5 x6 128 _ (by decide) r l).trans (at_lane (rot x0 x1 x2 x4 x5 x6) 0 128 (by decide) r l (by omega) (by decide) rfl).symm)
  · rw [emb_lane 0 _ r l (by omega)]
    exact congrArg (· * Ideal.ofBits .f32 0x3E000000#32) ((piece_rot x0 x1 x2 x4 x5 x6 0 _ (by decide) r l).trans (at_lane (rot x0 x1 x2 x4 x5 x6) 0 0 (by decide) r l (by omega) (by decide) rfl).symm)

theorem out8_apply (r : Fin 512) (n : Fin 512) :
    out0_8 x0 x1 x2 x3 x4 x5 x6 (ix2 r n) = rot x0 x1 x2 x4 x5 x6 (512 + grp n) (by have := grp_le n; omega) r (lane n) := by
  unfold out0_8
  rw [pay19_eq, pay20_eq, pay21_eq, pay22_eq, pay14_eq, pay15_eq, pay16_eq, pay17_eq]
  refine View.canon_apply_of_pieces (S := S512x512) (e := .bf16) (Val := Elt Ideal)
    (fun y => rot x0 x1 x2 x4 x5 x6 (512 + grp (y 1)) (by have := grp_le (y 1); omega) (y 0) (lane (y 1))) _ ?_ _ (cover0_8 _ _ _ _ _)
  intro pc hpc
  simp only [List.mem_cons, List.not_mem_nil, or_false] at hpc
  rcases hpc with rfl | rfl | rfl | rfl
  all_goals
    intro x
    obtain ⟨r, l, rfl⟩ : ∃ (r : Fin 512) (l : Fin 128), x = ix2 r l := ⟨x 0, x 1, ValueIdx.eq_ix2 x⟩
    have hl := l.isLt
    dsimp only
  · rw [emb_lane 384 _ r l (by omega)]
    exact (piece_rot x0 x1 x2 x4 x5 x6 896 _ (by decide) r l).trans (at_lane (rot x0 x1 x2 x4 x5 x6) 512 384 (by decide) r l (by omega) (by decide) rfl).symm
  · rw [emb_lane 256 _ r l (by omega)]
    exact (piece_rot x0 x1 x2 x4 x5 x6 768 _ (by decide) r l).trans (at_lane (rot x0 x1 x2 x4 x5 x6) 512 256 (by decide) r l (by omega) (by decide) rfl).symm
  · rw [emb_lane 128 _ r l (by omega)]
    exact (piece_rot x0 x1 x2 x4 x5 x6 640 _ (by decide) r l).trans (at_lane (rot x0 x1 x2 x4 x5 x6) 512 128 (by decide) r l (by omega) (by decide) rfl).symm
  · rw [emb_lane 0 _ r l (by omega)]
    exact (piece_rot x0 x1 x2 x4 x5 x6 512 _ (by decide) r l).trans (at_lane (rot x0 x1 x2 x4 x5 x6) 512 0 (by decide) r l (by omega) (by decide) rfl).symm

theorem out9_apply (r : Fin 512) (n : Fin 512) :
    out0_9 x0 x1 x2 x3 x4 x5 x6 (ix2 r n) = col x0 x1 x2 r ⟨1024 + n.val, by omega⟩ := by
  unfold out0_9
  rw [pay19_eq]
  refine View.canon_apply_of_pieces (S := S512x512) (e := .bf16) (Val := Elt Ideal)
    (fun y => col x0 x1 x2 (y 0) ⟨1024 + (y 1).val, by have h : (y 1).val < 512 := (y 1).isLt; omega⟩) _ ?_ _ (cover0_9 _ _)
  intro pc hpc
  simp only [List.mem_cons, List.not_mem_nil, or_false] at hpc
  subst hpc
  intro x
  obtain ⟨r, l, rfl⟩ : ∃ (r : Fin 512) (l : Fin 512), x = ix2 r l := ⟨x 0, x 1, ValueIdx.eq_ix2 x⟩
  dsimp only
  have e : r0_8.emb (ix2 r l) = ix2 r l := by
    funext a
    refine Fin.ext ?_
    match a with
    | ⟨0, _⟩ => exact (Nat.zero_add _).trans (Nat.one_mul _)
    | ⟨1, _⟩ => exact (Nat.zero_add _).trans (Nat.one_mul _)
  rw [e]
  refine Eq.trans ?_ (pay3_apply x0 x1 x2 r ⟨1024 + l.val, by omega⟩)
  unfold k0_pay18
  show extractStridedSlice S512x512 ![0, 1024] (k0_pay3 x0 x1 x2) Facts₀.slices_S512x1536_o0_1024_S512x512 (ix2 r l) = _
  unfold extractStridedSlice
  refine congrArg (k0_pay3 x0 x1 x2) (funext fun b => Fin.ext ?_)
  match b with
  | ⟨0, _⟩ => show 0 + r.val = r.val; omega
  | ⟨1, _⟩ => rfl

theorem out10_apply (r : Fin 512) (n : Fin 1920) :
    out0_10 x0 x1 x2 x3 x4 x5 x6 (ix2 r n)
      = proj (fun j => x0 (ix2 r j)) (fun j => x1 (ix2 (0 : Fin 1) j)) (fun k => x3 (ix2 k n)) := by
  unfold out0_10
  rw [ld0, ld1, ld9]
  refine View.canon_apply_of_pieces (S := S512x1920) (e := .f32) (Val := Elt Ideal)
    (fun y => proj (fun j => x0 (ix2 (y 0) j)) (fun j => x1 (ix2 (0 : Fin 1) j)) (fun k => x3 (ix2 k (y 1)))) _ ?_ _ (cover0_10 _ _)
  intro pc hpc
  simp only [List.mem_cons, List.not_mem_nil, or_false] at hpc
  subst hpc
  intro x
  obtain ⟨r, l, rfl⟩ : ∃ (r : Fin 512) (l : Fin 1920), x = ix2 r l := ⟨x 0, x 1, ValueIdx.eq_ix2 x⟩
  dsimp only
  have e : r0_10.emb (ix2 r l) = ix2 r l := by
    funext a
    refine Fin.ext ?_
    match a with
    | ⟨0, _⟩ => exact (Nat.zero_add _).trans (Nat.one_mul _)
    | ⟨1, _⟩ => exact (Nat.zero_add _).trans (Nat.one_mul _)
  rw [e]
  refine (pay1_apply _ x3 r l).trans (Finset.sum_congr rfl fun k _ => ?_)
  rw [unit_apply]
  rfl

end Block

end Cert.Kernel3Ideal.Proj

end
-- ==== Proof.InHost.lean ====
module

public import proofs.«01_k».proof.Proof.InBody
public import Idealize.ShloMosaic.Lib.IdealHost
public import Idealize.ShloMosaic.Lib.StableHlo.RunRead

/-!
# The in-projection's operands, as the host lays them out

The tables of the positions' cosines and sines over the lanes, the weights cut in two, the input's rows.
-/

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

/-- The frequencies of the eight turned pairs. -/
def freqs : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
        (mulf (broadcastInDim S8 ![] bcast_S_S8 (constant S_ .f32 0x40000000#32)) (sitofp .f32 (iotaInDim S8 32 0)))))
      (broadcastInDim S8 ![] bcast_S_S8 (constant S_ .f32 0x41800000#32)))

/-- The angles of the positions, row by row. -/
def angles (p : IVec S8x2048 32) : FVec Ideal S16384x8 .f32 :=
  mulf (broadcastInDim S16384x8 ![0, 1] bcast_S16384x1_S16384x8_0_1 (shapeCast S16384x1 (sitofp (F := Ideal) .f32 p) shapeCasts_S8x2048_S16384x1))
    (broadcastInDim S16384x8 ![0, 1] bcast_S1x8_S16384x8_0_1 (broadcastInDim S1x8 ![1] bcast_S8_S1x8_1 freqs))

/-- Eight columns repeated over the lanes. -/
def tiled (y : FVec Ideal S16384x8 .f32) : FVec Ideal S16384x128 .f32 :=
  shapeCast S16384x128 (broadcastInDim S1x16384x16x8 ![0, 1, 2, 3] bcast_S1x16384x1x8_S1x16384x16x8_0_1_2_3
    (shapeCast S1x16384x1x8 y shapeCasts_S16384x8_S1x16384x1x8)) shapeCasts_S1x16384x16x8_S16384x128

/-- The lanes where a mask stands, a table there and a constant elsewhere. -/
def masked (k : Fin 128 → BitVec 1) (y : FVec Ideal S16384x128 .f32) (b : BitVec 32) : FVec Ideal S16384x128 .f32 :=
  select (broadcastInDim S16384x128 ![0, 1] bcast_S1x128_S16384x128_0_1 (fun i => k (S1x128.rowMajor i) : IVec S1x128 1)) y
    (broadcastInDim S16384x128 ![] bcast_S_S16384x128 (constant S_ .f32 b))

/-- The weights of the features, in groups of 128 columns with zeros. -/
def padded (w : FVec Ideal S1024x3232 .f32) : FVec Ideal S1024x1920 .f32 :=
  concatenate S1024x1920 1 [⟨S1024x1536, extractStridedSlice S1024x1536 ![0, 1536] w slices_S1024x3232_S1024x1536_0_1536⟩,
    ⟨S1024x32, extractStridedSlice S1024x32 ![0, 3072] w slices_S1024x3232_S1024x32_0_3072⟩,
    ⟨S1024x96, broadcastInDim S1024x96 ![] bcast_S_S1024x96 (constant (F := Ideal) S_ .f32 0x00000000#32)⟩,
    ⟨S1024x32, extractStridedSlice S1024x32 ![0, 3104] w slices_S1024x3232_S1024x32_0_3104⟩,
    ⟨S1024x96, broadcastInDim S1024x96 ![] bcast_S_S1024x96 (constant (F := Ideal) S_ .f32 0x00000000#32)⟩,
    ⟨S1024x96, extractStridedSlice S1024x96 ![0, 3136] w slices_S1024x3232_S1024x96_0_3136⟩,
    ⟨S1024x32, broadcastInDim S1024x32 ![] bcast_S_S1024x32 (constant (F := Ideal) S_ .f32 0x00000000#32)⟩]
    concatenates_S1024x1536_S1024x32_S1024x96_S1024x32_S1024x96_S1024x96_S1024x32_S1024x1920_d1

/-! ## The layouts at an index -/

/-- The row of the flattened batch that holds position `t` of row `b`. -/
def tok (b : Fin 8) (t : Fin 2048) : Fin 16384 := ⟨b.val * 2048 + t.val, by omega⟩

/-- Lane `l` of a table holds pair `l % 8`. -/
def pair8 (l : Fin 128) : Fin 8 := ⟨l.val % 8, Nat.mod_lt _ (by decide)⟩

theorem tiled_apply (y : FVec Ideal S16384x8 .f32) (r : Fin 16384) (l : Fin 128) : tiled y (ix2 r l) = y (ix2 r (pair8 l)) := by
  have hl := l.isLt
  unfold tiled
  refine (shapeCast_apply _ _ _ (ix4 (0 : Fin 1) r (⟨l.val / 8, by omega⟩ : Fin 16) (pair8 l)) ?_).trans ?_
  · rw [Shape.rowMajor_val_four, Shape.rowMajor_val_two]
    show ((0 * 16384 + r.val) * 16 + l.val / 8) * 8 + l.val % 8 = r.val * 128 + l.val
    omega
  · refine (broadcastInDim_apply _ bcast_S1x16384x1x8_S1x16384x16x8_0_1_2_3 _ _ (ix4 (0 : Fin 1) r (0 : Fin 1) (pair8 l)) ?_).trans ?_
    · intro a
      match a with
      | ⟨0, _⟩ => rfl
      | ⟨1, _⟩ => rfl
      | ⟨2, _⟩ => rfl
      | ⟨3, _⟩ => rfl
    · refine shapeCast_apply y _ _ _ ?_
      rw [Shape.rowMajor_val_four, Shape.rowMajor_val_two]
      show r.val * 8 + l.val % 8 = ((0 * 16384 + r.val) * 1 + 0) * 8 + l.val % 8
      omega

theorem masked_apply (k : Fin 128 → BitVec 1) (y : FVec Ideal S16384x128 .f32) (b : BitVec 32) (r : Fin 16384) (l : Fin 128) :
    masked k y b (ix2 r l) = if k l = 1#1 then y (ix2 r l) else Ideal.ofBits .f32 b := by
  have e : broadcastInDim S16384x128 ![0, 1] bcast_S1x128_S16384x128_0_1 (fun i => k (S1x128.rowMajor i) : IVec S1x128 1) (ix2 r l) = k l := by
    refine (broadcastInDim_apply _ bcast_S1x128_S16384x128_0_1 _ _ (ix2 (0 : Fin 1) l) ?_).trans ?_
    · intro a
      match a with
      | ⟨0, _⟩ => rfl
      | ⟨1, _⟩ => rfl
    · refine congrArg k (Fin.ext ?_)
      show (S1x128.rowMajor (ix2 (0 : Fin 1) l)).val = l.val
      rw [Shape.rowMajor_val_two]
      show 0 * 128 + l.val = l.val
      omega
  unfold masked
  rw [ValueIdx.select_apply, e]
  rfl

theorem lit0_at : ∀ l : Fin 128, lit0 l = 1#1 ↔ l.val % 64 < 16 := by decide
theorem lit1_at : ∀ l : Fin 128, lit1 l = 1#1 ↔ l.val % 64 < 8 := by decide
theorem lit2_at : ∀ l : Fin 128, lit2 l = 1#1 ↔ 8 ≤ l.val % 64 ∧ l.val % 64 < 16 := by decide

/-- The angle of position `p` for pair `j`. -/
def ang (p : BitVec 32) (j : Fin 8) : Ideal .f32 := FloatOps.mulf (FloatOps.sitofp .f32 p) (freqs (ix1 j))

theorem angles_apply (p : IVec S8x2048 32) (b : Fin 8) (t : Fin 2048) (j : Fin 8) : angles p (ix2 (tok b t) j) = ang (p (ix2 b t)) j := by
  unfold angles ang
  rw [ValueIdx.mulf_apply]
  refine congrArg₂ (FloatOps.mulf (F := Ideal) (φ := .f32)) ?_ ?_
  · refine (broadcastInDim_apply _ bcast_S16384x1_S16384x8_0_1 _ _ (ix2 (tok b t) (0 : Fin 1)) ?_).trans ?_
    · intro a
      match a with
      | ⟨0, _⟩ => rfl
      | ⟨1, _⟩ => rfl
    · refine (shapeCast_apply _ _ _ (ix2 b t) ?_).trans rfl
      rw [Shape.rowMajor_val_two, Shape.rowMajor_val_two]
      show b.val * 2048 + t.val = (b.val * 2048 + t.val) * 1 + 0
      omega
  · refine (broadcastInDim_apply _ bcast_S1x8_S16384x8_0_1 _ _ (ix2 (0 : Fin 1) j) ?_).trans ?_
    · intro a
      match a with
      | ⟨0, _⟩ => rfl
      | ⟨1, _⟩ => rfl
    · refine broadcastInDim_apply _ bcast_S8_S1x8_1 _ _ (ix1 j) ?_
      intro a
      match a with
      | ⟨0, _⟩ => rfl

/-- The cosine and the sine of position `p` for pair `j`. -/
def cosAt (p : BitVec 32) (j : Fin 8) : EReal := (FloatOps.hostUnary .cos (ang p j) : Ideal .f32)
def sinAt (p : BitVec 32) (j : Fin 8) : EReal := (FloatOps.hostUnary .sin (ang p j) : Ideal .f32)

theorem tabC (p : IVec S8x2048 32) (b : Fin 8) (t : Fin 2048) (l : Fin 128) :
    masked lit0 (tiled (Host.cos (angles p))) 0x3F800000#32 (ix2 (tok b t) l)
      = if l.val % 64 < 16 then cosAt (p (ix2 b t)) (pair8 l) else 1 := by
  rw [masked_apply, tiled_apply, Ideal.ofBits_one_f32]
  refine if_congr (lit0_at l) ?_ rfl
  show FloatOps.hostUnary .cos (angles p (ix2 (tok b t) (pair8 l))) = _
  rw [angles_apply]; rfl
theorem tabA (p : IVec S8x2048 32) (b : Fin 8) (t : Fin 2048) (l : Fin 128) :
    masked lit1 (Host.negf (tiled (Host.sin (angles p)))) 0x00000000#32 (ix2 (tok b t) l)
      = if l.val % 64 < 8 then - sinAt (p (ix2 b t)) (pair8 l) else 0 := by
  rw [masked_apply, Ideal.ofBits_zero_f32]
  refine if_congr (lit1_at l) ?_ rfl
  show - (tiled (Host.sin (angles p)) (ix2 (tok b t) l) : EReal) = _
  rw [tiled_apply]
  show - (FloatOps.hostUnary .sin (angles p (ix2 (tok b t) (pair8 l))) : EReal) = _
  rw [angles_apply]; rfl
theorem tabB (p : IVec S8x2048 32) (b : Fin 8) (t : Fin 2048) (l : Fin 128) :
    masked lit2 (tiled (Host.sin (angles p))) 0x00000000#32 (ix2 (tok b t) l)
      = if 8 ≤ l.val % 64 ∧ l.val % 64 < 16 then sinAt (p (ix2 b t)) (pair8 l) else 0 := by
  rw [masked_apply, tiled_apply, Ideal.ofBits_zero_f32]
  refine if_congr (lit2_at l) ?_ rfl
  show FloatOps.hostUnary .sin (angles p (ix2 (tok b t) (pair8 l))) = _
  rw [angles_apply]; rfl

/-- What stands in column `n` of the features' groups, from the columns `f` of the whole product. -/
def feat (f : Fin 3232 → EReal) (n : Fin 1920) : EReal :=
  if h : n.val < 1568 then f ⟨1536 + n.val, by omega⟩
  else if n.val < 1664 then 0
  else if h : n.val < 1696 then f ⟨1440 + n.val, by omega⟩
  else if n.val < 1792 then 0
  else if h : n.val < 1888 then f ⟨1344 + n.val, by omega⟩
  else 0

theorem cut_apply {N : ℕ} (w : FVec Ideal S1024x3232 .f32) (o : ℕ) (ho : S1024x3232.Slices ![0, o] ⟨2, ![1024, N]⟩)
    (y : (⟨2, ![1024, N]⟩ : Shape).Idx) (k : Fin 1024) (n : Fin 3232) (e0 : (y 0).val = k.val) (e1 : o + (y 1).val = n.val) :
    extractStridedSlice ⟨2, ![1024, N]⟩ ![0, o] w ho y = w (ix2 k n) := by
  unfold extractStridedSlice
  refine congrArg w (funext fun a => Fin.ext ?_)
  match a with
  | ⟨0, _⟩ => show 0 + (y 0).val = k.val; omega
  | ⟨1, _⟩ => exact e1

section Feat
variable (f : Fin 3232 → EReal) (n : Fin 1920)
theorem feat_a (h : n.val < 1568) : feat f n = f ⟨1536 + n.val, by omega⟩ := by unfold feat; rw [dif_pos h]
theorem feat_z (h : 1568 ≤ n.val) (h' : n.val < 1664) : feat f n = 0 := by unfold feat; rw [dif_neg (by omega), if_pos h']
theorem feat_b (h : 1664 ≤ n.val) (h' : n.val < 1696) : feat f n = f ⟨1440 + n.val, by omega⟩ := by
  unfold feat; rw [dif_neg (by omega), if_neg (by omega), dif_pos h']
theorem feat_z' (h : 1696 ≤ n.val) (h' : n.val < 1792) : feat f n = 0 := by
  unfold feat; rw [dif_neg (by omega), if_neg (by omega), dif_neg (by omega), if_pos h']
theorem feat_c (h : 1792 ≤ n.val) (h' : n.val < 1888) : feat f n = f ⟨1344 + n.val, by omega⟩ := by
  unfold feat; rw [dif_neg (by omega), if_neg (by omega), dif_neg (by omega), if_neg (by omega), dif_pos h']
theorem feat_z'' (h : 1888 ≤ n.val) : feat f n = 0 := by
  unfold feat; rw [dif_neg (by omega), if_neg (by omega), dif_neg (by omega), if_neg (by omega), dif_neg (by omega)]
end Feat

theorem padded_apply (w : FVec Ideal S1024x3232 .f32) (k : Fin 1024) (n : Fin 1920) : padded w (ix2 k n) = feat (fun j => w (ix2 k j)) n := by
  unfold padded
  rw [concatenate_cons_apply]
  simp only [concatenateAt_cons, concatenateAt_singleton]
  have hn := n.isLt
  split_ifs with h0 h1 h2 h3 h4 h5
  · have g0 : n.val < 1536 := h0
    rw [feat_a _ n (by omega)]
    refine cut_apply w 1536 _ _ k _ rfl ?_
    show 1536 + (n.val) = 1536 + n.val
    omega
  · have g0 : ¬ n.val < 1536 := h0
    have g1 : n.val - 1536 < 32 := h1
    rw [feat_a _ n (by omega)]
    refine cut_apply w 3072 _ _ k _ rfl ?_
    show 3072 + (n.val - 1536) = 1536 + n.val
    omega
  · have g0 : ¬ n.val < 1536 := h0
    have g1 : ¬ n.val - 1536 < 32 := h1
    have g2 : n.val - 1536 - 32 < 96 := h2
    rw [feat_z _ n (by omega) (by omega)]
    exact Ideal.ofBits_zero_f32
  · have g0 : ¬ n.val < 1536 := h0
    have g1 : ¬ n.val - 1536 < 32 := h1
    have g2 : ¬ n.val - 1536 - 32 < 96 := h2
    have g3 : n.val - 1536 - 32 - 96 < 32 := h3
    rw [feat_b _ n (by omega) (by omega)]
    refine cut_apply w 3104 _ _ k _ rfl ?_
    show 3104 + (n.val - 1536 - 32 - 96) = 1440 + n.val
    omega
  · have g0 : ¬ n.val < 1536 := h0
    have g1 : ¬ n.val - 1536 < 32 := h1
    have g2 : ¬ n.val - 1536 - 32 < 96 := h2
    have g3 : ¬ n.val - 1536 - 32 - 96 < 32 := h3
    have g4 : n.val - 1536 - 32 - 96 - 32 < 96 := h4
    rw [feat_z' _ n (by omega) (by omega)]
    exact Ideal.ofBits_zero_f32
  · have g0 : ¬ n.val < 1536 := h0
    have g1 : ¬ n.val - 1536 < 32 := h1
    have g2 : ¬ n.val - 1536 - 32 < 96 := h2
    have g3 : ¬ n.val - 1536 - 32 - 96 < 32 := h3
    have g4 : ¬ n.val - 1536 - 32 - 96 - 32 < 96 := h4
    have g5 : n.val - 1536 - 32 - 96 - 32 - 96 < 96 := h5
    rw [feat_c _ n (by omega) (by omega)]
    refine cut_apply w 3136 _ _ k _ rfl ?_
    show 3136 + (n.val - 1536 - 32 - 96 - 32 - 96) = 1344 + n.val
    omega
  · have g0 : ¬ n.val < 1536 := h0
    have g1 : ¬ n.val - 1536 < 32 := h1
    have g2 : ¬ n.val - 1536 - 32 < 96 := h2
    have g3 : ¬ n.val - 1536 - 32 - 96 < 32 := h3
    have g4 : ¬ n.val - 1536 - 32 - 96 - 32 < 96 := h4
    have g5 : ¬ n.val - 1536 - 32 - 96 - 32 - 96 < 96 := h5
    rw [feat_z'' _ n (by omega)]
    exact Ideal.ofBits_zero_f32

/-- A product with the padded columns is the product with the columns, padded. -/
theorem proj_feat (x w : Fin 1024 → EReal) (a : Fin 1024 → Fin 3232 → EReal) (n : Fin 1920) :
    proj x w (fun k => feat (a k) n) = feat (fun j => proj x w (fun k => a k j)) n := by
  have z : proj x w (fun _ => 0) = 0 := by unfold proj; simp
  unfold feat
  split_ifs
  all_goals first | rfl | exact z

section Memory
variable (m : (ℓ : Loc nD τ sig) → Buf (Elt Ideal) ℓ) (c : Dev nD)

abbrev argX : FVec Ideal S8x2048x1024 .f32 := m ((c : Thread nD τ).loc main_arg0)
abbrev argP : IVec S8x2048 32 := m ((c : Thread nD τ).loc main_arg1)
abbrev argN : FVec Ideal S1x1024 .f32 := m ((c : Thread nD τ).loc main_arg2)
abbrev argW : FVec Ideal S1x1024x3232 .f32 := m ((c : Thread nD τ).loc main_arg3)

theorem V_c : V m c main_v24 = masked lit0 (tiled (Host.cos (angles (argP m c)))) 0x3F800000#32 := by
  show StableHlo.after (List.flatten [hostOps0, hostOps0_1, hostOps0_2, hostOps0_3, hostOps0_4, hostOps0_5, hostOps0_6]) (fun b => m (c, b)) (Proc.devRef .tc main_v24) = _
  simp only [hostOps0, hostOps0_1, hostOps0_2, hostOps0_3, hostOps0_4, hostOps0_5, hostOps0_6, List.flatten_cons, List.flatten_nil, List.append_nil, List.cons_append, List.nil_append]
  after_reads_simp
  rfl
theorem V_sa : V m c main_v26 = masked lit1 (Host.negf (tiled (Host.sin (angles (argP m c))))) 0x00000000#32 := by
  show StableHlo.after (List.flatten [hostOps0, hostOps0_1, hostOps0_2, hostOps0_3, hostOps0_4, hostOps0_5, hostOps0_6]) (fun b => m (c, b)) (Proc.devRef .tc main_v26) = _
  simp only [hostOps0, hostOps0_1, hostOps0_2, hostOps0_3, hostOps0_4, hostOps0_5, hostOps0_6, List.flatten_cons, List.flatten_nil, List.append_nil, List.cons_append, List.nil_append]
  after_reads_simp
  rfl
theorem V_sb : V m c main_v27 = masked lit2 (tiled (Host.sin (angles (argP m c)))) 0x00000000#32 := by
  show StableHlo.after (List.flatten [hostOps0, hostOps0_1, hostOps0_2, hostOps0_3, hostOps0_4, hostOps0_5, hostOps0_6]) (fun b => m (c, b)) (Proc.devRef .tc main_v27) = _
  simp only [hostOps0, hostOps0_1, hostOps0_2, hostOps0_3, hostOps0_4, hostOps0_5, hostOps0_6, List.flatten_cons, List.flatten_nil, List.append_nil, List.cons_append, List.nil_append]
  after_reads_simp
  rfl
theorem V_x : V m c main_v28 = shapeCast S16384x1024 (argX m c) shapeCasts_S8x2048x1024_S16384x1024 := by
  show StableHlo.after (List.flatten [hostOps0, hostOps0_1, hostOps0_2, hostOps0_3, hostOps0_4, hostOps0_5, hostOps0_6]) (fun b => m (c, b)) (Proc.devRef .tc main_v28) = _
  simp only [hostOps0, hostOps0_1, hostOps0_2, hostOps0_3, hostOps0_4, hostOps0_5, hostOps0_6, List.flatten_cons, List.flatten_nil, List.append_nil, List.cons_append, List.nil_append]
  after_reads_simp
  rfl
theorem V_wq : V m c main_v31 = truncf .bf16 (extractStridedSlice S1024x1536 ![0, 0] (shapeCast S1024x3232 (argW m c) shapeCasts_S1x1024x3232_S1024x3232)
    slices_S1024x3232_S1024x1536_0_0) bitsLt_bf16_f32 := by
  show StableHlo.after (List.flatten [hostOps0, hostOps0_1, hostOps0_2, hostOps0_3, hostOps0_4, hostOps0_5, hostOps0_6]) (fun b => m (c, b)) (Proc.devRef .tc main_v31) = _
  simp only [hostOps0, hostOps0_1, hostOps0_2, hostOps0_3, hostOps0_4, hostOps0_5, hostOps0_6, List.flatten_cons, List.flatten_nil, List.append_nil, List.cons_append, List.nil_append]
  after_reads_simp
  rfl
theorem V_wr : V m c main_v40 = truncf .bf16 (padded (shapeCast S1024x3232 (argW m c) shapeCasts_S1x1024x3232_S1024x3232)) bitsLt_bf16_f32 := by
  show StableHlo.after (List.flatten [hostOps0, hostOps0_1, hostOps0_2, hostOps0_3, hostOps0_4, hostOps0_5, hostOps0_6]) (fun b => m (c, b)) (Proc.devRef .tc main_v40) = _
  simp only [hostOps0, hostOps0_1, hostOps0_2, hostOps0_3, hostOps0_4, hostOps0_5, hostOps0_6, List.flatten_cons, List.flatten_nil, List.append_nil, List.cons_append, List.nil_append]
  after_reads_simp
  rfl
theorem V_n : V m c main_v42 = shapeCast S1x1024 (shapeCast S1024 (argN m c) shapeCasts_S1x1024_S1024) shapeCasts_S1024_S1x1024 := by
  show StableHlo.after (List.flatten [hostOps0, hostOps0_1, hostOps0_2, hostOps0_3, hostOps0_4, hostOps0_5, hostOps0_6]) (fun b => m (c, b)) (Proc.devRef .tc main_v42) = _
  simp only [hostOps0, hostOps0_1, hostOps0_2, hostOps0_3, hostOps0_4, hostOps0_5, hostOps0_6, List.flatten_cons, List.flatten_nil, List.append_nil, List.cons_append, List.nil_append]
  after_reads_simp
  rfl

end Memory

end Cert.Kernel3Ideal.Proj

end
-- ==== Proof.InArray.lean ====
module

public import proofs.«01_k».proof.Proof.InHost
public import proofs.«01_k».proof.Proof.Gen.Kernel3Ideal.Value

/-!
# The in-projection's result arrays, read at an index

The blocks of the windows, the four arrays the grid leaves, and the tables' turn as the rotation of a head's
first sixteen features.
-/

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem

/-! ## The rotation -/

/-- Feature `d` of a head whose first sixteen features are rotated, in pairs `d` and `d + 8`. -/
def turn (z : Fin 64 → EReal) (cs sn : Fin 8 → EReal) (d : Fin 64) : EReal :=
  if h : d.val < 8 then z d * cs ⟨d.val, h⟩ - z ⟨d.val + 8, by omega⟩ * sn ⟨d.val, h⟩
  else if h : d.val < 16 then z d * cs ⟨d.val - 8, by omega⟩ + z ⟨d.val - 8, by omega⟩ * sn ⟨d.val - 8, by omega⟩
  else z d

/-- The place of a lane in its half of the group. -/
def low (l : Fin 128) : Fin 64 := ⟨l.val % 64, Nat.mod_lt _ (by decide)⟩

theorem tables_turn (f : Fin 1536 → EReal) (cs sn : Fin 8 → EReal) (o : ℕ) (ho : o + 128 ≤ 1536) (l : Fin 128) :
    f ⟨o + l.val, by omega⟩ * (if l.val % 64 < 16 then cs (pair8 l) else 1)
      + f ⟨o + (l.val + 8) % 128, by omega⟩ * (if l.val % 64 < 8 then - sn (pair8 l) else 0)
      + f ⟨o + (l.val + 120) % 128, by omega⟩ * (if 8 ≤ l.val % 64 ∧ l.val % 64 < 16 then sn (pair8 l) else 0)
    = turn (fun d => f ⟨o + l.val / 64 * 64 + d.val, by omega⟩) cs sn (low l) := by
  have hl := l.isLt
  unfold turn
  by_cases h8 : l.val % 64 < 8
  · have hp : pair8 l = ⟨(low l).val, h8⟩ := Fin.ext (by show l.val % 8 = l.val % 64; omega)
    rw [if_pos (by omega), if_pos h8, if_neg (by omega), dif_pos (show (low l).val < 8 from h8), mul_zero, add_zero, mul_neg, sub_eq_add_neg, hp]
    refine congrArg₂ (· + ·) (congrArg (· * _) (congrArg f (Fin.ext ?_))) (congrArg (fun a => -(a * _)) (congrArg f (Fin.ext ?_)))
    · show o + l.val = o + l.val / 64 * 64 + l.val % 64
      omega
    · show o + (l.val + 8) % 128 = o + l.val / 64 * 64 + (l.val % 64 + 8)
      omega
  · by_cases h16 : l.val % 64 < 16
    · have hp : pair8 l = ⟨(low l).val - 8, by have h : (low l).val = l.val % 64 := rfl; omega⟩ := Fin.ext (by show l.val % 8 = l.val % 64 - 8; omega)
      rw [if_pos h16, if_neg h8, if_pos (by omega), dif_neg (show ¬ (low l).val < 8 from h8), dif_pos (show (low l).val < 16 from h16), mul_zero, add_zero, hp]
      refine congrArg₂ (· + ·) (congrArg (· * _) (congrArg f (Fin.ext ?_))) (congrArg (· * _) (congrArg f (Fin.ext ?_)))
      · show o + l.val = o + l.val / 64 * 64 + l.val % 64
        omega
      · show o + (l.val + 120) % 128 = o + l.val / 64 * 64 + (l.val % 64 - 8)
        omega
    · rw [if_neg h16, if_neg h8, if_neg (by omega), dif_neg (show ¬ (low l).val < 8 from h8), dif_neg (show ¬ (low l).val < 16 from h16), mul_zero, mul_zero, add_zero, add_zero, mul_one]
      refine congrArg f (Fin.ext ?_)
      show o + l.val = o + l.val / 64 * 64 + l.val % 64
      omega

/-! ## What the results hold -/

section Spec
variable (X : FVec Ideal S8x2048x1024 .f32) (P : IVec S8x2048 32) (N : FVec Ideal S1x1024 .f32) (W : FVec Ideal S1x1024x3232 .f32)

/-- Column `j` of the projection of position `t` of row `b`. -/
def zcol (b : Fin 8) (t : Fin 2048) (j : Fin 3232) : EReal :=
  proj (fun i => X (ix3 b t i)) (fun i => N (ix2 (0 : Fin 1) i)) (fun k => W (ix3 (0 : Fin 1) k j))

/-- The place of a column in its half head. -/
def low64 (n : Fin 512) : Fin 64 := ⟨n.val % 64, Nat.mod_lt _ (by decide)⟩

/-- Column `n` of the turned heads that stand from column `o` on. -/
def headVal (o : ℕ) (ho : o + 512 ≤ 3232) (b : Fin 8) (t : Fin 2048) (n : Fin 512) : EReal :=
  turn (fun d => zcol X N W b t ⟨o + n.val / 64 * 64 + d.val, by omega⟩) (cosAt (P (ix2 b t))) (sinAt (P (ix2 b t))) (low64 n)

end Spec

/-! ## The windows' blocks -/

/-- Where the windows stand at a grid point: 512 rows of the input, of the tables and of the results; the weights whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The grid point of block `q`, and row `r` of that block. -/
def pt (q : Fin 32) : Fin cfg0.N := ⟨q.val, q.isLt⟩
def row (q : Fin 32) (r : Fin 512) : Fin 16384 := ⟨q.val * 512 + r.val, by omega⟩
theorem pt_val (q : Fin 32) : (pt q).val = q.val := rfl

theorem emb0 (q : Fin 32) (r : Fin 512) (n : Fin 1024) : ((cfg0.win 0).blk (pt q)).view.emb (ix2 r n) = ix2 (row q r) n := by
  obtain ⟨⟨e0, e1⟩, _⟩ := idx_facts (pt q)
  have d := pt_val q
  funext a; apply Fin.ext
  match a with
  | ⟨0, _⟩ => show win0_0.index (pt q) (0 : Fin 2) * 512 + 1 * r.val = q.val * 512 + r.val; omega
  | ⟨1, _⟩ => show win0_0.index (pt q) (1 : Fin 2) * 1024 + 1 * n.val = n.val; omega
theorem emb1 (q : Fin 32) (r : Fin 1) (n : Fin 1024) : ((cfg0.win 1).blk (pt q)).view.emb (ix2 r n) = ix2 r n := by
  obtain ⟨_, ⟨e0, e1⟩, _⟩ := idx_facts (pt q)
  funext a; apply Fin.ext
  match a with
  | ⟨0, _⟩ => show win0_1.index (pt q) (0 : Fin 2) * 1 + 1 * r.val = r.val; omega
  | ⟨1, _⟩ => show win0_1.index (pt q) (1 : Fin 2) * 1024 + 1 * n.val = n.val; omega
theorem emb2 (q : Fin 32) (r : Fin 1024) (n : Fin 1536) : ((cfg0.win 2).blk (pt q)).view.emb (ix2 r n) = ix2 r n := by
  obtain ⟨_, _, ⟨e0, e1⟩, _⟩ := idx_facts (pt q)
  funext a; apply Fin.ext
  match a with
  | ⟨0, _⟩ => show win0_2.index (pt q) (0 : Fin 2) * 1024 + 1 * r.val = r.val; omega
  | ⟨1, _⟩ => show win0_2.index (pt q) (1 : Fin 2) * 1536 + 1 * n.val = n.val; omega
theorem emb3 (q : Fin 32) (r : Fin 1024) (n : Fin 1920) : ((cfg0.win 3).blk (pt q)).view.emb (ix2 r n) = ix2 r n := by
  obtain ⟨_, _, _, ⟨e0, e1⟩, _⟩ := idx_facts (pt q)
  funext a; apply Fin.ext
  match a with
  | ⟨0, _⟩ => show win0_3.index (pt q) (0 : Fin 2) * 1024 + 1 * r.val = r.val; omega
  | ⟨1, _⟩ => show win0_3.index (pt q) (1 : Fin 2) * 1920 + 1 * n.val = n.val; omega
theorem emb4 (q : Fin 32) (r : Fin 512) (n : Fin 128) : ((cfg0.win 4).blk (pt q)).view.emb (ix2 r n) = ix2 (row q r) n := by
  obtain ⟨_, _, _, _, ⟨e0, e1⟩, _⟩ := idx_facts (pt q)
  have d := pt_val q
  funext a; apply Fin.ext
  match a with
  | ⟨0, _⟩ => show win0_4.index (pt q) (0 : Fin 2) * 512 + 1 * r.val = q.val * 512 + r.val; omega
  | ⟨1, _⟩ => show win0_4.index (pt q) (1 : Fin 2) * 128 + 1 * n.val = n.val; omega
theorem emb5 (q : Fin 32) (r : Fin 512) (n : Fin 128) : ((cfg0.win 5).blk (pt q)).view.emb (ix2 r n) = ix2 (row q r) n := by
  obtain ⟨_, _, _, _, _, ⟨e0, e1⟩, _⟩ := idx_facts (pt q)
  have d := pt_val q
  funext a; apply Fin.ext
  match a with
  | ⟨0, _⟩ => show win0_5.index (pt q) (0 : Fin 2) * 512 + 1 * r.val = q.val * 512 + r.val; omega
  | ⟨1, _⟩ => show win0_5.index (pt q) (1 : Fin 2) * 128 + 1 * n.val = n.val; omega
theorem emb6 (q : Fin 32) (r : Fin 512) (n : Fin 128) : ((cfg0.win 6).blk (pt q)).view.emb (ix2 r n) = ix2 (row q r) n := by
  obtain ⟨_, _, _, _, _, _, ⟨e0, e1⟩, _⟩ := idx_facts (pt q)
  have d := pt_val q
  funext a; apply Fin.ext
  match a with
  | ⟨0, _⟩ => show win0_6.index (pt q) (0 : Fin 2) * 512 + 1 * r.val = q.val * 512 + r.val; omega
  | ⟨1, _⟩ => show win0_6.index (pt q) (1 : Fin 2) * 128 + 1 * n.val = n.val; omega
theorem emb7 (q : Fin 32) (r : Fin 512) (n : Fin 512) : ((cfg0.win 7).blk (pt q)).view.emb (ix2 r n) = ix2 (row q r) n := by
  obtain ⟨_, _, _, _, _, _, _, ⟨e0, e1⟩, _⟩ := idx_facts (pt q)
  have d := pt_val q
  funext a; apply Fin.ext
  match a with
  | ⟨0, _⟩ => show win0_7.index (pt q) (0 : Fin 2) * 512 + 1 * r.val = q.val * 512 + r.val; omega
  | ⟨1, _⟩ => show win0_7.index (pt q) (1 : Fin 2) * 512 + 1 * n.val = n.val; omega
theorem emb8 (q : Fin 32) (r : Fin 512) (n : Fin 512) : ((cfg0.win 8).blk (pt q)).view.emb (ix2 r n) = ix2 (row q r) n := by
  obtain ⟨_, _, _, _, _, _, _, _, ⟨e0, e1⟩, _⟩ := idx_facts (pt q)
  have d := pt_val q
  funext a; apply Fin.ext
  match a with
  | ⟨0, _⟩ => show win0_8.index (pt q) (0 : Fin 2) * 512 + 1 * r.val = q.val * 512 + r.val; omega
  | ⟨1, _⟩ => show win0_8.index (pt q) (1 : Fin 2) * 512 + 1 * n.val = n.val; omega
theorem emb9 (q : Fin 32) (r : Fin 512) (n : Fin 512) : ((cfg0.win 9).blk (pt q)).view.emb (ix2 r n) = ix2 (row q r) n := by
  obtain ⟨_, _, _, _, _, _, _, _, _, ⟨e0, e1⟩, _⟩ := idx_facts (pt q)
  have d := pt_val q
  funext a; apply Fin.ext
  match a with
  | ⟨0, _⟩ => show win0_9.index (pt q) (0 : Fin 2) * 512 + 1 * r.val = q.val * 512 + r.val; omega
  | ⟨1, _⟩ => show win0_9.index (pt q) (1 : Fin 2) * 512 + 1 * n.val = n.val; omega
theorem emb10 (q : Fin 32) (r : Fin 512) (n : Fin 1920) : ((cfg0.win 10).blk (pt q)).view.emb (ix2 r n) = ix2 (row q r) n := by
  obtain ⟨_, _, _, _, _, _, _, _, _, _, ⟨e0, e1⟩⟩ := idx_facts (pt q)
  have d := pt_val q
  funext a; apply Fin.ext
  match a with
  | ⟨0, _⟩ => show win0_10.index (pt q) (0 : Fin 2) * 512 + 1 * r.val = q.val * 512 + r.val; omega
  | ⟨1, _⟩ => show win0_10.index (pt q) (1 : Fin 2) * 1920 + 1 * n.val = n.val; omega

theorem lay_x (X : FVec Ideal S8x2048x1024 .f32) (b : Fin 8) (t : Fin 2048) (j : Fin 1024) :
    shapeCast S16384x1024 X shapeCasts_S8x2048x1024_S16384x1024 (ix2 (tok b t) j) = X (ix3 b t j) := by
  refine shapeCast_apply X _ _ _ ?_
  rw [Shape.rowMajor_val_three, Shape.rowMajor_val_two]
  rfl
theorem lay_w (W : FVec Ideal S1x1024x3232 .f32) (k : Fin 1024) (j : Fin 3232) :
    shapeCast S1024x3232 W shapeCasts_S1x1024x3232_S1024x3232 (ix2 k j) = W (ix3 (0 : Fin 1) k j) := by
  refine shapeCast_apply W _ _ _ ?_
  rw [Shape.rowMajor_val_three, Shape.rowMajor_val_two]
  show (0 * 1024 + k.val) * 3232 + j.val = k.val * 3232 + j.val
  omega

section Memory
variable (m : (ℓ : Loc nD τ sig) → Buf (Elt Ideal) ℓ) (c : Dev nD) (q : Fin 32) (r : Fin 512) (b : Fin 8) (t : Fin 2048)
  (hr : row q r = tok b t)
include hr

theorem blk0 (j : Fin 1024) : iblk m c 0 (pt q) (ix2 r j) = argX m c (ix3 b t j) := by
  show V m c main_v28 (((cfg0.win 0).blk (pt q)).view.emb (ix2 r j)) = _
  rw [emb0, V_x, hr]
  exact lay_x (argX m c) b t j
theorem blk4 (l : Fin 128) : iblk m c 4 (pt q) (ix2 r l) = if l.val % 64 < 16 then cosAt (argP m c (ix2 b t)) (pair8 l) else 1 := by
  show V m c main_v24 (((cfg0.win 4).blk (pt q)).view.emb (ix2 r l)) = _
  rw [emb4, V_c, hr]
  exact tabC (argP m c) b t l
theorem blk5 (l : Fin 128) : iblk m c 5 (pt q) (ix2 r l) = if l.val % 64 < 8 then - sinAt (argP m c (ix2 b t)) (pair8 l) else 0 := by
  show V m c main_v26 (((cfg0.win 5).blk (pt q)).view.emb (ix2 r l)) = _
  rw [emb5, V_sa, hr]
  exact tabA (argP m c) b t l
theorem blk6 (l : Fin 128) : iblk m c 6 (pt q) (ix2 r l)
    = if 8 ≤ l.val % 64 ∧ l.val % 64 < 16 then sinAt (argP m c (ix2 b t)) (pair8 l) else 0 := by
  show V m c main_v27 (((cfg0.win 6).blk (pt q)).view.emb (ix2 r l)) = _
  rw [emb6, V_sb, hr]
  exact tabB (argP m c) b t l

omit hr in
theorem blk1 (j : Fin 1024) : iblk m c 1 (pt q) (ix2 (0 : Fin 1) j) = argN m c (ix2 (0 : Fin 1) j) := by
  show V m c main_v42 (((cfg0.win 1).blk (pt q)).view.emb (ix2 (0 : Fin 1) j)) = _
  rw [emb1, V_n]
  exact congrFun (shapeCast_shapeCast (argN m c) _ _) _
omit hr in
theorem blk2 (k : Fin 1024) (n : Fin 1536) : iblk m c 2 (pt q) (ix2 k n) = argW m c (ix3 (0 : Fin 1) k ⟨n.val, Nat.lt_trans n.isLt (by decide)⟩) := by
  show V m c main_v31 (((cfg0.win 2).blk (pt q)).view.emb (ix2 k n)) = _
  rw [emb2, V_wq]
  show extractStridedSlice S1024x1536 ![0, 0] (shapeCast S1024x3232 (argW m c) shapeCasts_S1x1024x3232_S1024x3232) slices_S1024x3232_S1024x1536_0_0 (ix2 k n) = _
  refine (cut_apply _ 0 slices_S1024x3232_S1024x1536_0_0 (ix2 k n) k ⟨n.val, by omega⟩ rfl (Nat.zero_add _)).trans ?_
  exact lay_w (argW m c) k _
omit hr in
theorem blk3 (k : Fin 1024) (n : Fin 1920) : iblk m c 3 (pt q) (ix2 k n) = feat (fun j => argW m c (ix3 (0 : Fin 1) k j)) n := by
  show V m c main_v40 (((cfg0.win 3).blk (pt q)).view.emb (ix2 k n)) = _
  rw [emb3, V_wr]
  refine (padded_apply _ k n).trans (congrArg (fun f => feat f n) (funext fun j => ?_))
  exact lay_w (argW m c) k j

/-- Column `n` of the block's product is the projection's. -/
theorem col_apply (n : Fin 1536) :
    col (iblk m c 0 (pt q)) (iblk m c 1 (pt q)) (iblk m c 2 (pt q)) r n = zcol (argX m c) (argN m c) (argW m c) b t ⟨n.val, by omega⟩ := by
  unfold col zcol
  rw [show (fun j => iblk m c 0 (pt q) (ix2 r j)) = fun j => argX m c (ix3 b t j) from funext (blk0 m c q r b t hr),
    show (fun j => iblk m c 1 (pt q) (ix2 (0 : Fin 1) j)) = fun j => argN m c (ix2 (0 : Fin 1) j) from funext (blk1 m c q),
    show (fun k => iblk m c 2 (pt q) (ix2 k n)) = fun k => argW m c (ix3 (0 : Fin 1) k ⟨n.val, by omega⟩) from funext fun k => blk2 m c q k n]

theorem rot_head (o : ℕ) (ho : o + 512 ≤ 1536) (n : Fin 512) :
    rot (iblk m c 0 (pt q)) (iblk m c 1 (pt q)) (iblk m c 2 (pt q)) (iblk m c 4 (pt q)) (iblk m c 5 (pt q)) (iblk m c 6 (pt q))
        (o + grp n) (by have := grp_le n; omega) r (lane n)
      = headVal (argX m c) (argP m c) (argN m c) (argW m c) o (by omega) b t n := by
  have hn := n.isLt
  unfold rot
  rw [blk4 m c q r b t hr, blk5 m c q r b t hr, blk6 m c q r b t hr]
  simp only [col_apply m c q r b t hr]
  refine (tables_turn (fun n => zcol (argX m c) (argN m c) (argW m c) b t ⟨n.val, by omega⟩) (cosAt (argP m c (ix2 b t)))
    (sinAt (argP m c (ix2 b t))) (o + grp n) (by have := grp_le n; omega) (lane n)).trans ?_
  unfold headVal
  have e : low (lane n) = low64 n := Fin.ext (by show n.val % 128 % 64 = n.val % 64; omega)
  rw [e]
  refine congrArg (fun z => turn z _ _ _) (funext fun d => congrArg (zcol _ _ _ b t) (Fin.ext ?_))
  show o + n.val / 128 * 128 + n.val % 128 / 64 * 64 + d.val = o + n.val / 64 * 64 + d.val
  omega

theorem final7 (n : Fin 512) : (dats m 0 c).arrAt 7 cfg0.N (ix2 (tok b t) n)
    = headVal (argX m c) (argP m c) (argN m c) (argW m c) 0 (by decide) b t n * Ideal.ofBits .f32 0x3E000000#32 := by
  have e := Cert.Kernel3Ideal.Value.blocks7 m c (pt q) (flush0_7 (pt q))
  rw [Cert.Kernel3Ideal.Value.flushed7] at e
  have e' := congrFun e (ix2 r n)
  have e1 : ((cfg0.win 7).blk (pt q)).view.read (Elt Ideal) ((dats m 0 c).arrAt 7 cfg0.N) (ix2 r n)
      = (dats m 0 c).arrAt 7 cfg0.N (ix2 (tok b t) n) := by
    show (dats m 0 c).arrAt 7 cfg0.N (((cfg0.win 7).blk (pt q)).view.emb (ix2 r n)) = _
    rw [emb7, hr]
  refine e1.symm.trans (e'.trans ?_)
  refine Eq.trans (b := out0_7 (iblk m c 0 (pt q)) (iblk m c 1 (pt q)) (iblk m c 2 (pt q)) (iblk m c 3 (pt q)) (iblk m c 4 (pt q)) (iblk m c 5 (pt q)) (iblk m c 6 (pt q)) (ix2 r n)) rfl ?_
  rw [out7_apply]
  exact congrArg (· * Ideal.ofBits .f32 0x3E000000#32) (rot_head m c q r b t hr 0 (by decide) n)

theorem final8 (n : Fin 512) : (dats m 0 c).arrAt 8 cfg0.N (ix2 (tok b t) n)
    = headVal (argX m c) (argP m c) (argN m c) (argW m c) 512 (by decide) b t n := by
  have e := Cert.Kernel3Ideal.Value.blocks8 m c (pt q) (flush0_8 (pt q))
  rw [Cert.Kernel3Ideal.Value.flushed8] at e
  have e' := congrFun e (ix2 r n)
  have e1 : ((cfg0.win 8).blk (pt q)).view.read (Elt Ideal) ((dats m 0 c).arrAt 8 cfg0.N) (ix2 r n)
      = (dats m 0 c).arrAt 8 cfg0.N (ix2 (tok b t) n) := by
    show (dats m 0 c).arrAt 8 cfg0.N (((cfg0.win 8).blk (pt q)).view.emb (ix2 r n)) = _
    rw [emb8, hr]
  refine e1.symm.trans (e'.trans ?_)
  refine Eq.trans (b := out0_8 (iblk m c 0 (pt q)) (iblk m c 1 (pt q)) (iblk m c 2 (pt q)) (iblk m c 3 (pt q)) (iblk m c 4 (pt q)) (iblk m c 5 (pt q)) (iblk m c 6 (pt q)) (ix2 r n)) rfl ?_
  rw [out8_apply]
  exact rot_head m c q r b t hr 512 (by decide) n

theorem final9 (n : Fin 512) : (dats m 0 c).arrAt 9 cfg0.N (ix2 (tok b t) n)
    = zcol (argX m c) (argN m c) (argW m c) b t ⟨1024 + n.val, by omega⟩ := by
  have e := Cert.Kernel3Ideal.Value.blocks9 m c (pt q) (flush0_9 (pt q))
  rw [Cert.Kernel3Ideal.Value.flushed9] at e
  have e' := congrFun e (ix2 r n)
  have e1 : ((cfg0.win 9).blk (pt q)).view.read (Elt Ideal) ((dats m 0 c).arrAt 9 cfg0.N) (ix2 r n)
      = (dats m 0 c).arrAt 9 cfg0.N (ix2 (tok b t) n) := by
    show (dats m 0 c).arrAt 9 cfg0.N (((cfg0.win 9).blk (pt q)).view.emb (ix2 r n)) = _
    rw [emb9, hr]
  refine e1.symm.trans (e'.trans ?_)
  refine Eq.trans (b := out0_9 (iblk m c 0 (pt q)) (iblk m c 1 (pt q)) (iblk m c 2 (pt q)) (iblk m c 3 (pt q)) (iblk m c 4 (pt q)) (iblk m c 5 (pt q)) (iblk m c 6 (pt q)) (ix2 r n)) rfl ?_
  rw [out9_apply]
  exact col_apply m c q r b t hr _

theorem final10 (n : Fin 1920) : (dats m 0 c).arrAt 10 cfg0.N (ix2 (tok b t) n)
    = feat (zcol (argX m c) (argN m c) (argW m c) b t) n := by
  have e := Cert.Kernel3Ideal.Value.blocks10 m c (pt q) (flush0_10 (pt q))
  rw [Cert.Kernel3Ideal.Value.flushed10] at e
  have e' := congrFun e (ix2 r n)
  have e1 : ((cfg0.win 10).blk (pt q)).view.read (Elt Ideal) ((dats m 0 c).arrAt 10 cfg0.N) (ix2 r n)
      = (dats m 0 c).arrAt 10 cfg0.N (ix2 (tok b t) n) := by
    show (dats m 0 c).arrAt 10 cfg0.N (((cfg0.win 10).blk (pt q)).view.emb (ix2 r n)) = _
    rw [emb10, hr]
  refine e1.symm.trans (e'.trans ?_)
  refine Eq.trans (b := out0_10 (iblk m c 0 (pt q)) (iblk m c 1 (pt q)) (iblk m c 2 (pt q)) (iblk m c 3 (pt q)) (iblk m c 4 (pt q)) (iblk m c 5 (pt q)) (iblk m c 6 (pt q)) (ix2 r n)) rfl ?_
  rw [out10_apply]
  rw [show (fun j => iblk m c 0 (pt q) (ix2 r j)) = fun j => argX m c (ix3 b t j) from funext (blk0 m c q r b t hr),
    show (fun j => iblk m c 1 (pt q) (ix2 (0 : Fin 1) j)) = fun j => argN m c (ix2 (0 : Fin 1) j) from funext (blk1 m c q),
    show (fun k => iblk m c 3 (pt q) (ix2 k n)) = fun k => feat (fun j => argW m c (ix3 (0 : Fin 1) k j)) n from funext fun k => blk3 m c q k n]
  exact proj_feat _ _ (fun k j => argW m c (ix3 (0 : Fin 1) k j)) n

end Memory

end Cert.Kernel3Ideal.Proj

end
-- ==== Proof.InRef.lean ====
module

public import proofs.«01_k».proof.Proof.InArray
public import proofs.«01_k».proof.Proof.Gen.Reference3Ideal.Read
public import Idealize.ShloMosaic.Lib.KernelVsHost

/-! # The in-projection's reference, read at an index -/

@[expose] public section

set_option maxRecDepth 16384

noncomputable section

namespace InProj.Ref

open Cert.Reference3Ideal Cert.Reference3Ideal.Gen Cert.Reference3Ideal.Read
open Cert.Kernel3Ideal.Proj (unit proj zcol turn headVal feat tok low64 freqs ang cosAt sinAt)
open Idealize.ShloMosaic

variable (x0 : FVec Ideal S8x2048x1024 .f32) (x1 : IVec S8x2048 32) (x2 : FVec Ideal S1x1024 .f32) (x3 : FVec Ideal S1x1024x3232 .f32)

theorem v31_at (b : Fin 8) (t : Fin 2048) (k : Fin 1024) :
    val_main_v31 (F := Ideal) x0 x2 (ix3 b t k) = unit (fun i => x0 (ix3 b t i)) (fun i => x2 (ix2 (0 : Fin 1) i)) k := by
  have e20 : val_main_v20 (F := Ideal) x0 (ix2 b t) = ∑ i : Fin 1024, (x0 (ix3 b t i) : EReal) * (x0 (ix3 b t i) : EReal) := by
    rw [val_main_v20_apply]
    refine (congrArg₂ (· + ·) Ideal.ofBits_zero_f32 (Finset.sum_congr rfl fun i _ => ?_)).trans (zero_add _)
    have e : idx_main_v20 (ix2 b t) i = ix3 b t i := by
      funext a
      match a with
      | ⟨0, _⟩ => rfl
      | ⟨1, _⟩ => rfl
      | ⟨2, _⟩ => rfl
    rw [e]; rfl
  have e27 : val_main_v27 (F := Ideal) x0 (ix3 b t k)
      = Ideal.rsqrt (Ideal.div (∑ i : Fin 1024, (x0 (ix3 b t i) : EReal) * (x0 (ix3 b t i) : EReal)) (Ideal.ofBits .f32 0x44800000#32) + Ideal.ofBits .f32 0x3727C5AC#32) := by
    rw [val_main_v27_apply, val_main_v26_apply, val_main_v25_apply, val_main_v23_apply, val_main_v21_apply, val_main_v22_apply, val_main_v24_apply]
    have e : idx_main_v21 (idx_main_v27 (ix3 b t k)) = ix2 b t := by
      funext a
      match a with
      | ⟨0, _⟩ => rfl
      | ⟨1, _⟩ => rfl
    rw [e, e20]
    rfl
  have e30 : val_main_v30 (F := Ideal) x2 (ix3 b t k) = x2 (ix2 (0 : Fin 1) k) := by
    rw [val_main_v30_apply, val_main_v29_apply, val_main_v18_apply]
    refine congrArg x2 (funext fun a => Fin.ext ?_)
    match a with
    | ⟨0, _⟩ => rfl
    | ⟨1, _⟩ => exact Nat.mod_eq_of_lt k.isLt
  rw [val_main_v31_apply, val_main_v28_apply, e27, e30]
  rfl

theorem v33_at (b : Fin 8) (t : Fin 2048) (j : Fin 3232) : val_main_v33 (F := Ideal) x0 x2 x3 (ix3 b t j) = zcol x0 x2 x3 b t j := by
  rw [val_main_v33_apply]
  unfold zcol proj
  refine Finset.sum_congr rfl fun k _ => congrArg₂ (fun a b : EReal => a * b) ?_ ?_
  · have e : lidx_main_v33 (ix3 b t j) k = ix3 b t k := by
      funext a
      match a with
      | ⟨0, _⟩ => rfl
      | ⟨1, _⟩ => rfl
      | ⟨2, _⟩ => rfl
    rw [e]
    exact v31_at x0 x2 b t k
  · rw [val_main_v32_apply]
    refine congrArg x3 (funext fun a => Fin.ext ?_)
    have hk := k.isLt
    have hj := j.isLt
    match a with
    | ⟨0, _⟩ => rfl
    | ⟨1, _⟩ => show (k.val * 3232 + j.val) / 3232 % 1024 = k.val; omega
    | ⟨2, _⟩ => show (k.val * 3232 + j.val) % 3232 = j.val; omega

/-- The two halves of a pair of heads, at a feature. -/
def at5 (o : ℕ) (ho : o + 512 ≤ 3232) (b : Fin 8) (t : Fin 2048) (g : Fin 4) (a : Fin 2) (d : Fin 64) : EReal :=
  zcol x0 x2 x3 b t ⟨o + (g.val * 128 + a.val * 64) + d.val, by omega⟩

theorem v35_at (b : Fin 8) (t : Fin 2048) (g : Fin 4) (a : Fin 2) (d : Fin 64) (i : S8x2048x4x2x64.Idx) (hi : i = ix5 b t g a d) :
    val_main_v35 (F := Ideal) x0 x2 x3 i = at5 x0 x2 x3 0 (by decide) b t g a d := by
  subst hi
  rw [val_main_v35_apply, val_main_v34_apply]
  refine Eq.trans (congrArg (val_main_v33 (F := Ideal) x0 x2 x3) ?_) (v33_at x0 x2 x3 b t _)
  funext c; apply Fin.ext
  match c with
  | ⟨0, _⟩ => show ((((b.val * 2048 + t.val) * 4 + g.val) * 2 + a.val) * 64 + d.val) / 1048576 = b.val; omega
  | ⟨1, _⟩ => show ((((b.val * 2048 + t.val) * 4 + g.val) * 2 + a.val) * 64 + d.val) / 512 % 2048 = t.val; omega
  | ⟨2, _⟩ => show ((((b.val * 2048 + t.val) * 4 + g.val) * 2 + a.val) * 64 + d.val) % 512 = 0 + (g.val * 128 + a.val * 64) + d.val; omega

theorem v37_at (b : Fin 8) (t : Fin 2048) (g : Fin 4) (a : Fin 2) (d : Fin 64) (i : S8x2048x4x2x64.Idx) (hi : i = ix5 b t g a d) :
    val_main_v37 (F := Ideal) x0 x2 x3 i = at5 x0 x2 x3 512 (by decide) b t g a d := by
  subst hi
  rw [val_main_v37_apply, val_main_v36_apply]
  refine Eq.trans (congrArg (val_main_v33 (F := Ideal) x0 x2 x3) ?_) (v33_at x0 x2 x3 b t _)
  funext c; apply Fin.ext
  match c with
  | ⟨0, _⟩ => show ((((b.val * 2048 + t.val) * 4 + g.val) * 2 + a.val) * 64 + d.val) / 1048576 = b.val; omega
  | ⟨1, _⟩ => show ((((b.val * 2048 + t.val) * 4 + g.val) * 2 + a.val) * 64 + d.val) / 512 % 2048 = t.val; omega
  | ⟨2, _⟩ => show 512 + ((((b.val * 2048 + t.val) * 4 + g.val) * 2 + a.val) * 64 + d.val) % 512 = 512 + (g.val * 128 + a.val * 64) + d.val; omega

/-! ## The angles -/

theorem v9_eq : val_main_v9 (F := Ideal) = freqs := rfl

theorem v15_at (b : Fin 8) (t : Fin 2048) (j : Fin 8) : val_main_v15 (F := Ideal) x1 (ix3 b t j) = ang (x1 (ix2 b t)) j := by
  rw [val_main_v15_apply, val_main_v13_apply, val_main_v14_apply, val_main_v11_apply, val_main_v12_apply, val_main_v10_apply, v9_eq]
  refine congrArg₂ (FloatOps.mulf (F := Ideal) (φ := .f32)) ?_ ?_
  · refine congrArg (fun i => FloatOps.sitofp .f32 (x1 i)) ?_
    funext a
    match a with
    | ⟨0, _⟩ => rfl
    | ⟨1, _⟩ => rfl
  · refine congrArg freqs ?_
    funext a
    match a with
    | ⟨0, _⟩ => rfl

theorem v16_at (b : Fin 8) (t : Fin 2048) (j : Fin 8) (i : S8x2048x8.Idx) (hi : i = ix3 b t j) : val_main_v16 (F := Ideal) x1 i = cosAt (x1 (ix2 b t)) j := by
  subst hi
  rw [val_main_v16_apply, v15_at]; rfl
theorem v17_at (b : Fin 8) (t : Fin 2048) (j : Fin 8) (i : S8x2048x8.Idx) (hi : i = ix3 b t j) : val_main_v17 (F := Ideal) x1 i = sinAt (x1 (ix2 b t)) j := by
  subst hi
  rw [val_main_v17_apply, v15_at]; rfl

theorem ext3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext x; apply Fin.ext
  match x with
  | ⟨0, _⟩ => exact h0
  | ⟨1, _⟩ => exact h1
  | ⟨2, _⟩ => exact h2
theorem ext5 {n0 n1 n2 n3 n4 : ℕ} (i : (⟨5, ![n0, n1, n2, n3, n4]⟩ : Shape).Idx) (a : Fin n0) (b : Fin n1) (c : Fin n2) (d : Fin n3) (e : Fin n4)
    (h0 : (i 0).val = a.val) (h1 : (i 1).val = b.val) (h2 : (i 2).val = c.val) (h3 : (i 3).val = d.val) (h4 : (i 4).val = e.val) :
    i = ix5 a b c d e := by
  funext x; apply Fin.ext
  match x with
  | ⟨0, _⟩ => exact h0
  | ⟨1, _⟩ => exact h1
  | ⟨2, _⟩ => exact h2
  | ⟨3, _⟩ => exact h3
  | ⟨4, _⟩ => exact h4

/-! ## The rotated heads -/

theorem turn_a (z : Fin 64 → EReal) (cs sn : Fin 8 → EReal) (d : Fin 64) (h : d.val < 8) :
    turn z cs sn d = z d * cs ⟨d.val, h⟩ - z ⟨d.val + 8, by omega⟩ * sn ⟨d.val, h⟩ := by
  unfold turn
  rw [dif_pos h]
theorem turn_b (z : Fin 64 → EReal) (cs sn : Fin 8 → EReal) (d : Fin 64) (h : ¬ d.val < 8) (h' : d.val < 16) :
    turn z cs sn d = z d * cs ⟨d.val - 8, by omega⟩ + z ⟨d.val - 8, by omega⟩ * sn ⟨d.val - 8, by omega⟩ := by
  unfold turn
  rw [dif_neg h, dif_pos h']
theorem turn_c (z : Fin 64 → EReal) (cs sn : Fin 8 → EReal) (d : Fin 64) (h : ¬ d.val < 8) (h' : ¬ d.val < 16) : turn z cs sn d = z d := by
  unfold turn
  rw [dif_neg h, dif_neg h']

/-- The three pieces of a head's features, joined, at a feature. -/
theorem joined_at (A B : FVec Ideal S8x2048x4x2x8 .f32) (C : FVec Ideal S8x2048x4x2x48 .f32)
    (h : Shape.Concatenates [S8x2048x4x2x8, S8x2048x4x2x8, S8x2048x4x2x48] S8x2048x4x2x64 4)
    (b : Fin 8) (t : Fin 2048) (g : Fin 4) (a : Fin 2) (z : Fin 64 → EReal) (cs sn : Fin 8 → EReal)
    (hA : ∀ j : Fin 8, A (ix5 b t g a j) = z ⟨j.val, by omega⟩ * cs j - z ⟨j.val + 8, by omega⟩ * sn j)
    (hB : ∀ j : Fin 8, B (ix5 b t g a j) = z ⟨j.val + 8, by omega⟩ * cs j + z ⟨j.val, by omega⟩ * sn j)
    (hC : ∀ j : Fin 48, C (ix5 b t g a j) = z ⟨j.val + 16, by omega⟩) (d : Fin 64) :
    concatenate S8x2048x4x2x64 4 [⟨S8x2048x4x2x8, A⟩, ⟨S8x2048x4x2x8, B⟩, ⟨S8x2048x4x2x48, C⟩] h (ix5 b t g a d) = turn z cs sn d := by
  have hd := d.isLt
  rw [concatenate_cons_apply]
  simp only [concatenateAt_cons, concatenateAt_singleton]
  split_ifs with h0 h1
  · have h0' : d.val < 8 := h0
    rw [turn_a z cs sn d h0']
    exact (congrArg A (ext5 _ b t g a ⟨d.val, h0'⟩ rfl rfl rfl rfl rfl)).trans (hA ⟨d.val, h0'⟩)
  · have h0' : ¬ d.val < 8 := h0
    have h1' : d.val - 8 < 8 := h1
    rw [turn_b z cs sn d h0' (by omega)]
    refine (congrArg B (ext5 _ b t g a ⟨d.val - 8, h1'⟩ rfl rfl rfl rfl rfl)).trans ((hB ⟨d.val - 8, h1'⟩).trans ?_)
    have e : (⟨d.val - 8 + 8, by omega⟩ : Fin 64) = d := Fin.ext (by show d.val - 8 + 8 = d.val; omega)
    rw [e]
  · have h0' : ¬ d.val < 8 := h0
    have h1' : ¬ d.val - 8 < 8 := h1
    rw [turn_c z cs sn d h0' (by omega)]
    refine (congrArg C (ext5 _ b t g a ⟨d.val - 8 - 8, by omega⟩ rfl rfl rfl rfl rfl)).trans ((hC ⟨d.val - 8 - 8, by omega⟩).trans ?_)
    exact congrArg z (Fin.ext (by show d.val - 8 - 8 + 16 = d.val; omega))

theorem v54_at (b : Fin 8) (t : Fin 2048) (g : Fin 4) (a : Fin 2) (d : Fin 64) :
    val_main_v54 (F := Ideal) x0 x1 x2 x3 (ix5 b t g a d)
      = turn (at5 x0 x2 x3 0 (by decide) b t g a) (cosAt (x1 (ix2 b t))) (sinAt (x1 (ix2 b t))) d := by
  unfold val_main_v54
  refine joined_at _ _ _ _ b t g a _ _ _ (fun j => ?_) (fun j => ?_) (fun j => ?_) d
  · rw [val_main_v47_apply, val_main_v44_apply, val_main_v46_apply, val_main_v41_apply, val_main_v42_apply, val_main_v43_apply, val_main_v45_apply,
      val_main_v39_apply, val_main_v40_apply,
      v35_at x0 x2 x3 b t g a ⟨j.val, by omega⟩ _ (ext5 _ _ _ _ _ _ rfl rfl rfl rfl rfl),
      v35_at x0 x2 x3 b t g a ⟨j.val + 8, by omega⟩ _ (ext5 _ _ _ _ _ _ rfl rfl rfl rfl (Nat.add_comm _ _)),
      v16_at x1 b t j _ (ext3 _ _ _ _ rfl rfl rfl), v17_at x1 b t j _ (ext3 _ _ _ _ rfl rfl rfl)]
    rfl
  · rw [val_main_v52_apply, val_main_v49_apply, val_main_v51_apply, val_main_v41_apply, val_main_v42_apply, val_main_v48_apply, val_main_v50_apply,
      val_main_v39_apply, val_main_v40_apply,
      v35_at x0 x2 x3 b t g a ⟨j.val + 8, by omega⟩ _ (ext5 _ _ _ _ _ _ rfl rfl rfl rfl (Nat.add_comm _ _)),
      v35_at x0 x2 x3 b t g a ⟨j.val, by omega⟩ _ (ext5 _ _ _ _ _ _ rfl rfl rfl rfl rfl),
      v16_at x1 b t j _ (ext3 _ _ _ _ rfl rfl rfl), v17_at x1 b t j _ (ext3 _ _ _ _ rfl rfl rfl)]
    rfl
  · rw [val_main_v53_apply]
    exact v35_at x0 x2 x3 b t g a ⟨j.val + 16, by omega⟩ _ (ext5 _ _ _ _ _ _ rfl rfl rfl rfl (Nat.add_comm _ _))

theorem v72_at (b : Fin 8) (t : Fin 2048) (g : Fin 4) (a : Fin 2) (d : Fin 64) :
    val_main_v72 (F := Ideal) x0 x1 x2 x3 (ix5 b t g a d)
      = turn (at5 x0 x2 x3 512 (by decide) b t g a) (cosAt (x1 (ix2 b t))) (sinAt (x1 (ix2 b t))) d := by
  unfold val_main_v72
  refine joined_at _ _ _ _ b t g a _ _ _ (fun j => ?_) (fun j => ?_) (fun j => ?_) d
  · rw [val_main_v65_apply, val_main_v62_apply, val_main_v64_apply, val_main_v59_apply, val_main_v60_apply, val_main_v61_apply, val_main_v63_apply,
      val_main_v57_apply, val_main_v58_apply,
      v37_at x0 x2 x3 b t g a ⟨j.val, by omega⟩ _ (ext5 _ _ _ _ _ _ rfl rfl rfl rfl rfl),
      v37_at x0 x2 x3 b t g a ⟨j.val + 8, by omega⟩ _ (ext5 _ _ _ _ _ _ rfl rfl rfl rfl (Nat.add_comm _ _)),
      v16_at x1 b t j _ (ext3 _ _ _ _ rfl rfl rfl), v17_at x1 b t j _ (ext3 _ _ _ _ rfl rfl rfl)]
    rfl
  · rw [val_main_v70_apply, val_main_v67_apply, val_main_v69_apply, val_main_v59_apply, val_main_v60_apply, val_main_v66_apply, val_main_v68_apply,
      val_main_v57_apply, val_main_v58_apply,
      v37_at x0 x2 x3 b t g a ⟨j.val + 8, by omega⟩ _ (ext5 _ _ _ _ _ _ rfl rfl rfl rfl (Nat.add_comm _ _)),
      v37_at x0 x2 x3 b t g a ⟨j.val, by omega⟩ _ (ext5 _ _ _ _ _ _ rfl rfl rfl rfl rfl),
      v16_at x1 b t j _ (ext3 _ _ _ _ rfl rfl rfl), v17_at x1 b t j _ (ext3 _ _ _ _ rfl rfl rfl)]
    rfl
  · rw [val_main_v71_apply]
    exact v37_at x0 x2 x3 b t g a ⟨j.val + 16, by omega⟩ _ (ext5 _ _ _ _ _ _ rfl rfl rfl rfl (Nat.add_comm _ _))

/-! ## The features -/

theorem v73_at (b : Fin 8) (t : Fin 2048) (k : Fin 1696) (i : S8x2048x1696.Idx) (hi : i = ix3 b t k) :
    val_main_v73 (F := Ideal) x0 x2 x3 i = zcol x0 x2 x3 b t ⟨1536 + k.val, by omega⟩ := by
  subst hi
  rw [val_main_v73_apply]
  exact (congrArg (val_main_v33 (F := Ideal) x0 x2 x3) (ext3 _ _ _ _ rfl rfl rfl)).trans (v33_at x0 x2 x3 b t _)

/-- An array of 32 columns padded to 128 with zeros. -/
theorem pad32_at (A : FVec Ideal S8x2048x32 .f32) (v : FVec Ideal S_ .f32) (hv : ∀ i, v i = (0 : EReal)) (b : Fin 8) (t : Fin 2048) (n : Fin 128)
    (i : S8x2048x128.Idx) (hi : i = ix3 b t n) :
    pad S8x2048x128 ![0, 0, 0] ![0, 0, 96] ![0, 0, 0] A v pads_S8x2048x32_S8x2048x128_000_000_0960 h_S_ i
      = if h : n.val < 32 then (A (ix3 b t ⟨n.val, h⟩) : EReal) else (0 : EReal) := by
  subst hi
  split_ifs with h
  · refine pad_apply_of_inside _ _ _ A v _ _ _ (ix3 b t ⟨n.val, h⟩) (fun a => ?_)
    match a with
    | ⟨0, _⟩ => show b.val = 0 + b.val * (0 + 1); omega
    | ⟨1, _⟩ => show t.val = 0 + t.val * (0 + 1); omega
    | ⟨2, _⟩ => show n.val = 0 + n.val * (0 + 1); omega
  · refine (pad_apply_of_not_inside _ _ _ A v _ _ _ (2 : Fin 3) (fun hin => h ?_)).trans (hv _)
    have e : (n.val - 0) / (0 + 1) < 32 := hin.2.2
    omega

/-- An array of 96 columns padded to 128 with zeros. -/
theorem pad96_at (A : FVec Ideal S8x2048x96 .f32) (v : FVec Ideal S_ .f32) (hv : ∀ i, v i = (0 : EReal)) (b : Fin 8) (t : Fin 2048) (n : Fin 128)
    (i : S8x2048x128.Idx) (hi : i = ix3 b t n) :
    pad S8x2048x128 ![0, 0, 0] ![0, 0, 32] ![0, 0, 0] A v pads_S8x2048x96_S8x2048x128_000_000_0320 h_S_ i
      = if h : n.val < 96 then (A (ix3 b t ⟨n.val, h⟩) : EReal) else (0 : EReal) := by
  subst hi
  split_ifs with h
  · refine pad_apply_of_inside _ _ _ A v _ _ _ (ix3 b t ⟨n.val, h⟩) (fun a => ?_)
    match a with
    | ⟨0, _⟩ => show b.val = 0 + b.val * (0 + 1); omega
    | ⟨1, _⟩ => show t.val = 0 + t.val * (0 + 1); omega
    | ⟨2, _⟩ => show n.val = 0 + n.val * (0 + 1); omega
  · refine (pad_apply_of_not_inside _ _ _ A v _ _ _ (2 : Fin 3) (fun hin => h ?_)).trans (hv _)
    have e : (n.val - 0) / (0 + 1) < 96 := hin.2.2
    omega

theorem v81_at (b : Fin 8) (t : Fin 2048) (n : Fin 1920) :
    val_main_v81 (F := Ideal) x0 x2 x3 (ix3 b t n) = feat (zcol x0 x2 x3 b t) n := by
  have hn := n.isLt
  unfold val_main_v81
  rw [concatenate_cons_apply]
  simp only [concatenateAt_cons, concatenateAt_singleton]
  split_ifs with h0 h1 h2
  · have g0 : n.val < 1536 := h0
    rw [Cert.Kernel3Ideal.Proj.feat_a _ n (by omega), val_main_v74_apply]
    exact v73_at x0 x2 x3 b t ⟨n.val, by omega⟩ _ (ext3 _ _ _ _ rfl rfl rfl)
  · have g0 : ¬ n.val < 1536 := h0
    have g1 : n.val - 1536 < 128 := h1
    unfold val_main_v76
    refine (pad32_at _ _ (fun i => sitofp_zero) b t ⟨n.val - 1536, g1⟩ _ (ext3 _ _ _ _ rfl rfl rfl)).trans ?_
    split_ifs with g
    · have g' : n.val - 1536 < 32 := g
      rw [Cert.Kernel3Ideal.Proj.feat_a _ n (by omega), val_main_v75_apply]
      refine (v73_at x0 x2 x3 b t ⟨1536 + (n.val - 1536), by omega⟩ _ (ext3 _ _ _ _ rfl rfl rfl)).trans ?_
      exact congrArg (zcol x0 x2 x3 b t) (Fin.ext (by show 1536 + (1536 + (n.val - 1536)) = 1536 + n.val; omega))
    · have g' : ¬ n.val - 1536 < 32 := g
      rw [Cert.Kernel3Ideal.Proj.feat_z _ n (by omega) (by omega)]
  · have g0 : ¬ n.val < 1536 := h0
    have g1 : ¬ n.val - 1536 < 128 := h1
    have g2 : n.val - 1536 - 128 < 128 := h2
    unfold val_main_v78
    refine (pad32_at _ _ (fun i => sitofp_zero) b t ⟨n.val - 1536 - 128, g2⟩ _ (ext3 _ _ _ _ rfl rfl rfl)).trans ?_
    split_ifs with g
    · have g' : n.val - 1536 - 128 < 32 := g
      rw [Cert.Kernel3Ideal.Proj.feat_b _ n (by omega) (by omega), val_main_v77_apply]
      refine (v73_at x0 x2 x3 b t ⟨1568 + (n.val - 1536 - 128), by omega⟩ _ (ext3 _ _ _ _ rfl rfl rfl)).trans ?_
      exact congrArg (zcol x0 x2 x3 b t) (Fin.ext (by show 1536 + (1568 + (n.val - 1536 - 128)) = 1440 + n.val; omega))
    · have g' : ¬ n.val - 1536 - 128 < 32 := g
      rw [Cert.Kernel3Ideal.Proj.feat_z' _ n (by omega) (by omega)]
  · have g0 : ¬ n.val < 1536 := h0
    have g1 : ¬ n.val - 1536 < 128 := h1
    have g2 : ¬ n.val - 1536 - 128 < 128 := h2
    unfold val_main_v80
    refine (pad96_at _ _ (fun i => sitofp_zero) b t ⟨n.val - 1536 - 128 - 128, by omega⟩ _ (ext3 _ _ _ _ rfl rfl rfl)).trans ?_
    split_ifs with g
    · have g' : n.val - 1536 - 128 - 128 < 96 := g
      rw [Cert.Kernel3Ideal.Proj.feat_c _ n (by omega) (by omega), val_main_v79_apply]
      refine (v73_at x0 x2 x3 b t ⟨1600 + (n.val - 1536 - 128 - 128), by omega⟩ _ (ext3 _ _ _ _ rfl rfl rfl)).trans ?_
      exact congrArg (zcol x0 x2 x3 b t) (Fin.ext (by show 1536 + (1600 + (n.val - 1536 - 128 - 128)) = 1344 + n.val; omega))
    · have g' : ¬ n.val - 1536 - 128 - 128 < 96 := g
      rw [Cert.Kernel3Ideal.Proj.feat_z'' _ n (by omega)]

/-! ## The four results -/

/-- A head's feature by its place among the columns. -/
theorem head_place (o : ℕ) (ho : o + 512 ≤ 3232) (b : Fin 8) (t : Fin 2048) (n : Fin 512) :
    turn (at5 x0 x2 x3 o ho b t ⟨n.val / 128, by omega⟩ ⟨n.val / 64 % 2, by omega⟩) (cosAt (x1 (ix2 b t))) (sinAt (x1 (ix2 b t)))
        ⟨n.val % 64, by omega⟩
      = headVal x0 x1 x2 x3 o ho b t n := by
  unfold headVal
  refine congrArg (fun z => turn z (cosAt (x1 (ix2 b t))) (sinAt (x1 (ix2 b t))) (low64 n)) (funext fun d => ?_)
  unfold at5
  refine congrArg (zcol x0 x2 x3 b t) (Fin.ext ?_)
  show o + (n.val / 128 * 128 + n.val / 64 % 2 * 64) + d.val = o + n.val / 64 * 64 + d.val
  omega

theorem v83_at (b : Fin 8) (t : Fin 2048) (n : Fin 512) :
    val_main_v83 (F := Ideal) x0 x1 x2 x3 (ix2 (tok b t) n) = headVal x0 x1 x2 x3 0 (by decide) b t n * Ideal.ofBits .f32 0x3E000000#32 := by
  rw [← head_place x0 x1 x2 x3 0 (by decide) b t n, ← v54_at]
  show val_main_v82 (F := Ideal) x0 x1 x2 x3 (ix2 (tok b t) n) = _
  rw [val_main_v82_apply]
  refine (congrArg (val_main_v56 (F := Ideal) x0 x1 x2 x3) (ext5 _ b t ⟨n.val / 128, by omega⟩ ⟨n.val / 64 % 2, by omega⟩
    ⟨n.val % 64, by omega⟩ ?_ ?_ ?_ ?_ ?_)).trans ?_
  · show ((b.val * 2048 + t.val) * 512 + n.val) / 1048576 = b.val; omega
  · show ((b.val * 2048 + t.val) * 512 + n.val) / 512 % 2048 = t.val; omega
  · show ((b.val * 2048 + t.val) * 512 + n.val) / 128 % 4 = n.val / 128; omega
  · show ((b.val * 2048 + t.val) * 512 + n.val) / 64 % 2 = n.val / 64 % 2; omega
  · show ((b.val * 2048 + t.val) * 512 + n.val) % 64 = n.val % 64; omega
  · rw [val_main_v56_apply, val_main_v55_apply]
    rfl

theorem v85_at (b : Fin 8) (t : Fin 2048) (n : Fin 512) :
    val_main_v85 (F := Ideal) x0 x1 x2 x3 (ix2 (tok b t) n) = headVal x0 x1 x2 x3 512 (by decide) b t n := by
  rw [← head_place x0 x1 x2 x3 512 (by decide) b t n, ← v72_at]
  show val_main_v84 (F := Ideal) x0 x1 x2 x3 (ix2 (tok b t) n) = _
  rw [val_main_v84_apply]
  refine congrArg (val_main_v72 (F := Ideal) x0 x1 x2 x3) (ext5 _ b t ⟨n.val / 128, by omega⟩ ⟨n.val / 64 % 2, by omega⟩
    ⟨n.val % 64, by omega⟩ ?_ ?_ ?_ ?_ ?_)
  · show ((b.val * 2048 + t.val) * 512 + n.val) / 1048576 = b.val; omega
  · show ((b.val * 2048 + t.val) * 512 + n.val) / 512 % 2048 = t.val; omega
  · show ((b.val * 2048 + t.val) * 512 + n.val) / 128 % 4 = n.val / 128; omega
  · show ((b.val * 2048 + t.val) * 512 + n.val) / 64 % 2 = n.val / 64 % 2; omega
  · show ((b.val * 2048 + t.val) * 512 + n.val) % 64 = n.val % 64; omega

theorem v87_at (b : Fin 8) (t : Fin 2048) (n : Fin 512) :
    val_main_v87 (F := Ideal) x0 x2 x3 (ix2 (tok b t) n) = zcol x0 x2 x3 b t ⟨1024 + n.val, by omega⟩ := by
  show val_main_v86 (F := Ideal) x0 x2 x3 (ix2 (tok b t) n) = _
  rw [val_main_v86_apply, val_main_v38_apply]
  refine (congrArg (val_main_v33 (F := Ideal) x0 x2 x3) (ext3 _ b t ⟨1024 + n.val, by omega⟩ ?_ ?_ ?_)).trans (v33_at x0 x2 x3 b t _)
  · show ((b.val * 2048 + t.val) * 512 + n.val) / 1048576 = b.val; omega
  · show ((b.val * 2048 + t.val) * 512 + n.val) / 512 % 2048 = t.val; omega
  · show 1024 + ((b.val * 2048 + t.val) * 512 + n.val) % 512 = 1024 + n.val; omega

theorem v88_at (b : Fin 8) (t : Fin 2048) (n : Fin 1920) :
    val_main_v88 (F := Ideal) x0 x2 x3 (ix2 (tok b t) n) = feat (zcol x0 x2 x3 b t) n := by
  rw [val_main_v88_apply]
  refine (congrArg (val_main_v81 (F := Ideal) x0 x2 x3) (ext3 _ b t n ?_ ?_ ?_)).trans (v81_at x0 x2 x3 b t n)
  · show ((b.val * 2048 + t.val) * 1920 + n.val) / 3932160 = b.val; omega
  · show ((b.val * 2048 + t.val) * 1920 + n.val) / 1920 % 2048 = t.val; omega
  · show ((b.val * 2048 + t.val) * 1920 + n.val) % 1920 = n.val; omega

end InProj.Ref

end
-- ==== Proof.InProj.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.InRef
public import Idealize.ShloMosaic.Adequacy

/-! # The in-projection's claims -/

@[expose] public section

noncomputable section

namespace InProj

open Idealize.ShloMosaic Idealize.SL.Sem
open Cert.Kernel3Ideal.Proj (tok row)

theorem frame_p : Cert.quiescent_Kernel3 := fun m ρ _ => Cert.Kernel3.Gen.frame m ρ
theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

theorem preserves : Cert.preserves_Kernel3_Kernel3Ideal := trivial

/-- A row of the results is a row of a block of 512, and a batch row's token. -/
theorem place (i : Fin 16384) : ∃ (q : Fin 32) (r : Fin 512) (b : Fin 8) (t : Fin 2048), row q r = tok b t ∧ i = tok b t := by
  have hi := i.isLt
  refine ⟨⟨i.val / 512, by omega⟩, ⟨i.val % 512, by omega⟩, ⟨i.val / 2048, by omega⟩, ⟨i.val % 2048, by omega⟩, Fin.ext ?_, Fin.ext ?_⟩
  · show i.val / 512 * 512 + i.val % 512 = i.val / 2048 * 2048 + i.val % 2048
    omega
  · show i.val = i.val / 2048 * 2048 + i.val % 2048
    omega

theorem result_idx {N : ℕ} (i : (⟨2, ![16384, N]⟩ : Shape).Idx) :
    ∃ (q : Fin 32) (r : Fin 512) (b : Fin 8) (t : Fin 2048) (n : Fin N), row q r = tok b t ∧ i = ix2 (tok b t) n := by
  obtain ⟨q, r, b, t, h, e⟩ := place (i 0)
  refine ⟨q, r, b, t, i 1, h, (eq_ix2 i).trans ?_⟩
  rw [e]

section Results

variable (m : (ℓ : Loc Cert.Kernel3Ideal.nD Cert.Kernel3Ideal.τ Cert.Kernel3Ideal.sig) → Buf (Elt Ideal) ℓ) (c : Dev Cert.Kernel3Ideal.nD)

theorem value7 : Cert.Reference3Ideal.Read.val_main_v83 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
      = (Cert.Kernel3Ideal.Gen.dats m 0 c).arrAt 7 Cert.Kernel3Ideal.cfg0.N := by
  funext i
  obtain ⟨q, r, b, t, n, hr, rfl⟩ := result_idx i
  exact (Ref.v83_at _ _ _ _ b t n).trans (Cert.Kernel3Ideal.Proj.final7 m c q r b t hr n).symm

theorem value8 : Cert.Reference3Ideal.Read.val_main_v85 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
      = (Cert.Kernel3Ideal.Gen.dats m 0 c).arrAt 8 Cert.Kernel3Ideal.cfg0.N := by
  funext i
  obtain ⟨q, r, b, t, n, hr, rfl⟩ := result_idx i
  exact (Ref.v85_at _ _ _ _ b t n).trans (Cert.Kernel3Ideal.Proj.final8 m c q r b t hr n).symm

theorem value9 : Cert.Reference3Ideal.Read.val_main_v87 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
      = (Cert.Kernel3Ideal.Gen.dats m 0 c).arrAt 9 Cert.Kernel3Ideal.cfg0.N := by
  funext i
  obtain ⟨q, r, b, t, n, hr, rfl⟩ := result_idx i
  exact (Ref.v87_at _ _ _ b t n).trans (Cert.Kernel3Ideal.Proj.final9 m c q r b t hr n).symm

theorem value10 : Cert.Reference3Ideal.Read.val_main_v88 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
      = (Cert.Kernel3Ideal.Gen.dats m 0 c).arrAt 10 Cert.Kernel3Ideal.cfg0.N := by
  funext i
  obtain ⟨q, r, b, t, n, hr, rfl⟩ := result_idx i
  exact (Ref.v88_at _ _ _ b t n).trans (Cert.Kernel3Ideal.Proj.final10 m c q r b t hr n).symm

end Results

theorem algebraic : Cert.algebraic_Kernel3Ideal_Reference3Ideal := by
  intro m g m' g' _ hargs
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N, ?_, ?_⟩
  · exact Cert.Kernel3Ideal.Value.run_blocks m g
  · refine (θ_run Cert.Reference3Ideal.defs _ _).mono (fun r h c => ⟨(h c).1.trans ?_, (h c).2.1.trans ?_, (h c).2.2.1.trans ?_,
      (h c).2.2.2.1.trans ?_, (h c).2.2.2.2⟩) (Cert.Reference3Ideal.Value.run (F := Ideal) m' g')
    · obtain ⟨e0, e1, e2, e3⟩ := hargs c
      rw [Cert.Reference3Ideal.Read.val_main_v83_eq, e0, e1, e2, e3]
      exact value7 m c
    · obtain ⟨e0, e1, e2, e3⟩ := hargs c
      rw [Cert.Reference3Ideal.Read.val_main_v85_eq, e0, e1, e2, e3]
      exact value8 m c
    · obtain ⟨e0, e1, e2, e3⟩ := hargs c
      rw [Cert.Reference3Ideal.Read.val_main_v87_eq, e0, e2, e3]
      exact value9 m c
    · obtain ⟨e0, e1, e2, e3⟩ := hargs c
      rw [Cert.Reference3Ideal.Read.val_main_v88_eq, e0, e2, e3]
      exact value10 m c

end InProj

end
-- ==== Proof.MoeBody.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Claim
public import Idealize.ShloMosaic.Lib.Tactic

/-!
# The experts' kernel: one grid point

The body at a block of rows in use computes the expert's two products over the block; at any other
block it stores zeros.
-/

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of experts, one word per block of rows, as the body holds it. -/
abbrev tabE : Memref sig .tc .smem S160 .i32 := Memref.whole main_arg0
/-- The number of blocks in use, one word. -/
abbrev tabN : Memref sig .tc .smem S1 .i32 := Memref.whole main_arg1

/-- The one word of the second table, as the body loads it. -/
abbrev word (T : S1.Idx → Elt F .i32) : BitVec 32 :=
  View.readAt (Elt F) (tabN).view (Rect.unit (s := S1) ![0] S1.size inb_S1_S1_0).toLoadRect T
    (Shape.Idx.first (numel1_S1.symm ▸ Nat.one_pos))

/-- Whole blocks. -/
abbrev rX : Rect S512x1024 := Rect.unit (s := S512x1024) ![0, 0] S512x1024.size inb_S512x1024_S512x1024_0_0
abbrev rW1 : Rect S1x1024x2048 := Rect.unit (s := S1x1024x2048) ![0, 0, 0] S1x1024x2048.size inb_S1x1024x2048_S1x1024x2048_0_0_0
abbrev rB1 : Rect S1x1x2048 := Rect.unit (s := S1x1x2048) ![0, 0, 0] S1x1x2048.size inb_S1x1x2048_S1x1x2048_0_0_0
abbrev rW2 : Rect S1x1024x1024 := Rect.unit (s := S1x1024x1024) ![0, 0, 0] S1x1024x1024.size inb_S1x1024x1024_S1x1024x1024_0_0_0
abbrev rB2 : Rect S1x1x1024 := Rect.unit (s := S1x1x1024) ![0, 0, 0] S1x1x1024.size inb_S1x1x1024_S1x1x1024_0_0_0

/-- The second product over the hidden block `h`: the eight groups of 128 lanes joined, times `w2`, plus `b2`. -/
def second (h : FVec F S512x2048 .f32) (v36 v39 v45 : FVec F S512x128 .f32) (w2 : Vec F S1x1024x1024 .bf16)
    (b2 : Vec F S1x1x1024 .f32) : FVec F S512x1024 .f32 :=
  k0_pay28 h k0_pay3 (k0_pay8 k0_pay3 v36 v39 v45 (Scalar.ofBits .f32 0x3FD9DB23#32)) (k0_pay9 h k0_pay3)
    (k0_pay11 h k0_pay3 (k0_pay10 h)) (k0_pay15 h k0_pay3 (k0_pay13 h) (k0_pay14 h) (Scalar.ofBits .f32 0x3FD9DB23#32))
    (k0_pay19 k0_pay3 (k0_pay16 h) (k0_pay17 h) (k0_pay18 h) (Scalar.ofBits .f32 0xC0E00000#32) (Scalar.ofBits .f32 0x40E00000#32))
    (k0_pay24 k0_pay3 (k0_pay20 h) (k0_pay22 h) (k0_pay23 h) 127#32) (k0_pay25 h k0_pay3) (k0_pay26 h) (k0_pay27 h)
    (Scalar.ofBits .f32 0xC0E00000#32) (Scalar.ofBits .f32 0x40E00000#32) w2 b2

/-- The rows a block in use gets, from the block's rows and its expert's weights. -/
def mlp (x : Vec F S512x1024 .f32) (w1 : Vec F S1x1024x2048 .bf16) (b1 : Vec F S1x1x2048 .f32)
    (w2 : Vec F S1x1024x1024 .bf16) (b2 : Vec F S1x1x1024 .f32) : FVec F S512x1024 .f32 :=
  second (k0_pay2 (View.ld x rX) (View.ld w1 rW1) (View.ld b1 rB1)) (k0_pay4 (View.ld x rX) (View.ld w1 rW1) (View.ld b1 rB1))
    (k0_pay6 (View.ld x rX) (View.ld w1 rW1) (View.ld b1 rB1)) (k0_pay7 (View.ld x rX) (View.ld w1 rW1) (View.ld b1 rB1))
    (View.ld w2 rW2) (View.ld b2 rB2)

/-- One store of a whole block covers it. -/
theorem cover (v : Vec F S512x1024 .f32) (y : S512x1024.Idx) :
    ∃ pc ∈ ([⟨rX, v⟩] : List (View.Piece (Elt F) S512x1024 .f32)), y ∈ pc.1.set :=
  View.cover_of_tiled [⟨rX, v⟩] S512x1024.size (by rfl) y

/-- What a whole store of `v` leaves. -/
abbrev stored (v : Vec F S512x1024 .f32) : Vec F S512x1024 .f32 := View.canon ([⟨rX, v⟩] : List (View.Piece (Elt F) S512x1024 .f32))

section
variable (c : Dev nD) (i : grid0.Coords) (arg3 : Memref sig .tc .vmem S512x1024 .f32) (harg3 : arg3.IsWhole)
  (arg4 : Memref sig .tc .vmem S1x1024x2048 .bf16) (harg4 : arg4.IsWhole) (arg5 : Memref sig .tc .vmem S1x1x2048 .f32) (harg5 : arg5.IsWhole)
  (arg6 : Memref sig .tc .vmem S1x1024x1024 .bf16) (harg6 : arg6.IsWhole) (arg7 : Memref sig .tc .vmem S1x1x1024 .f32) (harg7 : arg7.IsWhole)
  (arg8 : Memref sig .tc .vmem S512x1024 .f32) (harg8 : arg8.IsWhole) (T0 : S160.Idx → Elt F .i32) (T1 : S1.Idx → Elt F .i32)
  (x0 : Vec F S512x1024 .f32) (x1 : Vec F S1x1024x2048 .bf16) (x2 : Vec F S1x1x2048 .f32) (x3 : Vec F S1x1024x1024 .bf16) (x4 : Vec F S1x1x1024 .f32)

/-- What the body holds at a point: the five input blocks, the tables' halves. -/
abbrev held : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4
    ∗ (tabE.view.loc (c : Thread nD τ) ↦{fullShare.right} T0) ∗ (tabN.view.loc (c : Thread nD τ) ↦{fullShare.right} T1))

set_option maxHeartbeats 8000000 in
/-- A block in use: its rows come out as `mlp`. -/
theorem body_used (h1 : k0_cond1 i (word T1) = 1#1) (h2 : ¬ k0_cond2 i (word T1) = 1#1) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (tabE.view.loc (c : Thread nD τ) ↦{fullShare.right} T0) ∗ (tabN.view.loc (c : Thread nD τ) ↦{fullShare.right} T1)
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ (tabE.view.loc (c : Thread nD τ) ↦{fullShare.right} T0) ∗ (tabN.view.loc (c : Thread nD τ) ↦{fullShare.right} T1)
          ∗ owns (c : Thread nD τ) arg8 fullShare (stored (mlp x0 x1 x2 x3 x4))) -∗ K ⟨⟩))
      ⊢ wp frame (wpE (defs₀ (F := F)) Variants.none c none) Set.univ
          (cc0_moe_experts i tabE (Memref.isWhole_whole _) tabN (Memref.isWhole_whole _) arg3 harg3 arg4 harg4 arg5 harg5 arg6 harg6 arg7 harg7 arg8 harg8) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, HT0, HT1, ⟨%d5, %f5, -, H5⟩, Hk⟩
  subst hf0 hf1 hf2 hf3 hf4
  have hT0 : tabE.IsWhole := Memref.isWhole_whole _
  have hT1 : tabN.IsWhole := Memref.isWhole_whole _
  sl_exec! (disch := first | (guard_target = k0_cond1 _ _ = _; exact h1) | (guard_target = ¬(k0_cond2 _ _ = _); exact h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HT0]; · iexact HT0
  isplitl [HT1]; · iexact HT1
  iexists _; isplitr
  swap; · iexact H5
  ipureintro
  refine (View.read_writes_eq_canon _ _ _ (cover _)).trans ?_
  rfl

set_option maxHeartbeats 8000000 in
/-- Any other block: its rows come out zero. -/
theorem body_free (h1 : ¬ k0_cond1 i (word T1) = 1#1) (h2 : k0_cond2 i (word T1) = 1#1) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (tabE.view.loc (c : Thread nD τ) ↦{fullShare.right} T0) ∗ (tabN.view.loc (c : Thread nD τ) ↦{fullShare.right} T1)
        ∗ (∃ d, owns (c : Thread nD τ) arg8 fullShare d)
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ (tabE.view.loc (c : Thread nD τ) ↦{fullShare.right} T0) ∗ (tabN.view.loc (c : Thread nD τ) ↦{fullShare.right} T1)
          ∗ owns (c : Thread nD τ) arg8 fullShare (stored (k0_pay1 (F := F)))) -∗ K ⟨⟩))
      ⊢ wp frame (wpE (defs₀ (F := F)) Variants.none c none) Set.univ
          (cc0_moe_experts i tabE (Memref.isWhole_whole _) tabN (Memref.isWhole_whole _) arg3 harg3 arg4 harg4 arg5 harg5 arg6 harg6 arg7 harg7 arg8 harg8) K := by
  rw [cc0_moe_experts_eq_skeleton]; unfold cc0_moe_experts_skel
  iintro ⟨H0, H1, H2, H3, H4, HT0, HT1, H5, Hk⟩
  unfold owns
  icases H5 with ⟨%d5, %f5, -, H5⟩
  have hT0 : tabE.IsWhole := Memref.isWhole_whole _
  have hT1 : tabN.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _; isplitr
  swap; · iexact H5
  ipureintro
  refine (View.read_writes_eq_canon _ _ _ (cover _)).trans ?_
  rfl

end

end Cert.Kernel2Ideal.Moe

end
-- ==== Proof.MoeRun.lean ====
module

public import proofs.«01_k».proof.Proof.MoeBody
public import Idealize.ShloMosaic.Lib.Pipeline.TableIdle
public import Idealize.ShloMosaic.Lib.Pipeline.Quiescent
public import Idealize.ShloMosaic.Lib.Pipeline.Value
public import Idealize.ShloMosaic.Lib.Pointwise
public import Idealize.ShloMosaic.Adequacy

/-!
# The experts' kernel: the run over the grid

At a launch memory whose table names experts below 32 and whose count of blocks in use is at least
one, every window's block lies in its array; the run ends with the argument arrays unchanged and the
result's array at the blocks the points stored.
-/

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The memory when the grid starts -/

/-- The buffers after the host operations. -/
abbrev V (c : Dev nD) (b : Ref sig .tc) : Buf (Elt F) ((c : Thread nD τ).loc b) := StableHlo.after hostOps0 (fun b => m (c, b)) b

theorem fresh_free : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh_free main_chain

/-- A buffer no host operation writes is as launched. -/
theorem V_of_free (c : Dev nD) (b : Ref sig .tc)
    (h : ∀ op ∈ (hostOps0 : List (HloOp τ sig (Elt F))), Proc.devRef .tc b ∉ op.writes) : V m c b = m ((c : Thread nD τ).loc b) :=
  StableHlo.after_of_forall_not_mem (b := Proc.devRef .tc b) _ _ h

theorem V_arg0 (c : Dev nD) : V m c main_arg0 = m ((c : Thread nD τ).loc main_arg0) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))
theorem V_arg1 (c : Dev nD) : V m c main_arg1 = m ((c : Thread nD τ).loc main_arg1) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))
theorem V_arg2 (c : Dev nD) : V m c main_arg2 = m ((c : Thread nD τ).loc main_arg2) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))
theorem V_arg3 (c : Dev nD) : V m c main_arg3 = m ((c : Thread nD τ).loc main_arg3) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))
theorem V_arg4 (c : Dev nD) : V m c main_arg4 = m ((c : Thread nD τ).loc main_arg4) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))
theorem V_arg5 (c : Dev nD) : V m c main_arg5 = m ((c : Thread nD τ).loc main_arg5) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))
theorem V_arg6 (c : Dev nD) : V m c main_arg6 = m ((c : Thread nD τ).loc main_arg6) := V_of_free m c _ (List.forall_iff_forall_mem.mp (by
  simp only [hostOps0, List.Forall, StableHlo.unary_writes, StableHlo.reshape_writes, Finset.mem_singleton]
  repeat' apply And.intro
  all_goals exact StableHlo.devRef_ne_of_ne (by decide)))

/-! ## The tables -/

/-- The experts of the blocks, and the count of blocks in use, as launched. -/
abbrev T0 : S160.Idx → Elt F .i32 := m (((0 : Dev nD) : Thread nD τ).loc main_arg0)
abbrev T1 : S1.Idx → Elt F .i32 := m (((0 : Dev nD) : Thread nD τ).loc main_arg1)

/-- Every expert's number is below 32; at least one block is in use. -/
def Tabs (T0 : S160.Idx → BitVec 32) (T1 : S1.Idx → BitVec 32) : Prop :=
  (∀ i, (T0 i).toNat < 32) ∧ ∀ i, 1 ≤ (T1 i).toInt

/-- The word at block `n`; the one word of the second table. -/
abbrev expert (T0 : S160.Idx → BitVec 32) (n : Fin 160) : BitVec 32 := T0 (ix1 n)
abbrev used (T1 : S1.Idx → BitVec 32) : BitVec 32 := T1 (ix1 0)

theorem idx1_eq (i : S1.Idx) : i = ix1 0 := by
  funext a; apply Fin.ext
  match a with
  | ⟨0, h⟩ => have h0 : (i ⟨0, h⟩).val < 1 := (i ⟨0, h⟩).isLt
              show (i ⟨0, h⟩).val = 0
              omega

set_option backward.proofsInPublic true in
/-- The tables' contents the grid runs at. -/
def pf : pre0.Contents (Elt F) := fun | ⟨0, _⟩ => T0 m | ⟨1, _⟩ => T1 m | ⟨_ + 2, h⟩ => absurd h (by simp)

/-- The word a scalar load of the second table reads. -/
theorem word_eq (T : S1.Idx → Elt F .i32) : word T = used T := by
  show T _ = T _
  exact congrArg T (idx1_eq _)

theorem at1 (r : Rect S1) (h : r.shape.numel = 1) : (pf m).at 1 r h = used (T1 m) := congrArg (T1 m) (idx1_eq _)

theorem at0 (i : grid0.Coords) : (pf m).at 0 (Rect.unit (s := S160) (k0_off1 i) S1.size (k0_off1_inb i)) numel1_S1 = expert (T0 m) (i 0) := by
  refine congrArg (T0 m) (funext fun a => Fin.ext ?_)
  match a with
  | ⟨0, h⟩ =>
    have hi : (i 0).val < 160 := (i 0).isLt
    show (BitVec.ofNat 32 (i 0).val).toNat + 1 * 0 = (i 0).val
    rw [BitVec.toNat_ofNat]; omega

theorem atD1 : (pf m).atD 1 ![0] = used (T1 m) := by
  have h : ∀ a, (![0] : Fin 1 → ℕ) a + 1 ≤ S1.size a := by decide
  refine (dif_pos h).trans ?_
  exact congrArg (T1 m) (idx1_eq _)

/-- The block of rows the first window holds: the point's own, capped at the last in use. -/
def rowBlock (n : ℕ) (u : BitVec 32) : ℕ := (IntOp.minsi (BitVec.ofNat 32 n) (IntOp.subi u 1#32)).toNat

theorem ofNat_toInt (n : ℕ) (hn : n < 160) : (BitVec.ofNat 32 n).toInt = n := by
  rw [BitVec.toInt_eq_toNat_cond, BitVec.toNat_ofNat]; split <;> omega

theorem sub_one_toInt (u : BitVec 32) (hu : 1 ≤ u.toInt) : (u - 1#32).toInt = u.toInt - 1 := by
  have h := u.isLt
  rw [BitVec.toInt_eq_toNat_cond] at hu ⊢
  rw [BitVec.toInt_eq_toNat_cond, BitVec.toNat_sub]
  have e : (1#32).toNat = 1 := rfl
  rw [e]
  split at hu <;> split <;> (try split) <;> omega

theorem rowBlock_lt (n : ℕ) (hn : n < 160) (u : BitVec 32) (hu : 1 ≤ u.toInt) : rowBlock n u < 160 := by
  have hs := sub_one_toInt u hu
  have hn' := ofNat_toInt n hn
  unfold rowBlock IntOp.minsi IntOp.subi
  by_cases h : (BitVec.ofNat 32 n).slt (u - 1#32) = true
  · rw [if_pos h, BitVec.toNat_ofNat]; omega
  · rw [if_neg h]
    rw [BitVec.slt_iff_toInt_lt] at h
    have hc : (u - 1#32).toInt = _ := BitVec.toInt_eq_toNat_cond _
    have := (u - 1#32).isLt
    split at hc <;> omega

theorem rowBlock_used (n : ℕ) (hn : n < 160) (u : BitVec 32) (hu : (n : ℤ) < u.toInt) : rowBlock n u = n := by
  have hs := sub_one_toInt u (by omega)
  have hn' := ofNat_toInt n hn
  unfold rowBlock IntOp.minsi IntOp.subi
  by_cases h : (BitVec.ofNat 32 n).slt (u - 1#32) = true
  · rw [if_pos h, BitVec.toNat_ofNat]; omega
  · rw [if_neg h]
    rw [BitVec.slt_iff_toInt_lt] at h
    have hc : (u - 1#32).toInt = _ := BitVec.toInt_eq_toNat_cond _
    have := (u - 1#32).isLt
    split at hc <;> omega

/-- Exactly one of the two conditions holds: the point's block is in use, or it is not. -/
theorem cond1_iff (i : grid0.Coords) (u : BitVec 32) : k0_cond1 i u = 1#1 ↔ ((i 0).val : ℤ) < u.toInt := by
  have hi : (i 0).val < 160 := (i 0).isLt
  rw [← ofNat_toInt _ hi, ← BitVec.slt_iff_toInt_lt]
  show Scalar.cmpi .ne (Scalar.extui (BitVec.ofBool ((BitVec.ofNat 32 (i 0).val).slt u))) 0#32 = 1#1 ↔ _
  cases (BitVec.ofNat 32 (i 0).val).slt u <;> decide

theorem cond2_iff (i : grid0.Coords) (u : BitVec 32) : k0_cond2 i u = 1#1 ↔ ¬ ((i 0).val : ℤ) < u.toInt := by
  have hi : (i 0).val < 160 := (i 0).isLt
  rw [← ofNat_toInt _ hi, not_lt, ← BitVec.sle_iff_toInt_le]
  show Scalar.cmpi .ne (Scalar.extui (BitVec.ofBool (u.sle (BitVec.ofNat 32 (i 0).val)))) 0#32 = 1#1 ↔ _
  cases u.sle (BitVec.ofNat 32 (i 0).val) <;> decide

variable (hT : Tabs (T0 m) (T1 m))

include hT in
/-- Every window's block lies in its array. -/
theorem ok_pf : ok0 (pf m) := by
  have hr : ∀ i : grid0.Coords, rowBlock (i 0).val (used (T1 m)) < 160 := fun i => rowBlock_lt _ (i 0).isLt _ (hT.2 _)
  have he : ∀ i : grid0.Coords, (expert (T0 m) (i 0)).toNat < 32 := fun i => hT.1 _
  have e0 : ∀ i : grid0.Coords, cc0_transform_0 inb_S1_S1_0 numel1_S1 (pf m) i = ![rowBlock (i 0).val (used (T1 m)), 0] := fun i => by
    show ![(Scalar.minsi _ (Scalar.subi ((pf m).at 1 _ _) 1#32)).toNat, 0] = _
    rw [at1]; rfl
  have e1 : ∀ i : grid0.Coords, cc0_transform_1 k0_off1_inb numel1_S1 (pf m) i = ![(expert (T0 m) (i 0)).toNat, 0, 0] := fun i => by
    rw [← at0]; rfl
  have e2 : ∀ i : grid0.Coords, cc0_transform_2 k0_off1_inb numel1_S1 (pf m) i = ![(expert (T0 m) (i 0)).toNat, 0, 0] := e1
  have e3 : ∀ i : grid0.Coords, cc0_transform_3 k0_off1_inb numel1_S1 (pf m) i = ![(expert (T0 m) (i 0)).toNat, 0, 0] := e1
  have e4 : ∀ i : grid0.Coords, cc0_transform_4 k0_off1_inb numel1_S1 (pf m) i = ![(expert (T0 m) (i 0)).toNat, 0, 0] := e1
  refine ⟨fun i => ⟨fun a => ?_, .inl rfl⟩, fun i => ⟨fun a => ?_, .inr ?_⟩, fun i => ⟨fun a => ?_, .inl rfl⟩, fun i => ⟨fun a => ?_, .inr ?_⟩, fun i => ⟨fun a => ?_, .inl rfl⟩⟩
  · rw [e0]; have := hr i
    match a with
    | ⟨0, _⟩ => show (rowBlock (i 0).val (used (T1 m)) + 1) * 512 ≤ 81920; omega
    | ⟨1, _⟩ => show (0 + 1) * 1024 ≤ 1024; omega
  · rw [e1]; have := he i
    match a with
    | ⟨0, _⟩ => show ((expert (T0 m) (i 0)).toNat + 1) * 1 ≤ 32; omega
    | ⟨1, _⟩ => show (0 + 1) * 1024 ≤ 1024; omega
    | ⟨2, _⟩ => show (0 + 1) * 2048 ≤ 2048; omega
  · exact Affine.block_words_dvd (s := S32x1024x2048) (p := EltTy.packing .bf16) (by decide) (by decide)
  · rw [e2]; have := he i
    match a with
    | ⟨0, _⟩ => show ((expert (T0 m) (i 0)).toNat + 1) * 1 ≤ 32; omega
    | ⟨1, _⟩ => show (0 + 1) * 1 ≤ 1; omega
    | ⟨2, _⟩ => show (0 + 1) * 2048 ≤ 2048; omega
  · rw [e3]; have := he i
    match a with
    | ⟨0, _⟩ => show ((expert (T0 m) (i 0)).toNat + 1) * 1 ≤ 32; omega
    | ⟨1, _⟩ => show (0 + 1) * 1024 ≤ 1024; omega
    | ⟨2, _⟩ => show (0 + 1) * 1024 ≤ 1024; omega
  · exact Affine.block_words_dvd (s := S32x1024x1024) (p := EltTy.packing .bf16) (by decide) (by decide)
  · rw [e4]; have := he i
    match a with
    | ⟨0, _⟩ => show ((expert (T0 m) (i 0)).toNat + 1) * 1 ≤ 32; omega
    | ⟨1, _⟩ => show (0 + 1) * 1 ≤ 1; omega
    | ⟨2, _⟩ => show (0 + 1) * 1024 ≤ 1024; omega

/-- The tables' contents with their side condition, and the grid at them. -/
def adm : (pcfg0 (F := F)).Adm := ⟨pf m, ok_pf m hT⟩
abbrev cfgA : Pipeline.Cfg sig Λ₀ := cfg0 (F := F) (adm m hT)

/-- A window's block at a point, read off its array when the grid starts. -/
def iblk (c : Dev nD) (w : Fin (cfgA m hT).W) (t : Fin (cfgA m hT).N) :
    (((cfgA m hT).win w).xblock ((cfgA m hT).grid.coords t)).Idx → Elt F ((cfgA m hT).win w).elt :=
  (((cfgA m hT).win w).blk t).view.read (Elt F) (V m c (Pipeline.arrRef spec0 w))

open Classical in
/-- What a point stores: the expert's rows in a block in use, zeros elsewhere. -/
def out (c : Dev nD) (t : Fin (cfgA m hT).N) : Vec F S512x1024 .f32 :=
  if (((cfgA m hT).grid.coords t 0).val : ℤ) < (used (T1 m)).toInt then
    stored (mlp (iblk m hT c 0 t) (iblk m hT c 1 t) (iblk m hT c 2 t) (iblk m hT c 3 t) (iblk m hT c 4 t))
  else stored (k0_pay1 (F := F))

/-- The proof data of the pipeline. -/
def dats (_ : Fin 1) (c : Dev nD) : Dat τ (Elt F) Unit ℕ (UR sig nD τ) ℕ (cfgA m hT) c where
  A w := V m c (Pipeline.arrRef spec0 w)
  after w t := match w with
    | ⟨0, _⟩ => iblk m hT c 0 t
    | ⟨1, _⟩ => iblk m hT c 1 t
    | ⟨2, _⟩ => iblk m hT c 2 t
    | ⟨3, _⟩ => iblk m hT c 3 t
    | ⟨4, _⟩ => iblk m hT c 4 t
    | ⟨5, _⟩ => out m hT c t
  Φ _ := iprop(Pipeline.ΦA spec0 c ∗ Pipeline.ΦT pre0 (adm m hT).1 c)
  q _ := fullShare
  owed _ := 0

theorem A_eq (c : Dev nD) (w : Fin (cfgA m hT).W) : (dats m hT 0 c).A w = V m c (Pipeline.arrRef spec0 w) := by dsimp only [dats]
theorem after_0 (c : Dev nD) (t : Fin (cfgA m hT).N) : (dats m hT 0 c).after (0 : Fin 6) t = iblk m hT c (0 : Fin 6) t := by dsimp only [dats]
theorem after_1 (c : Dev nD) (t : Fin (cfgA m hT).N) : (dats m hT 0 c).after (1 : Fin 6) t = iblk m hT c (1 : Fin 6) t := by dsimp only [dats]
theorem after_2 (c : Dev nD) (t : Fin (cfgA m hT).N) : (dats m hT 0 c).after (2 : Fin 6) t = iblk m hT c (2 : Fin 6) t := by dsimp only [dats]
theorem after_3 (c : Dev nD) (t : Fin (cfgA m hT).N) : (dats m hT 0 c).after (3 : Fin 6) t = iblk m hT c (3 : Fin 6) t := by dsimp only [dats]
theorem after_4 (c : Dev nD) (t : Fin (cfgA m hT).N) : (dats m hT 0 c).after (4 : Fin 6) t = iblk m hT c (4 : Fin 6) t := by dsimp only [dats]
theorem after_5 (c : Dev nD) (t : Fin (cfgA m hT).N) : (dats m hT 0 c).after (5 : Fin 6) t = out m hT c t := by dsimp only [dats]

theorem before_0 (c : Dev nD) (t : Fin (cfgA m hT).N) (d) : (dats m hT 0 c).before (0 : Fin 6) t d = iblk m hT c (0 : Fin 6) t :=
  ((dats m hT 0 c).before_in_eq_fetched (0 : Fin 6) rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA m hT).N) (d) : (dats m hT 0 c).before (1 : Fin 6) t d = iblk m hT c (1 : Fin 6) t :=
  ((dats m hT 0 c).before_in_eq_fetched (1 : Fin 6) rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA m hT).N) (d) : (dats m hT 0 c).before (2 : Fin 6) t d = iblk m hT c (2 : Fin 6) t :=
  ((dats m hT 0 c).before_in_eq_fetched (2 : Fin 6) rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA m hT).N) (d) : (dats m hT 0 c).before (3 : Fin 6) t d = iblk m hT c (3 : Fin 6) t :=
  ((dats m hT 0 c).before_in_eq_fetched (3 : Fin 6) rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA m hT).N) (d) : (dats m hT 0 c).before (4 : Fin 6) t d = iblk m hT c (4 : Fin 6) t :=
  ((dats m hT 0 c).before_in_eq_fetched (4 : Fin 6) rfl (fun _ => rfl) (fun _ _ _ => rfl) (fun t => by rw [after_4]; unfold Dat.blockOf iblk; rw [A_eq]; try rfl) t d).trans
    (by unfold Dat.fetched Dat.blockOf iblk; rw [A_eq]; try rfl)

/-- The result's block moves with every point, so every point writes it back; no point leaves it alone. -/
theorem flush_5 (t : Fin (cfgA m hT).N) : ((cfgA m hT).win (5 : Fin 6)).flush t = true :=
  (Pipeline.Window.flush_reads ((cfgA m hT).win (5 : Fin 6)) rfl 0
    (show 1 < grid0.bound 0 by decide) (show grid0.fixedAfter reads0_5 0 = true by decide)
    (Pipeline.Window.sep_of_coord cc0_transform_5 0 0 (fun _ => rfl) (by decide)) (P := 1) (m := 0) (show grid0.stride 0 = 1 by decide) rfl t).mpr (Nat.mod_one _)

theorem idle_5 (t : Fin (cfgA m hT).N) : (cfgA m hT).idle (5 : Fin 6) ((cfgA m hT).grid.coords t) = false := by
  show (!(k0_cond1 _ ((pf m).atD 1 ![0]) == 1#1) && !(k0_cond2 _ ((pf m).atD 1 ![0]) == 1#1)) = false
  rw [atD1]
  by_cases h : k0_cond1 ((cfgA m hT).grid.coords t) (used (T1 m)) = 1#1
  · rw [h]; rfl
  · have h2 : k0_cond2 ((cfgA m hT).grid.coords t) (used (T1 m)) = 1#1 :=
      (cond2_iff _ _).mpr fun h1 => h ((cond1_iff _ _).mpr h1)
    rw [h2]; exact Bool.and_false _

/-- The tables as the launch hands them to the grid, one by one. -/
theorem tables_eq (c : Dev nD) :
    (Pipeline.ΦT pre0 (adm m hT).1 c : sProp 𝕄)
      = iprop((tabE.view.loc (c : Thread nD τ) ↦{fullShare.right} T0 m) ∗ (tabN.view.loc (c : Thread nD τ) ↦{fullShare.right} T1 m)) := by
  show Pipeline.prefHeld pre0 c (fun _ => fullShare.right) (adm m hT).1 = _
  unfold Pipeline.prefHeld
  rw [show (Finset.univ : Finset (Fin 2)) = insert (0 : Fin 2) {(1 : Fin 2)} from by decide, bigSep_insert (by decide), bigSep_singleton]
  rfl

set_option maxHeartbeats 4000000 in
/-- The body at any point. -/
theorem sound_body (c : Dev nD) (t : Fin (cfgA m hT).N) :
    iprop((dats m hT 0 c).Φ t.castSucc ∗ (dats m hT 0 c).owesAt () t.castSucc
        ∗ (∃ d, owns (c : Thread nD τ) (spec0_0.stage ((cfgA m hT).slots t (0 : Fin 6))) fullShare ((dats m hT 0 c).before (0 : Fin 6) t d))
        ∗ (∃ d, owns (c : Thread nD τ) (spec0_1.stage ((cfgA m hT).slots t (1 : Fin 6))) fullShare ((dats m hT 0 c).before (1 : Fin 6) t d))
        ∗ (∃ d, owns (c : Thread nD τ) (spec0_2.stage ((cfgA m hT).slots t (2 : Fin 6))) fullShare ((dats m hT 0 c).before (2 : Fin 6) t d))
        ∗ (∃ d, owns (c : Thread nD τ) (spec0_3.stage ((cfgA m hT).slots t (3 : Fin 6))) fullShare ((dats m hT 0 c).before (3 : Fin 6) t d))
        ∗ (∃ d, owns (c : Thread nD τ) (spec0_4.stage ((cfgA m hT).slots t (4 : Fin 6))) fullShare ((dats m hT 0 c).before (4 : Fin 6) t d))
        ∗ (∃ d, owns (c : Thread nD τ) (spec0_5.stage ((cfgA m hT).slots t (5 : Fin 6))) fullShare ((dats m hT 0 c).before (5 : Fin 6) t d)))
      ⊢ wp frame (wpE (defs₀ (F := F)) Variants.none c none) Set.univ
          (cc0_moe_experts ((cfgA m hT).grid.coords t) tabE (Memref.isWhole_whole _) tabN (Memref.isWhole_whole _)
            (spec0_0.stage ((cfgA m hT).slots t (0 : Fin 6))) (hstage0_0 (((cfgA m hT).slots t (0 : Fin 6)).cast nbuf0_0))
            (spec0_1.stage ((cfgA m hT).slots t (1 : Fin 6))) (hstage0_1 (((cfgA m hT).slots t (1 : Fin 6)).cast nbuf0_1))
            (spec0_2.stage ((cfgA m hT).slots t (2 : Fin 6))) (hstage0_2 (((cfgA m hT).slots t (2 : Fin 6)).cast nbuf0_2))
            (spec0_3.stage ((cfgA m hT).slots t (3 : Fin 6))) (hstage0_3 (((cfgA m hT).slots t (3 : Fin 6)).cast nbuf0_3))
            (spec0_4.stage ((cfgA m hT).slots t (4 : Fin 6))) (hstage0_4 (((cfgA m hT).slots t (4 : Fin 6)).cast nbuf0_4))
            (spec0_5.stage ((cfgA m hT).slots t (5 : Fin 6))) (hstage0_5 (((cfgA m hT).slots t (5 : Fin 6)).cast nbuf0_5))) fun _ =>
          iprop((dats m hT 0 c).Φ t.succ ∗ (dats m hT 0 c).owesAt () t.succ
            ∗ bigSep Finset.univ fun w : Fin (cfgA m hT).W =>
                match (cfgA m hT).idle w ((cfgA m hT).grid.coords t) with
                | true =>
                  match ((cfgA m hT).win w).flush t with
                  | false => iprop(∃ d, owns (c : Thread nD τ) (((cfgA m hT).win w).stage ((cfgA m hT).slots t w)) fullShare ((dats m hT 0 c).before w t d))
                  | true => owns (c : Thread nD τ) (((cfgA m hT).win w).stage ((cfgA m hT).slots t w)) fullShare ((dats m hT 0 c).after w t)
                | false => owns (c : Thread nD τ) (((cfgA m hT).win w).stage ((cfgA m hT).slots t w)) fullShare ((dats m hT 0 c).after w t)) := by
  rw [bigSep_W0]
  rewrite [idle_5]
  simp only [before_0, before_1, before_2, before_3, before_4, after_0, after_1, after_2, after_3, after_4, after_5]
  rewrite [show (dats m hT 0 c).Φ t.succ = iprop(Pipeline.ΦA spec0 c ∗ Pipeline.ΦT pre0 (adm m hT).1 c) from rfl,
    show (dats m hT 0 c).Φ t.castSucc = iprop(Pipeline.ΦA spec0 c ∗ Pipeline.ΦT pre0 (adm m hT).1 c) from rfl,
    show (dats m hT 0 c).owesAt () t.succ = (dats m hT 0 c).owesAt () t.castSucc from rfl, tables_eq]
  iintro ⟨⟨HA, HT0, HT1⟩, Ho, ⟨%d0, H0⟩, ⟨%d1, H1⟩, ⟨%d2, H2⟩, ⟨%d3, H3⟩, ⟨%d4, H4⟩, ⟨%d5, H5⟩⟩
  by_cases hu : (((cfgA m hT).grid.coords t 0).val : ℤ) < (used (T1 m)).toInt
  · have h1 : k0_cond1 ((cfgA m hT).grid.coords t) (word (T1 m)) = 1#1 := by rw [word_eq]; exact (cond1_iff _ _).mpr hu
    have h2 : ¬ k0_cond2 ((cfgA m hT).grid.coords t) (word (T1 m)) = 1#1 := by rw [word_eq]; exact fun h => (cond2_iff _ _).mp h hu
    have ho : out m hT c t = stored (mlp (iblk m hT c 0 t) (iblk m hT c 1 t) (iblk m hT c 2 t) (iblk m hT c 3 t) (iblk m hT c 4 t)) := if_pos hu
    rw [ho]
    iapply (body_used c ((cfgA m hT).grid.coords t) _ _ _ _ _ _ _ _ _ _ _ _ (T0 m) (T1 m) (iblk m hT c 0 t) (iblk m hT c 1 t) (iblk m hT c 2 t) (iblk m hT c 3 t) (iblk m hT c 4 t) h1 h2 _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexists _; iexact H5
    iintro ⟨H0, H1, H2, H3, H4, HT0, HT1, H5⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · have h1 : ¬ k0_cond1 ((cfgA m hT).grid.coords t) (word (T1 m)) = 1#1 := by rw [word_eq]; exact fun h => hu ((cond1_iff _ _).mp h)
    have h2 : k0_cond2 ((cfgA m hT).grid.coords t) (word (T1 m)) = 1#1 := by rw [word_eq]; exact (cond2_iff _ _).mpr hu
    have ho : out m hT c t = stored (k0_pay1 (F := F)) := if_neg hu
    rw [ho]
    iapply (body_free c ((cfgA m hT).grid.coords t) _ _ _ _ _ _ _ _ _ _ _ _ (T0 m) (T1 m) (iblk m hT c 0 t) (iblk m hT c 1 t) (iblk m hT c 2 t) (iblk m hT c 3 t) (iblk m hT c 4 t) h1 h2 _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexists _; iexact H5
    iintro ⟨H0, H1, H2, H3, H4, HT0, HT1, H5⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dats m hT 0 c) (defs₀ (F := F)) Variants.none () Set.univ := fun t => by
  rw [bigSep_W0]
  exact sound_body m hT c t

theorem share_eq (c : Dev nD) (w : Fin (cfgA m hT).W) : (dats m hT 0 c).share w = fullShare := by unfold Dat.share; split <;> rfl

theorem V_tables (c : Dev nD) (k : Fin 2) : V m c (pre0.ref k) = (adm m hT).1 k := by
  obtain rfl : c = 0 := Subsingleton.elim _ _
  match k with
  | ⟨0, _⟩ => exact V_arg0 m 0
  | ⟨1, _⟩ => exact V_arg1 m 0

/-- What the run ends at: the windows' arrays, every other buffer as the grid found it, the counters at zero. -/
theorem run (ρ : Dev nD → PrngReg) : θ_run (defs (F := F)) (onTc (τ := τ) (main (F := F))) (s₀ m ρ)
    (fun r => Pipeline.FramePost (Pipeline.pin pcfgs fun _ => adm m hT) (dats m hT) 0 (V m) r ∧ r.2.sem = fun _ => 0) :=
  Pipeline.θ_run_frameP pcfgs (fun _ => adm m hT) (dats m hT) 0 launch0 defs₀ Variants.none m ρ main
    (hbody := fun c => (body_obligation m hT c).loose) (hshare := share_eq m hT) (howed := fun _ _ => rfl)
    (V := V m) (hmain := hmain m Variants.none) (hA := A_eq m hT) (hpf := V_tables m hT) (hΦ := fun _ _ => rfl)
    (Q' := _) (hQ' := fun _ h => h)

/-- A buffer of the whole memory that is no window's array is among the rest. -/
theorem rest (b : Ref sig .tc) (hb : b.isScoped = false) (h : ∀ w, (spec0 w).arr.view.ref ≠ b) : b ∈ Pipeline.restRefs sig spec0 :=
  Pipeline.mem_restRefs_of b hb h

/-- The argument arrays end as they were, the counters at zero, and the result's array at the blocks stored. -/
theorem run_args (ρ : Dev nD → PrngReg) : θ_run (defs (F := F)) (onTc (τ := τ) (main (F := F))) (s₀ m ρ) (fun r =>
    (∀ c : Dev nD, r.2.mem ((c.tc : Thread nD τ).loc main_v11) = (dats m hT 0 c).arrAt (5 : Fin 6) (cfgA m hT).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r h => ⟨fun c => ⟨(h.1 c).1 (5 : Fin 6),
    ((h.1 c).2 main_arg0 (rest main_arg0 (by decide) (by decide))).trans (V_arg0 m c),
    ((h.1 c).2 main_arg1 (rest main_arg1 (by decide) (by decide))).trans (V_arg1 m c),
    ((h.1 c).1 (0 : Fin 6)).trans (((dats m hT 0 c).arrAt_in (0 : Fin 6) rfl _).trans ((A_eq m hT c (0 : Fin 6)).trans (V_arg2 m c))),
    ((h.1 c).2 main_arg3 (rest main_arg3 (by decide) (by decide))).trans (V_arg3 m c),
    ((h.1 c).2 main_arg4 (rest main_arg4 (by decide) (by decide))).trans (V_arg4 m c),
    ((h.1 c).2 main_arg5 (rest main_arg5 (by decide) (by decide))).trans (V_arg5 m c),
    ((h.1 c).2 main_arg6 (rest main_arg6 (by decide) (by decide))).trans (V_arg6 m c)⟩, h.2⟩) (run m hT ρ)

end Cert.Kernel2Ideal.Moe

end
-- ==== Proof.MoeValue.lean ====
module

public import proofs.«01_k».proof.Proof.MoeBody
public import proofs.«01_k».proof.Proof.Rows
public import Idealize.ShloMosaic.Lib.Pointwise

/-!
# The experts' kernel: what a block of rows gets

The eight groups of lanes hold the 1024 activations in another order: lane `p` holds activation
`p / 2 + 512 * (p % 2)`.  The second weights come with their rows in that order, so the product is
the plain sum over the activations.
-/

@[expose] public section

set_option maxRecDepth 16384

noncomputable section

namespace Cert.Kernel2Ideal.Moe

open Cert.Kernel2Ideal Cert.Kernel2Ideal.Gen
open Idealize.ShloMosaic

/-- An activation, from its gate `u` and its linear part `v`. -/
def act (u v : EReal) : EReal :=
  min u (Ideal.ofBits .f32 0x40E00000#32)
    * Ideal.logistic (Ideal.ofBits .f32 0x3FD9DB23#32 * min u (Ideal.ofBits .f32 0x40E00000#32))
    * (min (Ideal.ofBits .f32 0x40E00000#32) (max (Ideal.ofBits .f32 0xC0E00000#32) v) + Ideal.ofBits .f32 0x3F800000#32)

/-- The activations of a group of 128 lanes, right on the even ones. -/
def half (v : FVec Ideal S512x128 .f32) : FVec Ideal S512x128 .f32 :=
  mulf (mulf (minimumf v (broadcast S512x128 (Scalar.ofBits .f32 0x40E00000#32)))
      (logistic (mulf (broadcast S512x128 (Scalar.ofBits .f32 0x3FD9DB23#32)) (minimumf v (broadcast S512x128 (Scalar.ofBits .f32 0x40E00000#32))))))
    (dynamicRotate 1 127#32 none
      (addf (minimumf (broadcast S512x128 (Scalar.ofBits .f32 0x40E00000#32)) (maximumf (broadcast S512x128 (Scalar.ofBits .f32 0xC0E00000#32)) v))
        (broadcast S512x128 (Scalar.ofBits .f32 0x3F800000#32))) Facts₀.rotates_S512x128_d1)

/-- Even lanes from the first group, odd lanes from the second one's neighbour. -/
def pair (a b : FVec Ideal S512x128 .f32) : FVec Ideal S512x128 .f32 :=
  select (broadcastTo S512x128 (shapeCast S1x128 k0_pay3 Facts₀.shapeCasts_S1x128_S1x128) Facts₀.broadcasts_S1x128_S512x128)
    (half a) (dynamicRotate 1 1#32 none (half b) Facts₀.rotates_S512x128_d1)

/-- Group `g` of the hidden block. -/
def lanes (h : FVec Ideal S512x2048 .f32) (o : ℕ) (ho : S512x2048.Slices ![0, o] S512x128) : FVec Ideal S512x128 .f32 :=
  extractStridedSlice S512x128 ![0, o] h ho

/-- The eight groups joined. -/
def joined (h : FVec Ideal S512x2048 .f32) : FVec Ideal S512x1024 .f32 :=
  concatenate S512x1024 1 [
    ⟨S512x128, pair (lanes h 0 Facts₀.slices_S512x2048_o0_0_S512x128) (lanes h 1024 Facts₀.slices_S512x2048_o0_1024_S512x128)⟩,
    ⟨S512x128, pair (lanes h 128 Facts₀.slices_S512x2048_o0_128_S512x128) (lanes h 1152 Facts₀.slices_S512x2048_o0_1152_S512x128)⟩,
    ⟨S512x128, pair (lanes h 256 Facts₀.slices_S512x2048_o0_256_S512x128) (lanes h 1280 Facts₀.slices_S512x2048_o0_1280_S512x128)⟩,
    ⟨S512x128, pair (lanes h 384 Facts₀.slices_S512x2048_o0_384_S512x128) (lanes h 1408 Facts₀.slices_S512x2048_o0_1408_S512x128)⟩,
    ⟨S512x128, pair (lanes h 512 Facts₀.slices_S512x2048_o0_512_S512x128) (lanes h 1536 Facts₀.slices_S512x2048_o0_1536_S512x128)⟩,
    ⟨S512x128, pair (lanes h 640 Facts₀.slices_S512x2048_o0_640_S512x128) (lanes h 1664 Facts₀.slices_S512x2048_o0_1664_S512x128)⟩,
    ⟨S512x128, pair (lanes h 768 Facts₀.slices_S512x2048_o0_768_S512x128) (lanes h 1792 Facts₀.slices_S512x2048_o0_1792_S512x128)⟩,
    ⟨S512x128, pair (lanes h 896 Facts₀.slices_S512x2048_o0_896_S512x128) (lanes h 1920 Facts₀.slices_S512x2048_o0_1920_S512x128)⟩]
    Facts₀.concatenates_S512x128_S512x128_S512x128_S512x128_S512x128_S512x128_S512x128_S512x128_S512x1024_d1

/-- A group's clamped gate, and its linear part plus one. -/
def gate (v : FVec Ideal S512x128 .f32) : FVec Ideal S512x128 .f32 :=
  minimumf v (broadcast S512x128 (Scalar.ofBits .f32 0x40E00000#32))
def linear (v : FVec Ideal S512x128 .f32) : FVec Ideal S512x128 .f32 :=
  addf (minimumf (broadcast S512x128 (Scalar.ofBits .f32 0x40E00000#32)) (maximumf (broadcast S512x128 (Scalar.ofBits .f32 0xC0E00000#32)) v))
    (broadcast S512x128 (Scalar.ofBits .f32 0x3F800000#32))

theorem pay4_eq (x : Vec Ideal S512x1024 .f32) (w1 : Vec Ideal S1x1024x2048 .bf16) (b1 : Vec Ideal S1x1x2048 .f32) :
    k0_pay4 x w1 b1 = half (lanes (k0_pay2 x w1 b1) 0 Facts₀.slices_S512x2048_o0_0_S512x128) := by
  unfold k0_pay4; rfl
theorem pay6_eq (x : Vec Ideal S512x1024 .f32) (w1 : Vec Ideal S1x1024x2048 .bf16) (b1 : Vec Ideal S1x1x2048 .f32) :
    k0_pay6 x w1 b1 = gate (lanes (k0_pay2 x w1 b1) 1024 Facts₀.slices_S512x2048_o0_1024_S512x128) := by
  unfold k0_pay6 k0_pay5; rfl
theorem pay7_eq (x : Vec Ideal S512x1024 .f32) (w1 : Vec Ideal S1x1024x2048 .bf16) (b1 : Vec Ideal S1x1x2048 .f32) :
    k0_pay7 x w1 b1 = linear (lanes (k0_pay2 x w1 b1) 1024 Facts₀.slices_S512x2048_o0_1024_S512x128) := by
  unfold k0_pay7 k0_pay5; rfl
theorem pay8_eq (a b : FVec Ideal S512x128 .f32) :
    k0_pay8 k0_pay3 (half a) (gate b) (linear b) (Scalar.ofBits .f32 0x3FD9DB23#32) = pair a b := by unfold k0_pay8; rfl
variable (h : FVec Ideal S512x2048 .f32)
theorem pay9_eq : k0_pay9 h k0_pay3 =
    pair (lanes h 128 Facts₀.slices_S512x2048_o0_128_S512x128) (lanes h 1152 Facts₀.slices_S512x2048_o0_1152_S512x128) := by unfold k0_pay9; rfl
theorem pay11_eq : k0_pay11 h k0_pay3 (k0_pay10 h) =
    pair (lanes h 256 Facts₀.slices_S512x2048_o0_256_S512x128) (lanes h 1280 Facts₀.slices_S512x2048_o0_1280_S512x128) := by unfold k0_pay11 k0_pay10; rfl
theorem pay15_eq : k0_pay15 h k0_pay3 (k0_pay13 h) (k0_pay14 h) (Scalar.ofBits .f32 0x3FD9DB23#32) =
    pair (lanes h 384 Facts₀.slices_S512x2048_o0_384_S512x128) (lanes h 1408 Facts₀.slices_S512x2048_o0_1408_S512x128) := by
  unfold k0_pay15 k0_pay13 k0_pay14 k0_pay12; rfl
theorem pay19_eq : k0_pay19 k0_pay3 (k0_pay16 h) (k0_pay17 h) (k0_pay18 h) (Scalar.ofBits .f32 0xC0E00000#32) (Scalar.ofBits .f32 0x40E00000#32) =
    pair (lanes h 512 Facts₀.slices_S512x2048_o0_512_S512x128) (lanes h 1536 Facts₀.slices_S512x2048_o0_1536_S512x128) := by
  unfold k0_pay19 k0_pay16 k0_pay18 k0_pay17; rfl
theorem pay24_eq : k0_pay24 k0_pay3 (k0_pay20 h) (k0_pay22 h) (k0_pay23 h) 127#32 =
    pair (lanes h 640 Facts₀.slices_S512x2048_o0_640_S512x128) (lanes h 1664 Facts₀.slices_S512x2048_o0_1664_S512x128) := by
  unfold k0_pay24 k0_pay20 k0_pay22 k0_pay23 k0_pay21; rfl
theorem pay25_eq : k0_pay25 h k0_pay3 =
    pair (lanes h 768 Facts₀.slices_S512x2048_o0_768_S512x128) (lanes h 1792 Facts₀.slices_S512x2048_o0_1792_S512x128) := by unfold k0_pay25; rfl

/-- The second product of a block whose activations are `z`. -/
def product (z : FVec Ideal S512x1024 .f32) (w2 : FVec Ideal S1x1024x1024 .bf16) (b2 : FVec Ideal S1x1x1024 .f32) : FVec Ideal S512x1024 .f32 :=
  addf (matmul (φ₂ := .bf16) dot_S512x1024_S1024x1024_S512x1024_1_0_0_1_n_n none (truncf .bf16 z Facts₀.bitsLt_bf16_f32)
      (shapeCast S1024x1024 w2 Facts₀.shapeCasts_S1x1024x1024_S1024x1024) (constant S512x1024 .f32 0x00000000#32))
    (broadcastTo S512x1024 (shapeCast S1x1024 b2 Facts₀.shapeCasts_S1x1x1024_S1x1024) Facts₀.broadcasts_S1x1024_S512x1024)

theorem pay28_eq (c0 c1 c2 c3 c4 c5 c6 : FVec Ideal S512x128 .f32) (w2 : FVec Ideal S1x1024x1024 .bf16) (b2 : FVec Ideal S1x1x1024 .f32) :
    k0_pay28 h k0_pay3 c0 c1 c2 c3 c4 c5 c6 (k0_pay26 h) (k0_pay27 h) (Scalar.ofBits .f32 0xC0E00000#32) (Scalar.ofBits .f32 0x40E00000#32) w2 b2
      = product (concatenate S512x1024 1 [⟨S512x128, c0⟩, ⟨S512x128, c1⟩, ⟨S512x128, c2⟩, ⟨S512x128, c3⟩, ⟨S512x128, c4⟩, ⟨S512x128, c5⟩, ⟨S512x128, c6⟩,
          ⟨S512x128, pair (lanes h 896 Facts₀.slices_S512x2048_o0_896_S512x128) (lanes h 1920 Facts₀.slices_S512x2048_o0_1920_S512x128)⟩]
          Facts₀.concatenates_S512x128_S512x128_S512x128_S512x128_S512x128_S512x128_S512x128_S512x128_S512x1024_d1) w2 b2 := by
  unfold k0_pay28 k0_pay27 k0_pay26; rfl

/-- The block's rows, as the body computes them, in these terms. -/
theorem mlp_eq (x : Vec Ideal S512x1024 .f32) (w1 : Vec Ideal S1x1024x2048 .bf16) (b1 : Vec Ideal S1x1x2048 .f32)
    (w2 : Vec Ideal S1x1024x1024 .bf16) (b2 : Vec Ideal S1x1x1024 .f32) :
    mlp (F := Ideal) x w1 b1 w2 b2 = product (joined (k0_pay2 x w1 b1)) w2 b2 := by
  have ex : View.ld x rX = x := View.ld_unit_zero (by funext a; match a with | ⟨0, _⟩ => rfl | ⟨1, _⟩ => rfl) _ x
  have ew1 : View.ld w1 rW1 = w1 := View.ld_unit_zero (by funext a; match a with | ⟨0, _⟩ => rfl | ⟨1, _⟩ => rfl | ⟨2, _⟩ => rfl) _ w1
  have eb1 : View.ld b1 rB1 = b1 := View.ld_unit_zero (by funext a; match a with | ⟨0, _⟩ => rfl | ⟨1, _⟩ => rfl | ⟨2, _⟩ => rfl) _ b1
  have ew2 : View.ld w2 rW2 = w2 := View.ld_unit_zero (by funext a; match a with | ⟨0, _⟩ => rfl | ⟨1, _⟩ => rfl | ⟨2, _⟩ => rfl) _ w2
  have eb2 : View.ld b2 rB2 = b2 := View.ld_unit_zero (by funext a; match a with | ⟨0, _⟩ => rfl | ⟨1, _⟩ => rfl | ⟨2, _⟩ => rfl) _ b2
  unfold mlp second
  rw [ex, ew1, eb1, ew2, eb2, pay4_eq, pay6_eq, pay7_eq, pay8_eq, pay9_eq, pay11_eq, pay15_eq, pay19_eq, pay24_eq, pay25_eq, pay28_eq]
  rfl

/-! ## At an index -/

/-- A turn by 127 of 128 lanes reads the next lane. -/
theorem turn_next (y : FVec Ideal S512x128 .f32) (r : Fin 512) (l : Fin 128) (hl : l.val + 1 < 128) :
    dynamicRotate 1 127#32 none y Facts₀.rotates_S512x128_d1 (ix2 r l) = y (ix2 r ⟨l.val + 1, hl⟩) := by
  rw [Pointwise.dynamicRotate_apply]
  refine congrArg y (funext fun b => Fin.ext ?_)
  match b with
  | ⟨0, _⟩ => rfl
  | ⟨1, _⟩ =>
    show (l.val + 128 - 127) % 128 = l.val + 1
    omega

/-- A turn by one lane reads the lane before. -/
theorem turn_prev (y : FVec Ideal S512x128 .f32) (r : Fin 512) (l : Fin 128) (hl : 1 ≤ l.val) :
    dynamicRotate 1 1#32 none y Facts₀.rotates_S512x128_d1 (ix2 r l) = y (ix2 r ⟨l.val - 1, by omega⟩) := by
  rw [Pointwise.dynamicRotate_apply]
  refine congrArg y (funext fun b => Fin.ext ?_)
  match b with
  | ⟨0, _⟩ => rfl
  | ⟨1, _⟩ =>
    show (l.val + 128 - 1) % 128 = l.val - 1
    omega

theorem half_apply (v : FVec Ideal S512x128 .f32) (r : Fin 512) (l : Fin 128) (hl : l.val + 1 < 128) :
    half v (ix2 r l) = act (v (ix2 r l)) (v (ix2 r ⟨l.val + 1, hl⟩)) := by
  have e := turn_next (linear v) r l hl
  unfold half
  rw [ValueIdx.mulf_apply]
  refine (congrArg (FloatOps.mulf _) e).trans ?_
  rfl

/-- The mask is one on the even lanes. -/
theorem mask_apply (r : Fin 512) (l : Fin 128) :
    broadcastTo S512x128 (shapeCast S1x128 k0_pay3 Facts₀.shapeCasts_S1x128_S1x128) Facts₀.broadcasts_S1x128_S512x128 (ix2 r l)
      = BitVec.ofBool (decide (l.val % 2 = 0)) := by
  have e : broadcastTo S512x128 (shapeCast S1x128 k0_pay3 Facts₀.shapeCasts_S1x128_S1x128) Facts₀.broadcasts_S1x128_S512x128 (ix2 r l)
      = k0_pay3 (ix2 (0 : Fin 1) l) := by
    pointwise
  rw [e]
  have e2 : k0_pay3 (ix2 (0 : Fin 1) l) = IntOp.cmpi .eq (IntOp.andi (BitVec.ofNat 32 l.val) 1#32) 0#32 := by
    unfold k0_pay3
    pointwise
  rw [e2]
  have key : ∀ l : Fin 128, IntOp.cmpi .eq (IntOp.andi (BitVec.ofNat 32 l.val) 1#32) 0#32 = BitVec.ofBool (decide (l.val % 2 = 0)) := by decide
  exact key l

theorem pair_even (a b : FVec Ideal S512x128 .f32) (r : Fin 512) (l : Fin 128) (hl : l.val % 2 = 0) :
    pair a b (ix2 r l) = act (a (ix2 r l)) (a (ix2 r ⟨l.val + 1, by omega⟩)) := by
  unfold pair
  rw [ValueIdx.select_apply, mask_apply, decide_eq_true hl]
  exact half_apply a r l (by omega)

theorem pair_odd (a b : FVec Ideal S512x128 .f32) (r : Fin 512) (l : Fin 128) (hl : l.val % 2 = 1) :
    pair a b (ix2 r l) = act (b (ix2 r ⟨l.val - 1, by omega⟩)) (b (ix2 r l)) := by
  unfold pair
  rw [ValueIdx.select_apply, mask_apply, decide_eq_false (by omega)]
  refine (turn_prev (half b) r l (by omega)).trans ((half_apply b r ⟨l.val - 1, by omega⟩ (by show l.val - 1 + 1 < 128; omega)).trans ?_)
  congr 3
  apply Fin.ext
  show l.val - 1 + 1 = l.val
  omega

theorem lanes_apply (o : ℕ) (ho : S512x2048.Slices ![0, o] S512x128) (r : Fin 512) (l : Fin 128) (hl : o + l.val < 2048) :
    lanes h o ho (ix2 r l) = h (ix2 r ⟨o + l.val, hl⟩) := by
  unfold lanes extractStridedSlice
  refine congrArg h (funext fun b => Fin.ext ?_)
  match b with
  | ⟨0, _⟩ => show 0 + r.val = r.val; omega
  | ⟨1, _⟩ => rfl

/-- The activation that lane `p` holds. -/
def src (p : ℕ) : ℕ := p / 2 + 512 * (p % 2)
theorem src_lt (p : Fin 1024) : src p.val < 1024 := by unfold src; omega

/-- Activation `k` of row `r` of the hidden block. -/
def acts (r : Fin 512) (k : Fin 1024) : EReal :=
  act (h (ix2 r ⟨2 * k.val, by omega⟩)) (h (ix2 r ⟨2 * k.val + 1, by omega⟩))

theorem acts_of (r : Fin 512) (k : Fin 1024) (f g : Fin 2048) (hf : f.val = 2 * k.val) (hg : g.val = 2 * k.val + 1) :
    acts h r k = act (h (ix2 r f)) (h (ix2 r g)) := by
  have e1 : f = ⟨2 * k.val, by omega⟩ := Fin.ext hf
  have e2 : g = ⟨2 * k.val + 1, by omega⟩ := Fin.ext hg
  rw [e1, e2]; rfl

theorem group_apply (o : ℕ) (ho : S512x2048.Slices ![0, o] S512x128) (ho' : S512x2048.Slices ![0, o + 1024] S512x128)
    (h2 : o % 2 = 0) (r : Fin 512) (l : Fin 128) (p : Fin 1024) (hp : p.val = o + l.val) :
    pair (lanes h o ho) (lanes h (o + 1024) ho') (ix2 r l) = acts h r ⟨src p.val, src_lt p⟩ := by
  have hp' := p.isLt
  rcases Nat.mod_two_eq_zero_or_one l.val with hl | hl
  · rw [pair_even _ _ r l hl, lanes_apply h o ho r l (by omega), lanes_apply h o ho r ⟨l.val + 1, by omega⟩ (by show o + (l.val + 1) < 2048; omega)]
    refine (acts_of h r _ _ _ ?_ ?_).symm
    · show o + l.val = 2 * src p.val
      unfold src; omega
    · show o + (l.val + 1) = 2 * src p.val + 1
      unfold src; omega
  · rw [pair_odd _ _ r l hl, lanes_apply h (o + 1024) ho' r ⟨l.val - 1, by omega⟩ (by show o + 1024 + (l.val - 1) < 2048; omega),
      lanes_apply h (o + 1024) ho' r l (by omega)]
    refine (acts_of h r _ _ _ ?_ ?_).symm
    · show o + 1024 + (l.val - 1) = 2 * src p.val
      unfold src; omega
    · show o + 1024 + l.val = 2 * src p.val + 1
      unfold src; omega

theorem piece (o : ℕ) (ho : S512x2048.Slices ![0, o] S512x128) (ho' : S512x2048.Slices ![0, o + 1024] S512x128)
    (h2 : o % 2 = 0) (r : Fin 512) (y : S512x128.Idx) (p : Fin 1024) (e0 : (y 0).val = r.val) (e1 : o + (y 1).val = p.val) :
    pair (lanes h o ho) (lanes h (o + 1024) ho') y = acts h r ⟨src p.val, src_lt p⟩ := by
  have e : y = ix2 r (y 1) := (eq_ix2 y).trans (congrArg (fun a => ix2 a (y 1)) (Fin.ext e0))
  rw [e]
  exact group_apply h o ho ho' h2 r (y 1) p e1.symm

theorem joined_apply (r : Fin 512) (p : Fin 1024) : joined h (ix2 r p) = acts h r ⟨src p.val, src_lt p⟩ := by
  unfold joined
  rw [concatenate_cons_apply]
  simp only [concatenateAt_cons, concatenateAt_singleton]
  have hp := p.isLt
  split_ifs with h0 h1 h2 h3 h4 h5 h6
  · refine piece h 0 _ _ (by decide) r _ p rfl ?_
    have g0 : p.val < 128 := h0
    show 0 + (p.val) = p.val
    omega
  · refine piece h 128 _ _ (by decide) r _ p rfl ?_
    have g0 : ¬ p.val < 128 := h0
    have g1 : p.val - 128 < 128 := h1
    show 128 + (p.val - 128) = p.val
    omega
  · refine piece h 256 _ _ (by decide) r _ p rfl ?_
    have g0 : ¬ p.val < 128 := h0
    have g1 : ¬ p.val - 128 < 128 := h1
    have g2 : p.val - 128 - 128 < 128 := h2
    show 256 + (p.val - 128 - 128) = p.val
    omega
  · refine piece h 384 _ _ (by decide) r _ p rfl ?_
    have g0 : ¬ p.val < 128 := h0
    have g1 : ¬ p.val - 128 < 128 := h1
    have g2 : ¬ p.val - 128 - 128 < 128 := h2
    have g3 : p.val - 128 - 128 - 128 < 128 := h3
    show 384 + (p.val - 128 - 128 - 128) = p.val
    omega
  · refine piece h 512 _ _ (by decide) r _ p rfl ?_
    have g0 : ¬ p.val < 128 := h0
    have g1 : ¬ p.val - 128 < 128 := h1
    have g2 : ¬ p.val - 128 - 128 < 128 := h2
    have g3 : ¬ p.val - 128 - 128 - 128 < 128 := h3
    have g4 : p.val - 128 - 128 - 128 - 128 < 128 := h4
    show 512 + (p.val - 128 - 128 - 128 - 128) = p.val
    omega
  · refine piece h 640 _ _ (by decide) r _ p rfl ?_
    have g0 : ¬ p.val < 128 := h0
    have g1 : ¬ p.val - 128 < 128 := h1
    have g2 : ¬ p.val - 128 - 128 < 128 := h2
    have g3 : ¬ p.val - 128 - 128 - 128 < 128 := h3
    have g4 : ¬ p.val - 128 - 128 - 128 - 128 < 128 := h4
    have g5 : p.val - 128 - 128 - 128 - 128 - 128 < 128 := h5
    show 640 + (p.val - 128 - 128 - 128 - 128 - 128) = p.val
    omega
  · refine piece h 768 _ _ (by decide) r _ p rfl ?_
    have g0 : ¬ p.val < 128 := h0
    have g1 : ¬ p.val - 128 < 128 := h1
    have g2 : ¬ p.val - 128 - 128 < 128 := h2
    have g3 : ¬ p.val - 128 - 128 - 128 < 128 := h3
    have g4 : ¬ p.val - 128 - 128 - 128 - 128 < 128 := h4
    have g5 : ¬ p.val - 128 - 128 - 128 - 128 - 128 < 128 := h5
    have g6 : p.val - 128 - 128 - 128 - 128 - 128 - 128 < 128 := h6
    show 768 + (p.val - 128 - 128 - 128 - 128 - 128 - 128) = p.val
    omega
  · refine piece h 896 _ _ (by decide) r _ p rfl ?_
    have g0 : ¬ p.val < 128 := h0
    have g1 : ¬ p.val - 128 < 128 := h1
    have g2 : ¬ p.val - 128 - 128 < 128 := h2
    have g3 : ¬ p.val - 128 - 128 - 128 < 128 := h3
    have g4 : ¬ p.val - 128 - 128 - 128 - 128 < 128 := h4
    have g5 : ¬ p.val - 128 - 128 - 128 - 128 - 128 < 128 := h5
    have g6 : ¬ p.val - 128 - 128 - 128 - 128 - 128 - 128 < 128 := h6
    show 896 + (p.val - 128 - 128 - 128 - 128 - 128 - 128 - 128) = p.val
    omega

/-- Lanes and activations, one to one. -/
def order : Fin 1024 ≃ Fin 1024 where
  toFun p := ⟨src p.val, src_lt p⟩
  invFun k := ⟨2 * (k.val % 512) + k.val / 512, by omega⟩
  left_inv p := Fin.ext (by show 2 * (src p.val % 512) + src p.val / 512 = p.val; have := p.isLt; unfold src; omega)
  right_inv k := Fin.ext (by show src (2 * (k.val % 512) + k.val / 512) = k.val; have := k.isLt; unfold src; omega)

/-- The hidden block at an index. -/
theorem hidden_apply (x : Vec Ideal S512x1024 .f32) (w1 : Vec Ideal S1x1024x2048 .bf16) (b1 : Vec Ideal S1x1x2048 .f32) (r : Fin 512) (f : Fin 2048) :
    k0_pay2 (F := Ideal) x w1 b1 (ix2 r f)
      = (∑ d : Fin 1024, (x (ix2 r d) : EReal) * (w1 (ix3 (0 : Fin 1) d f) : EReal)) + (b1 (ix3 (0 : Fin 1) (0 : Fin 1) f) : EReal) := by
  unfold k0_pay2
  rw [ValueIdx.addf_apply]
  refine congrArg₂ (· + ·) ((Attn.plain_apply (φ₁ := .bf16) (φ₂ := .bf16) _ _ r f).trans (Finset.sum_congr rfl fun d _ => ?_)) ?_
  · refine congrArg₂ (· * ·) rfl ?_
    pointwise
  · pointwise

theorem product_apply (z : FVec Ideal S512x1024 .f32) (w2 : FVec Ideal S1x1024x1024 .bf16) (b2 : FVec Ideal S1x1x1024 .f32) (r : Fin 512) (n : Fin 1024) :
    product z w2 b2 (ix2 r n)
      = (∑ p : Fin 1024, (z (ix2 r p) : EReal) * (w2 (ix3 (0 : Fin 1) p n) : EReal)) + (b2 (ix3 (0 : Fin 1) (0 : Fin 1) n) : EReal) := by
  unfold product
  rw [ValueIdx.addf_apply]
  refine congrArg₂ (· + ·) ((Attn.plain_apply (φ₁ := .bf16) (φ₂ := .bf16) _ _ r n).trans (Finset.sum_congr rfl fun d _ => ?_)) ?_
  · refine congrArg₂ (· * ·) rfl ?_
    pointwise
  · pointwise

/-- The block's rows are the plain gated product, where the second weights' rows stand in the lanes' order. -/
theorem mlp_apply (x : Vec Ideal S512x1024 .f32) (w1 : Vec Ideal S1x1024x2048 .bf16) (b1 : Vec Ideal S1x1x2048 .f32)
    (w2 : Vec Ideal S1x1024x1024 .bf16) (b2 : Vec Ideal S1x1x1024 .f32) (v2 : Fin 1024 → Fin 1024 → EReal)
    (hw : ∀ p n, (w2 (ix3 (0 : Fin 1) p n) : EReal) = v2 (order p) n) (r : Fin 512) (n : Fin 1024) :
    mlp (F := Ideal) x w1 b1 w2 b2 (ix2 r n)
      = (∑ k : Fin 1024, acts (k0_pay2 (F := Ideal) x w1 b1) r k * v2 k n) + (b2 (ix3 (0 : Fin 1) (0 : Fin 1) n) : EReal) := by
  rw [mlp_eq, product_apply]
  refine congrArg (· + _) ?_
  refine Eq.trans ?_ (Equiv.sum_comp order (fun k => acts (k0_pay2 (F := Ideal) x w1 b1) r k * v2 k n))
  refine Finset.sum_congr rfl fun p _ => ?_
  rw [joined_apply, hw]
  rfl

end Cert.Kernel2Ideal.Moe

end
-- ==== Proof.MoeArray.lean ====
module

public import proofs.«01_k».proof.Proof.MoeRun
public import proofs.«01_k».proof.Proof.MoeValue

/-! # The experts' result array, read at an index

The host prefix (the casts and the reshapes, the second weights' rows in the lanes' order), the windows' blocks, and the
array the grid leaves. -/

@[expose] public section

set_option maxRecDepth 16384

noncomputable section

open scoped BigOperators

namespace Cert.Kernel2Ideal.Moe

open Cert.Kernel2Ideal Cert.Kernel2Ideal.Gen
open Idealize.ShloMosaic Idealize.ShloMosaic.TcCoe Idealize.SL.Sem
open Idealize.ShloMosaic.Pipeline (Dat Cfg Window)

/-! ## One row through one expert -/

/-- The hidden unit `f` of a row, and the row's result `n`. -/
def hid (x : Fin 1024 → EReal) (w1 : Fin 1024 → Fin 2048 → EReal) (b1 : Fin 2048 → EReal) (f : Fin 2048) : EReal :=
  (∑ d : Fin 1024, x d * w1 d f) + b1 f

def expertRow (x : Fin 1024 → EReal) (w1 : Fin 1024 → Fin 2048 → EReal) (b1 : Fin 2048 → EReal)
    (w2 : Fin 1024 → Fin 1024 → EReal) (b2 : Fin 1024 → EReal) (n : Fin 1024) : EReal :=
  (∑ k : Fin 1024, act (hid x w1 b1 ⟨2 * k.val, by have := k.isLt; omega⟩) (hid x w1 b1 ⟨2 * k.val + 1, by have := k.isLt; omega⟩) * w2 k n) + b2 n

theorem mlp_row (x : Vec Ideal S512x1024 .f32) (w1 : Vec Ideal S1x1024x2048 .bf16) (b1 : Vec Ideal S1x1x2048 .f32)
    (w2 : Vec Ideal S1x1024x1024 .bf16) (b2 : Vec Ideal S1x1x1024 .f32) (r : Fin 512)
    (vx : Fin 1024 → EReal) (v1 : Fin 1024 → Fin 2048 → EReal) (u1 : Fin 2048 → EReal) (v2 : Fin 1024 → Fin 1024 → EReal) (u2 : Fin 1024 → EReal)
    (hx : ∀ d, (x (ix2 r d) : EReal) = vx d) (h1 : ∀ d f, (w1 (ix3 (0 : Fin 1) d f) : EReal) = v1 d f)
    (hb1 : ∀ f, (b1 (ix3 (0 : Fin 1) (0 : Fin 1) f) : EReal) = u1 f)
    (h2 : ∀ p n, (w2 (ix3 (0 : Fin 1) p n) : EReal) = v2 (order p) n)
    (hb2 : ∀ n, (b2 (ix3 (0 : Fin 1) (0 : Fin 1) n) : EReal) = u2 n) (n : Fin 1024) :
    mlp (F := Ideal) x w1 b1 w2 b2 (ix2 r n) = expertRow vx v1 u1 v2 u2 n := by
  rw [mlp_apply x w1 b1 w2 b2 v2 h2 r n, hb2]
  have hh : ∀ f, k0_pay2 (F := Ideal) x w1 b1 (ix2 r f) = hid vx v1 u1 f := fun f => by
    rw [hidden_apply, hb1]
    exact congrArg (· + u1 f) (Finset.sum_congr rfl fun d _ => by rw [hx, h1])
  refine congrArg (· + u2 n) (Finset.sum_congr rfl fun k _ => ?_)
  unfold acts
  rw [hh, hh]

/-! ## The host prefix -/

theorem lay_w1 (x : FVec Ideal S1x32x1024x2048 .f32) (e : Fin 32) (d : Fin 1024) (f : Fin 2048) :
    shapeCast S32x1024x2048 x shapeCasts_S1x32x1024x2048_S32x1024x2048 (ix3 e d f) = x (ix4 (0 : Fin 1) e d f) := by
  refine shapeCast_apply x shapeCasts_S1x32x1024x2048_S32x1024x2048 _ _ ?_
  rw [Shape.rowMajor_val_four, Shape.rowMajor_val_three]
  show ((0 * 32 + e.val) * 1024 + d.val) * 2048 + f.val = (e.val * 1024 + d.val) * 2048 + f.val
  omega

theorem lay_b1 (x : FVec Ideal S1x32x2048 .f32) (e : Fin 32) (f : Fin 2048) :
    shapeCast S32x1x2048 (shapeCast S32x2048 x shapeCasts_S1x32x2048_S32x2048) shapeCasts_S32x2048_S32x1x2048 (ix3 e (0 : Fin 1) f)
      = x (ix3 (0 : Fin 1) e f) := by
  refine (shapeCast_apply _ shapeCasts_S32x2048_S32x1x2048 _ (ix2 e f) ?_).trans
    (shapeCast_apply x shapeCasts_S1x32x2048_S32x2048 _ _ ?_)
  · rw [Shape.rowMajor_val_two, Shape.rowMajor_val_three]
    show e.val * 2048 + f.val = (e.val * 1 + 0) * 2048 + f.val
    omega
  · rw [Shape.rowMajor_val_three, Shape.rowMajor_val_two]
    show (0 * 32 + e.val) * 2048 + f.val = e.val * 2048 + f.val
    omega

theorem lay_b2 (x : FVec Ideal S1x32x1024 .f32) (e : Fin 32) (n : Fin 1024) :
    shapeCast S32x1x1024 (shapeCast S32x1024 x shapeCasts_S1x32x1024_S32x1024) shapeCasts_S32x1024_S32x1x1024 (ix3 e (0 : Fin 1) n)
      = x (ix3 (0 : Fin 1) e n) := by
  refine (shapeCast_apply _ shapeCasts_S32x1024_S32x1x1024 _ (ix2 e n) ?_).trans
    (shapeCast_apply x shapeCasts_S1x32x1024_S32x1024 _ _ ?_)
  · rw [Shape.rowMajor_val_two, Shape.rowMajor_val_three]
    show e.val * 1024 + n.val = (e.val * 1 + 0) * 1024 + n.val
    omega
  · rw [Shape.rowMajor_val_three, Shape.rowMajor_val_two]
    show (0 * 32 + e.val) * 1024 + n.val = e.val * 1024 + n.val
    omega

theorem lay_w2 (x : FVec Ideal S1x32x1024x1024 .f32) (e : Fin 32) (p n : Fin 1024) :
    shapeCast S32x1024x1024 (transpose S32x512x2x1024 [0, 2, 1, 3]
        (shapeCast S32x2x512x1024 (shapeCast S32x1024x1024 x shapeCasts_S1x32x1024x1024_S32x1024x1024) shapeCasts_S32x1024x1024_S32x2x512x1024)
        transposes_S32x2x512x1024_S32x512x2x1024_0_2_1_3) shapeCasts_S32x512x2x1024_S32x1024x1024 (ix3 e p n)
      = x (ix4 (0 : Fin 1) e (order p) n) := by
  have hp := p.isLt
  refine (shapeCast_apply _ shapeCasts_S32x512x2x1024_S32x1024x1024 _
    (ix4 e (⟨p.val / 2, by omega⟩ : Fin 512) (⟨p.val % 2, Nat.mod_lt _ (by decide)⟩ : Fin 2) n) ?_).trans ?_
  · rw [Shape.rowMajor_val_four, Shape.rowMajor_val_three]
    show ((e.val * 512 + p.val / 2) * 2 + p.val % 2) * 1024 + n.val = (e.val * 1024 + p.val) * 1024 + n.val
    omega
  refine Eq.trans (b := shapeCast S32x2x512x1024 (shapeCast S32x1024x1024 x shapeCasts_S1x32x1024x1024_S32x1024x1024)
        shapeCasts_S32x1024x1024_S32x2x512x1024
        (ix4 e (⟨p.val % 2, Nat.mod_lt _ (by decide)⟩ : Fin 2) (⟨p.val / 2, by omega⟩ : Fin 512) n)) ?_ ?_
  · generalize shapeCast S32x2x512x1024 (shapeCast S32x1024x1024 x shapeCasts_S1x32x1024x1024_S32x1024x1024)
        shapeCasts_S32x1024x1024_S32x2x512x1024 = y
    refine congrArg y (funext fun a => Fin.ext ?_)
    match a with
    | ⟨0, _⟩ => rfl
    | ⟨1, _⟩ => rfl
    | ⟨2, _⟩ => rfl
    | ⟨3, _⟩ => rfl
  refine (shapeCast_apply _ shapeCasts_S32x1024x1024_S32x2x512x1024 _ (ix3 e (order p) n) ?_).trans
    (shapeCast_apply x shapeCasts_S1x32x1024x1024_S32x1024x1024 _ _ ?_)
  · rw [Shape.rowMajor_val_four, Shape.rowMajor_val_three]
    show (e.val * 1024 + src p.val) * 1024 + n.val = ((e.val * 2 + p.val % 2) * 512 + p.val / 2) * 1024 + n.val
    unfold src; omega
  · rw [Shape.rowMajor_val_four, Shape.rowMajor_val_three]
    show ((0 * 32 + e.val) * 1024 + src p.val) * 1024 + n.val = (e.val * 1024 + src p.val) * 1024 + n.val
    omega

section Memory
variable (m : (ℓ : Loc nD τ sig) → Buf (Elt Ideal) ℓ) (c : Dev nD)

/-- The weights and biases as the memory holds them. -/
abbrev argW1 : FVec Ideal S1x32x1024x2048 .f32 := m ((c : Thread nD τ).loc main_arg3)
abbrev argB1 : FVec Ideal S1x32x2048 .f32 := m ((c : Thread nD τ).loc main_arg4)
abbrev argW2 : FVec Ideal S1x32x1024x1024 .f32 := m ((c : Thread nD τ).loc main_arg5)
abbrev argB2 : FVec Ideal S1x32x1024 .f32 := m ((c : Thread nD τ).loc main_arg6)

theorem V_w1 (e : Fin 32) (d : Fin 1024) (f : Fin 2048) :
    V m c main_v1 (ix3 e d f) = argW1 m c (ix4 (0 : Fin 1) e d f) := by
  have e0 : V m c main_v1 = truncf .bf16 (shapeCast S32x1024x2048 (argW1 m c) shapeCasts_S1x32x1024x2048_S32x1024x2048) bitsLt_bf16_f32 := by
    show StableHlo.after hostOps0 (fun b => m (c, b)) (Proc.devRef .tc main_v1) = _
    after_results
    rfl
  rw [e0]
  exact lay_w1 (argW1 m c) e d f

theorem V_b1 (e : Fin 32) (f : Fin 2048) :
    V m c main_v3 (ix3 e (0 : Fin 1) f) = argB1 m c (ix3 (0 : Fin 1) e f) := by
  have e0 : V m c main_v3 = shapeCast S32x1x2048 (shapeCast S32x2048 (argB1 m c) shapeCasts_S1x32x2048_S32x2048) shapeCasts_S32x2048_S32x1x2048 := by
    show StableHlo.after hostOps0 (fun b => m (c, b)) (Proc.devRef .tc main_v3) = _
    after_results
    rfl
  rw [e0]
  exact lay_b1 (argB1 m c) e f

theorem V_w2 (e : Fin 32) (p n : Fin 1024) :
    V m c main_v8 (ix3 e p n) = argW2 m c (ix4 (0 : Fin 1) e (order p) n) := by
  have e0 : V m c main_v8 = truncf .bf16 (shapeCast S32x1024x1024 (transpose S32x512x2x1024 [0, 2, 1, 3]
        (shapeCast S32x2x512x1024 (shapeCast S32x1024x1024 (argW2 m c) shapeCasts_S1x32x1024x1024_S32x1024x1024) shapeCasts_S32x1024x1024_S32x2x512x1024)
        transposes_S32x2x512x1024_S32x512x2x1024_0_2_1_3) shapeCasts_S32x512x2x1024_S32x1024x1024) bitsLt_bf16_f32 := by
    show StableHlo.after hostOps0 (fun b => m (c, b)) (Proc.devRef .tc main_v8) = _
    after_results
    rfl
  rw [e0]
  exact lay_w2 (argW2 m c) e p n

theorem V_b2 (e : Fin 32) (n : Fin 1024) :
    V m c main_v10 (ix3 e (0 : Fin 1) n) = argB2 m c (ix3 (0 : Fin 1) e n) := by
  have e0 : V m c main_v10 = shapeCast S32x1x1024 (shapeCast S32x1024 (argB2 m c) shapeCasts_S1x32x1024_S32x1024) shapeCasts_S32x1024_S32x1x1024 := by
    show StableHlo.after hostOps0 (fun b => m (c, b)) (Proc.devRef .tc main_v10) = _
    after_results
    rfl
  rw [e0]
  exact lay_b2 (argB2 m c) e n

end Memory

/-! ## The windows' blocks -/

section Blocks
variable (m : (ℓ : Loc nD τ sig) → Buf (Elt Ideal) ℓ) (hT : Tabs (T0 m) (T1 m)) (c : Dev nD)

/-- The grid point of a block. -/
def pnt (t : Fin 160) : Fin (cfgA m hT).N := ⟨t.val, t.isLt⟩

theorem pnt_coord (t : Fin 160) : (cfgA m hT).grid.coords (pnt m hT t) 0 = t := Fin.ext (by
  have h := Pipeline.Grid.coords_val (G := grid0) (pnt m hT t) 0 (S := 1) (B := 160) (by decide) (by decide)
  have := t.isLt
  refine h.trans ?_
  show t.val / 1 % 160 = t.val
  omega)

/-- The block's expert. -/
def expertOf (t : Fin 160) : Fin 32 := ⟨(expert (T0 m) t).toNat, hT.1 _⟩

theorem index_0 (t : Fin 160) (ht : (t.val : ℤ) < (used (T1 m)).toInt) : ((cfgA m hT).win (0 : Fin 6)).index (pnt m hT t) = ![t.val, 0] := by
  show ![(Scalar.minsi (BitVec.ofNat 32 ((cfgA m hT).grid.coords (pnt m hT t) 0).val) (Scalar.subi ((pf m).at 1 _ _) 1#32)).toNat, 0] = _
  rw [at1, pnt_coord]
  have := rowBlock_used t.val t.isLt _ ht
  exact congrArg (fun a => ![a, 0]) this

theorem index_1 (t : Fin 160) : ((cfgA m hT).win (1 : Fin 6)).index (pnt m hT t) = ![(expertOf m hT t).val, 0, 0] := by
  show cc0_transform_1 k0_off1_inb numel1_S1 (pf m) ((cfgA m hT).grid.coords (pnt m hT t)) = _
  have e : expert (T0 m) ((cfgA m hT).grid.coords (pnt m hT t) 0) = expert (T0 m) t := by rw [pnt_coord]
  show _ = ![(expert (T0 m) t).toNat, 0, 0]
  rw [← e, ← at0]; rfl
theorem index_2 (t : Fin 160) : ((cfgA m hT).win (2 : Fin 6)).index (pnt m hT t) = ![(expertOf m hT t).val, 0, 0] := index_1 m hT t
theorem index_3 (t : Fin 160) : ((cfgA m hT).win (3 : Fin 6)).index (pnt m hT t) = ![(expertOf m hT t).val, 0, 0] := index_1 m hT t
theorem index_4 (t : Fin 160) : ((cfgA m hT).win (4 : Fin 6)).index (pnt m hT t) = ![(expertOf m hT t).val, 0, 0] := index_1 m hT t

theorem index_5 (t : Fin 160) : ((cfgA m hT).win (5 : Fin 6)).index (pnt m hT t) = ![t.val, 0] := by
  show ![(BitVec.ofNat 32 ((cfgA m hT).grid.coords (pnt m hT t) 0).val).toNat, 0] = _
  rw [pnt_coord, BitVec.toNat_ofNat]
  have := t.isLt
  rw [Nat.mod_eq_of_lt (by omega)]

/-- Row `r` of block `t`. -/
def row (t : Fin 160) (r : Fin 512) : Fin 81920 := ⟨t.val * 512 + r.val, by have := t.isLt; have := r.isLt; omega⟩

theorem blk_0 (t : Fin 160) (ht : (t.val : ℤ) < (used (T1 m)).toInt) (r : Fin 512) (d : Fin 1024) :
    iblk m hT c (0 : Fin 6) (pnt m hT t) (ix2 r d) = m ((c : Thread nD τ).loc main_arg2) (ix2 (row t r) d) := by
  show V m c main_arg2 ((((cfgA m hT).win (0 : Fin 6)).blk (pnt m hT t)).view.emb (ix2 r d)) = _
  rw [V_arg2]
  refine congrArg _ (funext fun a => Fin.ext ?_)
  have e := index_0 m hT t ht
  have e0 : ((cfgA m hT).win (0 : Fin 6)).index (pnt m hT t) (0 : Fin 2) = t.val := congrFun e 0
  have e1 : ((cfgA m hT).win (0 : Fin 6)).index (pnt m hT t) (1 : Fin 2) = 0 := congrFun e 1
  match a with
  | ⟨0, _⟩ => show ((cfgA m hT).win (0 : Fin 6)).index (pnt m hT t) (0 : Fin 2) * 512 + 1 * r.val = t.val * 512 + r.val; rw [e0]; omega
  | ⟨1, _⟩ => show ((cfgA m hT).win (0 : Fin 6)).index (pnt m hT t) (1 : Fin 2) * 1024 + 1 * d.val = d.val; rw [e1]; omega

theorem blk_1 (t : Fin 160) (d : Fin 1024) (f : Fin 2048) :
    iblk m hT c (1 : Fin 6) (pnt m hT t) (ix3 (0 : Fin 1) d f) = m ((c : Thread nD τ).loc main_arg3) (ix4 (0 : Fin 1) (expertOf m hT t) d f) := by
  refine Eq.trans ?_ (V_w1 m c (expertOf m hT t) d f)
  show V m c main_v1 ((((cfgA m hT).win (1 : Fin 6)).blk (pnt m hT t)).view.emb (ix3 (0 : Fin 1) d f)) = _
  refine congrArg _ (funext fun a => Fin.ext ?_)
  have e := index_1 m hT t
  have e0 : ((cfgA m hT).win (1 : Fin 6)).index (pnt m hT t) (0 : Fin 3) = (expertOf m hT t).val := congrFun e 0
  have e1 : ((cfgA m hT).win (1 : Fin 6)).index (pnt m hT t) (1 : Fin 3) = 0 := congrFun e 1
  have e2 : ((cfgA m hT).win (1 : Fin 6)).index (pnt m hT t) (2 : Fin 3) = 0 := congrFun e 2
  match a with
  | ⟨0, _⟩ => show ((cfgA m hT).win (1 : Fin 6)).index (pnt m hT t) (0 : Fin 3) * 1 + 1 * 0 = (expertOf m hT t).val; rw [e0]; omega
  | ⟨1, _⟩ => show ((cfgA m hT).win (1 : Fin 6)).index (pnt m hT t) (1 : Fin 3) * 1024 + 1 * d.val = d.val; rw [e1]; omega
  | ⟨2, _⟩ => show ((cfgA m hT).win (1 : Fin 6)).index (pnt m hT t) (2 : Fin 3) * 2048 + 1 * f.val = f.val; rw [e2]; omega

theorem blk_2 (t : Fin 160) (f : Fin 2048) :
    iblk m hT c (2 : Fin 6) (pnt m hT t) (ix3 (0 : Fin 1) (0 : Fin 1) f) = m ((c : Thread nD τ).loc main_arg4) (ix3 (0 : Fin 1) (expertOf m hT t) f) := by
  refine Eq.trans ?_ (V_b1 m c (expertOf m hT t) f)
  show V m c main_v3 ((((cfgA m hT).win (2 : Fin 6)).blk (pnt m hT t)).view.emb (ix3 (0 : Fin 1) (0 : Fin 1) f)) = _
  refine congrArg _ (funext fun a => Fin.ext ?_)
  have e := index_2 m hT t
  have e0 : ((cfgA m hT).win (2 : Fin 6)).index (pnt m hT t) (0 : Fin 3) = (expertOf m hT t).val := congrFun e 0
  have e1 : ((cfgA m hT).win (2 : Fin 6)).index (pnt m hT t) (1 : Fin 3) = 0 := congrFun e 1
  have e2 : ((cfgA m hT).win (2 : Fin 6)).index (pnt m hT t) (2 : Fin 3) = 0 := congrFun e 2
  match a with
  | ⟨0, _⟩ => show ((cfgA m hT).win (2 : Fin 6)).index (pnt m hT t) (0 : Fin 3) * 1 + 1 * 0 = (expertOf m hT t).val; rw [e0]; omega
  | ⟨1, _⟩ => show ((cfgA m hT).win (2 : Fin 6)).index (pnt m hT t) (1 : Fin 3) * 1 + 1 * 0 = 0; rw [e1]
  | ⟨2, _⟩ => show ((cfgA m hT).win (2 : Fin 6)).index (pnt m hT t) (2 : Fin 3) * 2048 + 1 * f.val = f.val; rw [e2]; omega

theorem emb_3 (t : Fin 160) (p n : Fin 1024) :
    (((cfgA m hT).win (3 : Fin 6)).blk (pnt m hT t)).view.emb (ix3 (0 : Fin 1) p n) = (ix3 (expertOf m hT t) p n) := by
  refine funext fun a => Fin.ext ?_
  have e := index_3 m hT t
  have e0 : ((cfgA m hT).win (3 : Fin 6)).index (pnt m hT t) (0 : Fin 3) = (expertOf m hT t).val := congrFun e 0
  have e1 : ((cfgA m hT).win (3 : Fin 6)).index (pnt m hT t) (1 : Fin 3) = 0 := congrFun e 1
  have e2 : ((cfgA m hT).win (3 : Fin 6)).index (pnt m hT t) (2 : Fin 3) = 0 := congrFun e 2
  match a with
  | ⟨0, _⟩ => show ((cfgA m hT).win (3 : Fin 6)).index (pnt m hT t) (0 : Fin 3) * 1 + 1 * 0 = (expertOf m hT t).val; rw [e0]; omega
  | ⟨1, _⟩ => show ((cfgA m hT).win (3 : Fin 6)).index (pnt m hT t) (1 : Fin 3) * 1024 + 1 * p.val = p.val; rw [e1]; omega
  | ⟨2, _⟩ => show ((cfgA m hT).win (3 : Fin 6)).index (pnt m hT t) (2 : Fin 3) * 1024 + 1 * n.val = n.val; rw [e2]; omega

theorem read_3 (X : FVec Ideal S32x1024x1024 .bf16) (t : Fin 160) (p n : Fin 1024) :
    (((cfgA m hT).win (3 : Fin 6)).blk (pnt m hT t)).view.read (Elt Ideal) X (ix3 (0 : Fin 1) p n) = X (ix3 (expertOf m hT t) p n) := by
  show X ((((cfgA m hT).win (3 : Fin 6)).blk (pnt m hT t)).view.emb (ix3 (0 : Fin 1) p n)) = _
  rw [emb_3]

theorem blk_3 (t : Fin 160) (p n : Fin 1024) :
    iblk m hT c (3 : Fin 6) (pnt m hT t) (ix3 (0 : Fin 1) p n) = m ((c : Thread nD τ).loc main_arg5) (ix4 (0 : Fin 1) (expertOf m hT t) (order p) n) :=
  (read_3 m hT (V m c main_v8) t p n).trans (V_w2 m c (expertOf m hT t) p n)

theorem emb_4 (t : Fin 160) (n : Fin 1024) :
    (((cfgA m hT).win (4 : Fin 6)).blk (pnt m hT t)).view.emb (ix3 (0 : Fin 1) (0 : Fin 1) n) = (ix3 (expertOf m hT t) (0 : Fin 1) n) := by
  refine funext fun a => Fin.ext ?_
  have e := index_4 m hT t
  have e0 : ((cfgA m hT).win (4 : Fin 6)).index (pnt m hT t) (0 : Fin 3) = (expertOf m hT t).val := congrFun e 0
  have e1 : ((cfgA m hT).win (4 : Fin 6)).index (pnt m hT t) (1 : Fin 3) = 0 := congrFun e 1
  have e2 : ((cfgA m hT).win (4 : Fin 6)).index (pnt m hT t) (2 : Fin 3) = 0 := congrFun e 2
  match a with
  | ⟨0, _⟩ => show ((cfgA m hT).win (4 : Fin 6)).index (pnt m hT t) (0 : Fin 3) * 1 + 1 * 0 = (expertOf m hT t).val; rw [e0]; omega
  | ⟨1, _⟩ => show ((cfgA m hT).win (4 : Fin 6)).index (pnt m hT t) (1 : Fin 3) * 1 + 1 * 0 = 0; rw [e1]
  | ⟨2, _⟩ => show ((cfgA m hT).win (4 : Fin 6)).index (pnt m hT t) (2 : Fin 3) * 1024 + 1 * n.val = n.val; rw [e2]; omega

theorem read_4 (X : FVec Ideal S32x1x1024 .f32) (t : Fin 160) (n : Fin 1024) :
    (((cfgA m hT).win (4 : Fin 6)).blk (pnt m hT t)).view.read (Elt Ideal) X (ix3 (0 : Fin 1) (0 : Fin 1) n) = X (ix3 (expertOf m hT t) (0 : Fin 1) n) := by
  show X ((((cfgA m hT).win (4 : Fin 6)).blk (pnt m hT t)).view.emb (ix3 (0 : Fin 1) (0 : Fin 1) n)) = _
  rw [emb_4]

theorem blk_4 (t : Fin 160) (n : Fin 1024) :
    iblk m hT c (4 : Fin 6) (pnt m hT t) (ix3 (0 : Fin 1) (0 : Fin 1) n) = m ((c : Thread nD τ).loc main_arg6) (ix3 (0 : Fin 1) (expertOf m hT t) n) :=
  (read_4 m hT (V m c main_v10) t n).trans (V_b2 m c (expertOf m hT t) n)

theorem emb_5 (t : Fin 160) (r : Fin 512) (n : Fin 1024) :
    (((cfgA m hT).win (5 : Fin 6)).blk (pnt m hT t)).view.emb (ix2 r n) = ix2 (row t r) n := by
  have e := index_5 m hT t
  have e0 : ((cfgA m hT).win (5 : Fin 6)).index (pnt m hT t) (0 : Fin 2) = t.val := congrFun e 0
  have e1 : ((cfgA m hT).win (5 : Fin 6)).index (pnt m hT t) (1 : Fin 2) = 0 := congrFun e 1
  funext a; apply Fin.ext
  match a with
  | ⟨0, _⟩ => show ((cfgA m hT).win (5 : Fin 6)).index (pnt m hT t) (0 : Fin 2) * 512 + 1 * r.val = t.val * 512 + r.val; rw [e0]; omega
  | ⟨1, _⟩ => show ((cfgA m hT).win (5 : Fin 6)).index (pnt m hT t) (1 : Fin 2) * 1024 + 1 * n.val = n.val; rw [e1]; omega

/-! ## What the points store, and the result's array -/

theorem stored_eq (v : Vec Ideal S512x1024 .f32) : stored (F := Ideal) v = v := by
  unfold stored
  exact View.canon_unit_zero (funext fun a => by match a with | ⟨0, _⟩ => rfl | ⟨1, _⟩ => rfl) _ _

/-- What block `t` stores at row `r`, column `n`. -/
theorem out_apply (t : Fin 160) (r : Fin 512) (n : Fin 1024) :
    out m hT c (pnt m hT t) (ix2 r n) = if (t.val : ℤ) < (used (T1 m)).toInt then
        expertRow (fun d => m ((c : Thread nD τ).loc main_arg2) (ix2 (row t r) d))
          (fun d f => m ((c : Thread nD τ).loc main_arg3) (ix4 (0 : Fin 1) (expertOf m hT t) d f))
          (fun f => m ((c : Thread nD τ).loc main_arg4) (ix3 (0 : Fin 1) (expertOf m hT t) f))
          (fun k n => m ((c : Thread nD τ).loc main_arg5) (ix4 (0 : Fin 1) (expertOf m hT t) k n))
          (fun n => m ((c : Thread nD τ).loc main_arg6) (ix3 (0 : Fin 1) (expertOf m hT t) n)) n
      else Ideal.ofBits .f32 0x00000000#32 := by
  unfold out
  have e : (((cfgA m hT).grid.coords (pnt m hT t) 0).val : ℤ) = (t.val : ℤ) := by rw [pnt_coord]
  rw [e]
  by_cases ht : (t.val : ℤ) < (used (T1 m)).toInt
  · rw [if_pos ht, if_pos ht, stored_eq]
    exact mlp_row _ _ _ _ _ r _ _ _ _ _ (fun d => blk_0 m hT c t ht r d) (fun d f => blk_1 m hT c t d f) (fun f => blk_2 m hT c t f)
      (fun p n => blk_3 m hT c t p n) (fun n => blk_4 m hT c t n) n
  · rw [if_neg ht, if_neg ht, stored_eq]
    rfl

theorem pnt_surj (t : Fin (cfgA m hT).N) : ∃ u : Fin 160, t = pnt m hT u := ⟨⟨t.val, t.isLt⟩, rfl⟩

theorem disjoint_5 (t t' : Fin (cfgA m hT).N) (_ : ((cfgA m hT).win (5 : Fin 6)).flush t = true)
    (_ : ((cfgA m hT).win (5 : Fin 6)).flush t' = true) (hn : t ≠ t') :
    Disjoint (((cfgA m hT).win (5 : Fin 6)).blk t).view.set (((cfgA m hT).win (5 : Fin 6)).blk t').view.set := by
  refine ((cfgA m hT).win (5 : Fin 6)).disjoint_blk (fun h => hn ?_) rfl
  obtain ⟨u, rfl⟩ := pnt_surj m hT t
  obtain ⟨u', rfl⟩ := pnt_surj m hT t'
  have e : u.val = u'.val := congrFun ((index_5 m hT u).symm.trans (h.trans (index_5 m hT u'))) 0
  exact congrArg (pnt m hT) (Fin.ext e)

theorem read_5 (X : FVec Ideal S81920x1024 .f32) (t : Fin 160) (r : Fin 512) (n : Fin 1024) :
    (((cfgA m hT).win (5 : Fin 6)).blk (pnt m hT t)).view.read (Elt Ideal) X (ix2 r n) = X (ix2 (row t r) n) := by
  show X ((((cfgA m hT).win (5 : Fin 6)).blk (pnt m hT t)).view.emb (ix2 r n)) = _
  rw [emb_5]

theorem blocks_5 (t : Fin 160) :
    (((cfgA m hT).win (5 : Fin 6)).blk (pnt m hT t)).view.read (Elt Ideal) ((dats m hT 0 c).arrAt (5 : Fin 6) (cfgA m hT).N)
      = (dats m hT 0 c).flushed (5 : Fin 6) (pnt m hT t) :=
  (dats m hT 0 c).read_blk_arrAt_eq_flushed (5 : Fin 6) (disjoint_5 m hT) (cfgA m hT).N (pnt m hT t) (pnt m hT t).isLt (flush_5 m hT _)

theorem flushed_5 (t : Fin 160) :
    (dats m hT 0 c).flushed (5 : Fin 6) (pnt m hT t) = ((cfgA m hT).win (5 : Fin 6)).cut ((cfgA m hT).grid.coords (pnt m hT t)) (out m hT c (pnt m hT t)) := by
  show ((cfgA m hT).win (5 : Fin 6)).cut _ ((dats m hT 0 c).after (5 : Fin 6) (pnt m hT t)) = _
  rw [after_5]

/-- The result array after the run. -/
theorem final_apply (t : Fin 160) (r : Fin 512) (n : Fin 1024) :
    (dats m hT 0 c).arrAt (5 : Fin 6) (cfgA m hT).N (ix2 (row t r) n) = out m hT c (pnt m hT t) (ix2 r n) := by
  have e := (blocks_5 m hT c t).trans (flushed_5 m hT c t)
  exact (read_5 m hT _ t r n).symm.trans (congrFun e (ix2 r n))

end Blocks

end Cert.Kernel2Ideal.Moe

end
-- ==== Proof.MoeRef.lean ====
module

public import proofs.«01_k».proof.Proof.Gen.Reference2Ideal.Read
public import proofs.«01_k».proof.Proof.MoeArray
public import Idealize.ShloMosaic.Lib.Pointwise
public import Idealize.ShloMosaic.Lib.IdealHost

/-! # The experts' reference, read at an index -/

@[expose] public section

set_option maxRecDepth 16384

noncomputable section

open scoped BigOperators

namespace Moe.Ref

open Idealize.ShloMosaic Cert.Reference2Ideal Cert.Reference2Ideal.Gen Cert.Reference2Ideal.Read Idealize.ShloMosaic.TcCoe
open Cert.Kernel2Ideal.Moe (hid expertRow act row)

/-! ## The gathers: one expert's weights per block -/

section Gather
variable {α : Type}

/-- The dimension numbers of taking whole rank-2 slices of a rank-3 array. -/
abbrev dims3 (N R A B : ℕ)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of taking rows of a rank-2 array. -/
abbrev dims2 (N R A : ℕ)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

theorem gather3 {N R A B w : ℕ} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (t : Fin R) (a : Fin A) (b : Fin B) :
    Host.gather (dims3 N R A B wf) x idx (ix3 t a b)
      = x (ix3 ⟨min (idx (ix2 t (0 : Fin 1))).toInt.toNat (N - 1), by omega⟩ a b) := by
  unfold Host.gather
  congr 1
  funext k
  refine Fin.ext ?_
  show (dims3 N R A B wf).start (ix3 t a b) idx k + (dims3 N R A B wf).batchCoord (ix3 t a b) k
      + (dims3 N R A B wf).offCoord (ix3 t a b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 N R A B wf).startIndexMap from List.mem_singleton.mpr rfl)]
    have hsi : (dims3 N R A B wf).siIdx (ix3 t a b) ⟨List.idxOf (0 : Fin 3) (dims3 N R A B wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · unfold GatherDims.start
    rw [dif_neg (show ¬ (1 : Fin 3) ∈ (dims3 N R A B wf).startIndexMap from by simp)]
    show 0 + 0 + _ = a.val
    rw [Nat.zero_add]
    rfl
  · unfold GatherDims.start
    rw [dif_neg (show ¬ (2 : Fin 3) ∈ (dims3 N R A B wf).startIndexMap from by simp)]
    show 0 + 0 + _ = b.val
    rw [Nat.zero_add]
    rfl

theorem gather2 {N R A w : ℕ} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (t : Fin R) (a : Fin A) :
    Host.gather (dims2 N R A wf) x idx (ix2 t a)
      = x (ix2 ⟨min (idx (ix2 t (0 : Fin 1))).toInt.toNat (N - 1), by omega⟩ a) := by
  unfold Host.gather
  congr 1
  funext k
  refine Fin.ext ?_
  show (dims2 N R A wf).start (ix2 t a) idx k + (dims2 N R A wf).batchCoord (ix2 t a) k
      + (dims2 N R A wf).offCoord (ix2 t a) k = _
  rw [GatherDims.batchCoord_eq_zero _ _ _ List.not_mem_nil]
  have hk : k = 0 ∨ k = 1 := by
    match k with
    | ⟨0, _⟩ => exact Or.inl rfl
    | ⟨1, _⟩ => exact Or.inr rfl
  rcases hk with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N R A wf).startIndexMap from List.mem_singleton.mpr rfl)]
    have hsi : (dims2 N R A wf).siIdx (ix2 t a) ⟨List.idxOf (0 : Fin 2) (dims2 N R A wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · unfold GatherDims.start
    rw [dif_neg (show ¬ (1 : Fin 2) ∈ (dims2 N R A wf).startIndexMap from by simp)]
    show 0 + 0 + _ = a.val
    rw [Nat.zero_add]
    rfl

end Gather

section Stages
variable (x0 : (⟨S160, .i32⟩ : BufTy).Contents (Elt Ideal)) (x1 : (⟨S1, .i32⟩ : BufTy).Contents (Elt Ideal))
  (x2 : (⟨S81920x1024, .f32⟩ : BufTy).Contents (Elt Ideal)) (x3 : (⟨S1x32x1024x2048, .f32⟩ : BufTy).Contents (Elt Ideal))
  (x4 : (⟨S1x32x2048, .f32⟩ : BufTy).Contents (Elt Ideal)) (x5 : (⟨S1x32x1024x1024, .f32⟩ : BufTy).Contents (Elt Ideal))
  (x6 : (⟨S1x32x1024, .f32⟩ : BufTy).Contents (Elt Ideal))
  (h0 : ∀ i, (x0 i : BitVec 32).toNat < 32)

/-- The block's expert. -/
def expertOf (t : Fin 160) : Fin 32 := ⟨(x0 (ix1 t) : BitVec 32).toNat, h0 _⟩

theorem clamp (v : BitVec 32) (h : v.toNat < 32) : min v.toInt.toNat 31 = v.toNat := by
  have hc := BitVec.toInt_eq_toNat_cond v
  split at hc <;> omega

/-- The gathered index is the block's expert. -/
theorem picked {A : Type} (idx : IVec ⟨2, ![160, 1]⟩ 32) (t : Fin 160) (e : idx (ix2 t (0 : Fin 1)) = x0 (ix1 t)) :
    (⟨min (idx (ix2 t (0 : Fin 1))).toInt.toNat (32 - 1), by omega⟩ : Fin 32) = expertOf x0 h0 t := by
  apply Fin.ext
  show min (idx (ix2 t (0 : Fin 1))).toInt.toNat 31 = (x0 (ix1 t) : BitVec 32).toNat
  rw [e]
  exact clamp _ (h0 _)

theorem v0_at (t : Fin 160) (r : Fin 512) (d : Fin 1024) : val_main_v0 (F := Ideal) x2 (ix3 t r d) = x2 (ix2 (row t r) d) := by
  rw [val_main_v0_apply]
  refine congrArg x2 (funext fun a => Fin.ext ?_)
  have := d.isLt
  match a with
  | ⟨0, _⟩ => show ((t.val * 512 + r.val) * 1024 + d.val) / 1024 = t.val * 512 + r.val; omega
  | ⟨1, _⟩ => show ((t.val * 512 + r.val) * 1024 + d.val) % 1024 = d.val; omega

theorem v1_at (e : Fin 32) (d : Fin 1024) (f : Fin 2048) : val_main_v1 (F := Ideal) x3 (ix3 e d f) = x3 (ix4 (0 : Fin 1) e d f) := by
  rw [val_main_v1_apply]
  refine congrArg x3 (funext fun a => Fin.ext ?_)
  have := e.isLt; have := d.isLt; have := f.isLt
  match a with
  | ⟨0, _⟩ => rfl
  | ⟨1, _⟩ => show ((e.val * 1024 + d.val) * 2048 + f.val) / 2097152 % 32 = e.val; omega
  | ⟨2, _⟩ => show ((e.val * 1024 + d.val) * 2048 + f.val) / 2048 % 1024 = d.val; omega
  | ⟨3, _⟩ => show ((e.val * 1024 + d.val) * 2048 + f.val) % 2048 = f.val; omega

theorem v4_at (e : Fin 32) (f : Fin 2048) : val_main_v4 (F := Ideal) x4 (ix2 e f) = x4 (ix3 (0 : Fin 1) e f) := by
  rw [val_main_v4_apply]
  refine congrArg x4 (funext fun a => Fin.ext ?_)
  have := e.isLt; have := f.isLt
  match a with
  | ⟨0, _⟩ => rfl
  | ⟨1, _⟩ => show (e.val * 2048 + f.val) / 2048 % 32 = e.val; omega
  | ⟨2, _⟩ => show (e.val * 2048 + f.val) % 2048 = f.val; omega

theorem v26_at (e : Fin 32) (k n : Fin 1024) : val_main_v26 (F := Ideal) x5 (ix3 e k n) = x5 (ix4 (0 : Fin 1) e k n) := by
  rw [val_main_v26_apply]
  refine congrArg x5 (funext fun a => Fin.ext ?_)
  have := e.isLt; have := k.isLt; have := n.isLt
  match a with
  | ⟨0, _⟩ => rfl
  | ⟨1, _⟩ => show ((e.val * 1024 + k.val) * 1024 + n.val) / 1048576 % 32 = e.val; omega
  | ⟨2, _⟩ => show ((e.val * 1024 + k.val) * 1024 + n.val) / 1024 % 1024 = k.val; omega
  | ⟨3, _⟩ => show ((e.val * 1024 + k.val) * 1024 + n.val) % 1024 = n.val; omega

theorem v29_at (e : Fin 32) (n : Fin 1024) : val_main_v29 (F := Ideal) x6 (ix2 e n) = x6 (ix3 (0 : Fin 1) e n) := by
  rw [val_main_v29_apply]
  refine congrArg x6 (funext fun a => Fin.ext ?_)
  have := e.isLt; have := n.isLt
  match a with
  | ⟨0, _⟩ => rfl
  | ⟨1, _⟩ => show (e.val * 1024 + n.val) / 1024 % 32 = e.val; omega
  | ⟨2, _⟩ => show (e.val * 1024 + n.val) % 1024 = n.val; omega

theorem v2_at (t : Fin 160) (d : Fin 1024) (f : Fin 2048) :
    val_main_v2 (F := Ideal) x0 x3 (ix3 t d f) = x3 (ix4 (0 : Fin 1) (expertOf x0 h0 t) d f) := by
  refine (gather3 (by decide) gather_S32x1024x2048_S160x1_S160x1024x2048_12_0_n_n_0_1_110242048.wf (val_main_v1 (F := Ideal) x3) (val_main_call0_v0 (F := Ideal) x0) t d f).trans ?_
  rw [picked (A := Unit) x0 h0 _ t ((val_main_call0_v0_apply x0 _).trans (congrArg x0 (funext fun a => by match a with | ⟨0, _⟩ => rfl)))]
  exact v1_at x3 _ d f

theorem v5_at (t : Fin 160) (f : Fin 2048) :
    val_main_v5 (F := Ideal) x0 x4 (ix2 t f) = x4 (ix3 (0 : Fin 1) (expertOf x0 h0 t) f) := by
  refine (gather2 (by decide) gather_S32x2048_S160x1_S160x2048_1_0_n_n_0_1_12048.wf (val_main_v4 (F := Ideal) x4) (val_main_call1_v0 (F := Ideal) x0) t f).trans ?_
  rw [picked (A := Unit) x0 h0 _ t ((val_main_call1_v0_apply x0 _).trans (congrArg x0 (funext fun a => by match a with | ⟨0, _⟩ => rfl)))]
  exact v4_at x4 _ f

theorem v27_at (t : Fin 160) (k n : Fin 1024) :
    val_main_v27 (F := Ideal) x0 x5 (ix3 t k n) = x5 (ix4 (0 : Fin 1) (expertOf x0 h0 t) k n) := by
  refine (gather3 (by decide) gather_S32x1024x1024_S160x1_S160x1024x1024_12_0_n_n_0_1_110241024.wf (val_main_v26 (F := Ideal) x5) (val_main_call3_v0 (F := Ideal) x0) t k n).trans ?_
  rw [picked (A := Unit) x0 h0 _ t ((val_main_call3_v0_apply x0 _).trans (congrArg x0 (funext fun a => by match a with | ⟨0, _⟩ => rfl)))]
  exact v26_at x5 _ k n

theorem v30_at (t : Fin 160) (n : Fin 1024) :
    val_main_v30 (F := Ideal) x0 x6 (ix2 t n) = x6 (ix3 (0 : Fin 1) (expertOf x0 h0 t) n) := by
  refine (gather2 (by decide) gather_S32x1024_S160x1_S160x1024_1_0_n_n_0_1_11024.wf (val_main_v29 (F := Ideal) x6) (val_main_call4_v0 (F := Ideal) x0) t n).trans ?_
  rw [picked (A := Unit) x0 h0 _ t ((val_main_call4_v0_apply x0 _).trans (congrArg x0 (funext fun a => by match a with | ⟨0, _⟩ => rfl)))]
  exact v29_at x6 _ n

/-- The hidden unit `f` of row `r` in block `t`. -/
abbrev hidAt (t : Fin 160) (r : Fin 512) : Fin 2048 → EReal :=
  hid (fun d => x2 (ix2 (row t r) d)) (fun d f => x3 (ix4 (0 : Fin 1) (expertOf x0 h0 t) d f)) (fun f => x4 (ix3 (0 : Fin 1) (expertOf x0 h0 t) f))

theorem v8_at (t : Fin 160) (r : Fin 512) (f : Fin 2048) :
    val_main_v8 (F := Ideal) x0 x2 x3 x4 (ix3 t r f) = hidAt x0 x2 x3 x4 h0 t r f := by
  rw [val_main_v8_apply]
  refine congrArg₂ (· + ·) ?_ ?_
  · rw [val_main_v3_apply]
    refine Finset.sum_congr rfl fun d _ => ?_
    refine congrArg₂ (· * ·) ((congrArg _ (eq_ix3 _)).trans (v0_at x2 t r d)) ((congrArg _ (eq_ix3 _)).trans (v2_at x0 x3 h0 t d f))
  · rw [val_main_v7_apply, val_main_v6_apply]
    exact (congrArg _ (eq_ix2 _)).trans (v5_at x0 x4 h0 t f)

theorem v9_at (t : Fin 160) (r : Fin 512) (k : Fin 1024) :
    val_main_v9 (F := Ideal) x0 x2 x3 x4 (ix3 t r k) = hidAt x0 x2 x3 x4 h0 t r ⟨2 * k.val, by have := k.isLt; omega⟩ := by
  refine Eq.trans (congrArg (val_main_v8 (F := Ideal) x0 x2 x3 x4) (funext fun a => Fin.ext ?_)) (v8_at x0 x2 x3 x4 h0 t r ⟨2 * k.val, by have := k.isLt; omega⟩)
  match a with
  | ⟨0, _⟩ => show 0 + 1 * t.val = t.val; omega
  | ⟨1, _⟩ => show 0 + 1 * r.val = r.val; omega
  | ⟨2, _⟩ => show 0 + 2 * k.val = 2 * k.val; omega

theorem v12_at (t : Fin 160) (r : Fin 512) (k : Fin 1024) :
    val_main_v12 (F := Ideal) x0 x2 x3 x4 (ix3 t r k) = hidAt x0 x2 x3 x4 h0 t r ⟨2 * k.val + 1, by have := k.isLt; omega⟩ := by
  refine Eq.trans (congrArg (val_main_v8 (F := Ideal) x0 x2 x3 x4) (funext fun a => Fin.ext ?_)) (v8_at x0 x2 x3 x4 h0 t r ⟨2 * k.val + 1, by have := k.isLt; omega⟩)
  match a with
  | ⟨0, _⟩ => show 0 + 1 * t.val = t.val; omega
  | ⟨1, _⟩ => show 0 + 1 * r.val = r.val; omega
  | ⟨2, _⟩ => show 1 + 2 * k.val = 2 * k.val + 1; omega

theorem v25_at (t : Fin 160) (r : Fin 512) (k : Fin 1024) :
    val_main_v25 (F := Ideal) x0 x2 x3 x4 (ix3 t r k)
      = act (val_main_v9 (F := Ideal) x0 x2 x3 x4 (ix3 t r k)) (val_main_v12 (F := Ideal) x0 x2 x3 x4 (ix3 t r k)) := by
  rw [val_main_v25_apply, val_main_v22_apply, val_main_v24_apply, val_main_v21_apply, val_main_v13_apply, val_main_v19_apply, val_main_v17_apply,
    val_main_v16_apply, val_main_v15_apply, val_main_v11_apply, val_main_v20_apply, val_main_v18_apply, val_main_v14_apply, val_main_v10_apply,
    val_main_v23_apply, val_main_call2_v4_apply, val_main_call2_v2_apply, val_main_call2_v1_apply]
  generalize val_main_v9 (F := Ideal) x0 x2 x3 x4 (ix3 t r k) = u
  generalize val_main_v12 (F := Ideal) x0 x2 x3 x4 (ix3 t r k) = v
  show min u (Ideal.ofBits .f32 0x40E00000#32)
      * Ideal.div (Ideal.ofBits .f32 0x3F800000#32) (Ideal.ofBits .f32 0x3F800000#32
          + Ideal.exp (-(Ideal.ofBits .f32 0x3FD9DB23#32 * min u (Ideal.ofBits .f32 0x40E00000#32))))
      * (min (Ideal.ofBits .f32 0x40E00000#32) (max (Ideal.ofBits .f32 0xC0E00000#32) v) + Ideal.ofBits .f32 0x3F800000#32) = act u v
  unfold act Ideal.logistic
  rw [Ideal.ofBits_one_f32]

theorem v33_at (t : Fin 160) (r : Fin 512) (n : Fin 1024) :
    val_main_v33 (F := Ideal) x0 x2 x3 x4 x5 x6 (ix3 t r n)
      = expertRow (fun d => x2 (ix2 (row t r) d)) (fun d f => x3 (ix4 (0 : Fin 1) (expertOf x0 h0 t) d f)) (fun f => x4 (ix3 (0 : Fin 1) (expertOf x0 h0 t) f))
          (fun k n => x5 (ix4 (0 : Fin 1) (expertOf x0 h0 t) k n)) (fun n => x6 (ix3 (0 : Fin 1) (expertOf x0 h0 t) n)) n := by
  rw [val_main_v33_apply]
  refine congrArg₂ (· + ·) ?_ ?_
  · rw [val_main_v28_apply]
    refine Finset.sum_congr rfl fun k _ => ?_
    refine congrArg₂ (· * ·) ((congrArg _ (eq_ix3 _)).trans ((v25_at x0 x2 x3 x4 t r k).trans ?_)) ((congrArg _ (eq_ix3 _)).trans (v27_at x0 x5 h0 t k n))
    rw [v9_at, v12_at]
  · rw [val_main_v32_apply, val_main_v31_apply]
    exact (congrArg _ (eq_ix2 _)).trans (v30_at x0 x6 h0 t n)

/-- The result at row `r` of block `t`. -/
theorem v40_at (t : Fin 160) (r : Fin 512) (n : Fin 1024) :
    val_main_v40 (F := Ideal) x0 x1 x2 x3 x4 x5 x6 (ix2 (row t r) n)
      = if (t.val : ℤ) < (x1 (ix1 (0 : Fin 1)) : BitVec 32).toInt then
          expertRow (fun d => x2 (ix2 (row t r) d)) (fun d f => x3 (ix4 (0 : Fin 1) (expertOf x0 h0 t) d f)) (fun f => x4 (ix3 (0 : Fin 1) (expertOf x0 h0 t) f))
            (fun k n => x5 (ix4 (0 : Fin 1) (expertOf x0 h0 t) k n)) (fun n => x6 (ix3 (0 : Fin 1) (expertOf x0 h0 t) n)) n
        else Ideal.ofBits .f32 0x00000000#32 := by
  have ei : idx_main_v40 (ix2 (row t r) n) = ix3 t r n := by
    funext a; apply Fin.ext
    have := n.isLt; have := r.isLt; have := t.isLt
    match a with
    | ⟨0, _⟩ => show ((t.val * 512 + r.val) * 1024 + n.val) / 524288 = t.val; omega
    | ⟨1, _⟩ => show ((t.val * 512 + r.val) * 1024 + n.val) / 1024 % 512 = r.val; omega
    | ⟨2, _⟩ => show ((t.val * 512 + r.val) * 1024 + n.val) % 1024 = n.val; omega
  rw [val_main_v40_apply, ei, val_main_v39_apply, v33_at x0 x2 x3 x4 x5 x6 h0 t r n, val_main_call5_v1_apply, val_main_v38_apply, val_main_v37_apply,
    val_main_v36_apply, val_main_v34_apply, val_main_call5_v2_apply]
  have e35 : ∀ j, val_main_v35 (F := Ideal) x1 j = x1 (ix1 (0 : Fin 1)) := fun j => congrArg x1 (Cert.Kernel2Ideal.Moe.idx1_eq _)
  rw [e35]
  generalize expertRow _ _ _ _ _ n = y
  show (if BitVec.ofBool ((BitVec.ofNat 32 t.val).slt (x1 (ix1 (0 : Fin 1)))) = 1#1 then y else Ideal.ofBits .f32 0x00000000#32) = _
  refine if_congr ?_ rfl rfl
  rw [← Cert.Kernel2Ideal.Moe.ofNat_toInt _ t.isLt, ← BitVec.slt_iff_toInt_lt]
  cases (BitVec.ofNat 32 t.val).slt (x1 (ix1 (0 : Fin 1))) <;> decide

end Stages

end Moe.Ref

end
-- ==== Proof.Experts.lean ====
module

public import proofs.«01_k».proof.Defs
public import proofs.«01_k».proof.Proof.MoeRun
public import proofs.«01_k».proof.Proof.KRun
public import proofs.«01_k».proof.Proof.Gen.Kernel2
public import proofs.«01_k».proof.Proof.Gen.Kernel2Ideal
public import proofs.«01_k».proof.Proof.MoeRef
public import proofs.«01_k».proof.Proof.Gen.Reference2Ideal.Run
public import proofs.«01_k».proof.Proof.Gen.Pre_tables
public import Idealize.ShloMosaic.Lib.ReduceAll
public import Idealize.ShloMosaic.Adequacy

/-! # The experts' claims -/

@[expose] public section

noncomputable section

namespace Cert.Kernel2Ideal.Moe

open Idealize.ShloMosaic Idealize.SL.Sem

/-- The precondition read back: the experts' numbers are below 32, and a block is in use. -/
theorem tabs_of {F : FTy → Type} [FloatOps F] [Cert.Pre_tables.Facts] (a0 : IVec Cert.Pre_tables.S160 32) (a1 : IVec Cert.Pre_tables.S1 32)
    (a2 : FVec F Cert.Pre_tables.S81920x1024 .f32) (a3 : FVec F Cert.Pre_tables.S1x32x1024x2048 .f32) (a4 : FVec F Cert.Pre_tables.S1x32x2048 .f32)
    (a5 : FVec F Cert.Pre_tables.S1x32x1024x1024 .f32) (a6 : FVec F Cert.Pre_tables.S1x32x1024 .f32)
    (h0 : (Cert.Pre_tables.fn (F := F) a0 a1 a2 a3 a4 a5 a6).1 = fun _ => 1#1)
    (h1 : (Cert.Pre_tables.fn (F := F) a0 a1 a2 a3 a4 a5 a6).2 = fun _ => 1#1) : Tabs a0 a1 := by
  refine ⟨fun i => ?_, fun i => ?_⟩
  · have e : IntOp.andi (IntOp.cmpi .sge (a0 i) 0#32) (IntOp.cmpi .slt (a0 i) 32#32) = 1#1 := congrFun h0 i
    obtain ⟨e1, e2⟩ := IntOp.andi_eq_one.1 e
    have l1 : (0#32).sle (a0 i) = true := by
      by_contra hn
      have : IntOp.cmpi .sge (a0 i) 0#32 = 0#1 := by
        show BitVec.ofBool ((0#32).sle (a0 i)) = 0#1
        rw [Bool.not_eq_true] at hn; rw [hn]; rfl
      rw [this] at e1; exact absurd e1 (by decide)
    have l2 : (a0 i).slt 32#32 = true := by
      by_contra hn
      have : IntOp.cmpi .slt (a0 i) 32#32 = 0#1 := by
        show BitVec.ofBool ((a0 i).slt 32#32) = 0#1
        rw [Bool.not_eq_true] at hn; rw [hn]; rfl
      rw [this] at e2; exact absurd e2 (by decide)
    rw [BitVec.sle_iff_toInt_le] at l1
    rw [BitVec.slt_iff_toInt_lt] at l2
    have z : (0#32).toInt = 0 := rfl
    have z' : (32#32).toInt = 32 := rfl
    have hc := BitVec.toInt_eq_toNat_cond (a0 i)
    have := (a0 i).isLt
    split at hc <;> omega
  · have e : IntOp.cmpi .sge (a1 i) 1#32 = 1#1 := congrFun h1 i
    have l1 : (1#32).sle (a1 i) = true := by
      by_contra hn
      have : IntOp.cmpi .sge (a1 i) 1#32 = 0#1 := by
        show BitVec.ofBool ((1#32).sle (a1 i)) = 0#1
        rw [Bool.not_eq_true] at hn; rw [hn]; rfl
      rw [this] at e; exact absurd e (by decide)
    rw [BitVec.sle_iff_toInt_le] at l1
    exact l1

theorem frame_pi : Cert.quiescent_Kernel2Ideal := fun m ρ h =>
  (θ_run Cert.Kernel2Ideal.defs _ _).mono (fun _ h => ⟨fun c => (h.1 c).2, h.2⟩)
    (run_args (F := Ideal) m (tabs_of _ _ _ _ _ _ _ (h 0).1 (h 0).2) ρ)

/-- The kernel as printed, at the machine's floats. -/
theorem frame_p : Cert.quiescent_Kernel2 := fun m ρ h =>
  (θ_run Cert.Kernel2.defs _ _).mono (fun _ h => ⟨fun c => (h.1 c).2, h.2⟩)
    (Cert.Kernel2.Moe.run_args (F := Bits) m (tabs_of _ _ _ _ _ _ _ (h 0).1 (h 0).2) ρ)

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_ri_tables : Cert.quiescent_Reference2Ideal_pre_tables := fun m ρ _ => frame_ri m ρ trivial

theorem preserves : Cert.preserves_Kernel2_Kernel2Ideal := trivial

/-- An index of the result is a row of a block, and a column. -/
theorem result_idx (i : Cert.Kernel2Ideal.S81920x1024.Idx) : ∃ (t : Fin 160) (r : Fin 512) (n : Fin 1024), i = ix2 (row t r) n := by
  have h := (i 0).isLt
  have h0 : (i 0).val < 81920 := h
  refine ⟨⟨(i 0).val / 512, by omega⟩, ⟨(i 0).val % 512, Nat.mod_lt _ (by decide)⟩, i 1, (eq_ix2 i).trans ?_⟩
  congr 1
  apply Fin.ext
  show (i 0).val = (i 0).val / 512 * 512 + (i 0).val % 512
  omega

theorem algebraic : Cert.algebraic_Kernel2Ideal_Reference2Ideal := by
  intro m g m' g' hpre hargs
  have hT : Tabs (T0 m) (T1 m) := tabs_of _ _ _ _ _ _ _ (hpre 0).1 (hpre 0).2
  refine ⟨fun c => (dats m hT 0 c).arrAt (5 : Fin 6) (cfgA m hT).N, ?_, ?_⟩
  · exact (θ_run Cert.Kernel2Ideal.defs _ _).mono (fun _ h => h.1) (run_args (F := Ideal) m hT g)
  · refine (θ_run Cert.Reference2Ideal.defs _ _).mono (fun r h c => ⟨(h c).1.trans ?_, (h c).2⟩) (Cert.Reference2Ideal.Value.run (F := Ideal) m' g')
    rw [Cert.Reference2Ideal.Read.val_main_v40_eq]
    obtain ⟨e0, e1, e2, e3, e4, e5, e6⟩ := hargs c
    rw [e0, e1, e2, e3, e4, e5, e6]
    obtain rfl : c = 0 := Subsingleton.elim _ _
    funext i
    obtain ⟨t, r, n, rfl⟩ := result_idx i
    refine (_root_.Moe.Ref.v40_at _ _ _ _ _ _ _ hT.1 t r n).trans ?_
    exact ((final_apply m hT 0 t r n).trans (out_apply m hT 0 t r n)).symm

end Cert.Kernel2Ideal.Moe

end
-- ==== Proof.Finite.lean ====
module

public import proofs.«01_k».proof.Proof.Equation
public import proofs.«01_k».proof.Proof.Gen.Pre_finite
public import Idealize.ShloMosaic.Lib.ReduceAll

/-! # What the precondition says: every entry it names is a real number -/

@[expose] public section

noncomputable section

namespace Attn

open Idealize.ShloMosaic Cert.Pre_finite

theorem inf_top : (FloatOps.ofBits (F := Ideal) .f32 0x7F800000#32) = (⊤ : EReal) := by
  show Ideal.ofBits .f32 0x7F800000#32 = ⊤
  simp [Ideal.ofBits, Ideal.ieee]

/-- An entry whose absolute value is below infinity is a real number. -/
theorem isReal_of_abs (x : EReal) (h : Ideal.cmp .olt (max x (-x)) ⊤ = 1#1) : IsReal x := by
  have h' : max x (-x) < ⊤ := by
    by_contra hn
    simp [Ideal.cmp, hn] at h
  refine isReal_of_ne (ne_of_lt (lt_of_le_of_lt (le_max_left _ _) h')) ?_
  rintro rfl
  exact absurd h' (by simp)

instance : Subsingleton S_.Idx := ⟨fun a b => funext fun i => i.elim0⟩

/-- One array's test, read back. -/
theorem all_real {s : Shape} {axes : List (Fin s.rank)} (x : FVec Ideal s .f32) (hb : S_.BroadcastsInDim s ![]) (h : s.ReducesTo axes S_)
    (hu : 0 < S_.numel) (e : Host.reduce IntOp.andi (cmpf .olt (Host.absf x) (broadcastInDim s ![] hb (constant S_ .f32 0x7F800000#32)))
      (constantI S_ 1 1#1) h hu ix0 = 1#1) (i : s.Idx) : IsReal (x i) := by
  have e' := Host.reduce_andi_all _ _ h hu ix0 e i
  refine isReal_of_abs (x i) ?_
  rw [← inf_top]
  exact e'

theorem finite_real [Cert.Pre_finite.Facts] (a0 a1 : FVec Ideal S8x2048x4x2x64 .f32) (a2 : FVec Ideal S8x2048x4x128 .f32) (a3 a4 a5 a6 : FVec Ideal S1x64 .f32)
    (a7 : FVec Ideal S1x128 .f32) (h : Cert.Pre_finite.fn (F := Ideal) a0 a1 a2 a3 a4 a5 a6 a7 ix0 = 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  unfold Cert.Pre_finite.fn Cert.Pre_finite.fn_part1 at h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨all_real a0 _ _ _ e0, all_real a1 _ _ _ e1, all_real a2 _ _ _ e2, all_real a3 _ _ _ e3, all_real a4 _ _ _ e4,
    all_real a5 _ _ _ e5, all_real a6 _ _ _ e6⟩

end Attn
-- ==== Proof.AttnClaims.lean ====
module

public import proofs.«01_k».proof.Defs
public import proofs.«01_k».proof.Proof.Finite
public import proofs.«01_k».proof.Proof.Gen.Kernel.Frame
public import proofs.«01_k».proof.Proof.Gen.KernelIdeal.Frame
public import proofs.«01_k».proof.Proof.Gen.Pre_finite
public import Idealize.ShloMosaic.Adequacy

/-! # The attention's claims -/

@[expose] public section

noncomputable section

namespace Attn

open Idealize.ShloMosaic Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

theorem preserves : Cert.preserves_Kernel_KernelIdeal :=
  IdealRules.named_const.statement Cert.KernelIdeal.κ "mask" .f32 0xF149F2CA#32 ⊥ rfl

/-- An index of the result is a batch row, a query, and a lane of a head. -/
theorem result_idx (i : Cert.KernelIdeal.S8x2048x512.Idx) : ∃ (b : Fin 8) (s : Fin 2048) (h : Fin 4) (d : Fin 128), i = ix3 b s (col h d) := by
  have h2 : (i 2).val < 512 := (i 2).isLt
  refine ⟨i 0, i 1, ⟨(i 2).val / 128, by omega⟩, ⟨(i 2).val % 128, Nat.mod_lt _ (by decide)⟩, (eq_ix3 i).trans ?_⟩
  congr 1
  apply Fin.ext
  show (i 2).val = (i 2).val / 128 * 128 + (i 2).val % 128
  omega

theorem algebraic : Cert.algebraic_KernelIdeal_ReferenceIdeal_pre_finite := by
  intro m g m' g' hpre hargs
  refine ⟨fun c => (Cert.KernelIdeal.Gen.dats m 0 c).arrAt 8 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run (F := Ideal) m' g')
    rw [Cert.ReferenceIdeal.Read.val_main_v59_eq]
    obtain ⟨e0, e1, e2, e3, e4, e5, e6, e7⟩ := hargs c
    rw [e0, e1, e2, e3, e4, e5, e6, e7]
    obtain ⟨h0, h1, h2, h3, h4, h5, h6⟩ := finite_real _ _ _ _ _ _ _ _ (congrFun (hpre c) ix0)
    funext i
    obtain ⟨b, s, h, d, rfl⟩ := result_idx i
    refine (v59_at _ _ _ _ _ _ _ _ b h s d).trans ?_
    exact ((final_apply m c b s h d).trans (value_eq _ _ _ _ _ _ _ _ h0 h1 h2 h3 h4 h5 h6 b s h d)).symm

end Attn
-- ==== Proof.lean ====
module

public import proofs.«01_k».proof.Proof.MixClaims
public import proofs.«01_k».proof.Proof.InProj
public import proofs.«01_k».proof.Proof.Experts
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.AttnClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_tables.Gen.facts,
    Attn.frame_p, Attn.frame_pi, Attn.frame_pi_finite, Attn.frame_ri, Attn.frame_ri_finite,
    Cert.Kernel2Ideal.Moe.frame_p, Cert.Kernel2Ideal.Moe.frame_pi, Cert.Kernel2Ideal.Moe.frame_ri, Cert.Kernel2Ideal.Moe.frame_ri_tables,
    InProj.frame_p, InProj.frame_pi, InProj.frame_ri,
    Mix.frame_p, Mix.frame_pi, Mix.frame_ri,
    Attn.preserves, Attn.algebraic, Cert.Kernel2Ideal.Moe.preserves, Cert.Kernel2Ideal.Moe.algebraic,
    InProj.preserves, InProj.algebraic, Mix.preserves, Mix.algebraic⟩

end Cert.Proof

end
